-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7)
      ∧ r.2.mem ((c.tc : Thread Cert.Projections.nD Cert.Projections.τ).loc Cert.Projections.main_arg8) = m ((c.tc : Thread Cert.Projections.nD Cert.Projections.τ).loc Cert.Projections.main_arg8))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "minus_log2e" .f32 0xBFB8AA3B#32 ((-((Real.log 2)⁻¹) : ℝ) : EReal)

def preserves_Projections_ProjectionsIdeal : Prop :=
  IdealRules.named_const.Statement Cert.ProjectionsIdeal.κ "minus_log2e" .f32 0xBFB8AA3B#32 ((-((Real.log 2)⁻¹) : ℝ) : EReal)
  ∧ IdealRules.named_const.Statement Cert.ProjectionsIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hProjections : Cert.Projections.Facts) (hProjectionsIdeal : Cert.ProjectionsIdeal.Facts) (hReferenceIdeal : Cert.ReferenceIdeal.Facts),
    quiescent_Kernel (hKernel := hKernel)
    ∧ quiescent_KernelIdeal (hKernelIdeal := hKernelIdeal)
    ∧ quiescent_Projections (hProjections := hProjections)
    ∧ quiescent_ProjectionsIdeal (hProjectionsIdeal := hProjectionsIdeal)
    ∧ quiescent_ReferenceIdeal (hReferenceIdeal := hReferenceIdeal)
    ∧ preserves_Kernel_KernelIdeal
    ∧ preserves_Projections_ProjectionsIdeal
    ∧ algebraic_KernelIdeal_ReferenceIdeal (hKernelIdeal := hKernelIdeal) (hReferenceIdeal := hReferenceIdeal)
-- ==== Kernel.lean ====
abbrev S16x4096x1024 : Shape := ⟨3, ![16, 4096, 1024]⟩
abbrev S16x4096x512 : Shape := ⟨3, ![16, 4096, 512]⟩
abbrev S16x512x4096 : Shape := ⟨3, ![16, 512, 4096]⟩
abbrev S16x4x32x128 : Shape := ⟨4, ![16, 4, 32, 128]⟩
abbrev S1x512 : Shape := ⟨2, ![1, 512]⟩
abbrev S512x1024 : Shape := ⟨2, ![512, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S1x4x32x128 : Shape := ⟨4, ![1, 4, 32, 128]⟩
abbrev S4x128x256 : Shape := ⟨3, ![4, 128, 256]⟩
abbrev S4x1x128 : Shape := ⟨3, ![4, 1, 128]⟩
abbrev S2x512x512 : Shape := ⟨3, ![2, 512, 512]⟩
abbrev S128x128 : Shape := ⟨2, ![128, 128]⟩
abbrev S1x128x128 : Shape := ⟨3, ![1, 128, 128]⟩
abbrev S1x1x1x128 : Shape := ⟨4, ![1, 1, 1, 128]⟩
abbrev S1x128 : Shape := ⟨2, ![1, 128]⟩
abbrev S1x1 : Shape := ⟨2, ![1, 1]⟩
abbrev S1 : Shape := ⟨1, ![1]⟩
abbrev S128x256 : Shape := ⟨2, ![128, 256]⟩
abbrev S128 : Shape := ⟨1, ![128]⟩
abbrev S128x1 : Shape := ⟨2, ![128, 1]⟩
abbrev S1x128x256 : Shape := ⟨3, ![1, 128, 256]⟩
abbrev S1x1x128 : Shape := ⟨3, ![1, 1, 128]⟩
abbrev S1x256 : Shape := ⟨2, ![1, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 37
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x1024, .bf16⟩
  | .hbm, ⟨3, _⟩ => ⟨S16x4096x1024, .bf16⟩
  | .hbm, ⟨4, _⟩ => ⟨S16x4096x512, .bf16⟩
  | .hbm, ⟨5, _⟩ => ⟨S16x512x4096, .bf16⟩
  | .hbm, ⟨6, _⟩ => ⟨S16x4096x512, .bf16⟩
  | .hbm, ⟨7, _⟩ => ⟨S16x4096x512, .bf16⟩
  | .hbm, ⟨8, _⟩ => ⟨S16x4x32x128, .f32⟩
  | .hbm, ⟨9, _⟩ => ⟨S16x4x32x128, .f32⟩
  | .hbm, ⟨10, _⟩ => ⟨S1x512, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x4x32x128, .f32⟩
  | .local _ .vmem, ⟨21, _⟩ => ⟨S1x4x32x128, .f32⟩
  | .local _ .vmem, ⟨22, _⟩ => ⟨S1x4x32x128, .f32⟩
  | .local _ .vmem, ⟨23, _⟩ => ⟨S1x4x32x128, .f32⟩
  | .local _ .vmem, ⟨24, _⟩ => ⟨S1x512, .f32⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S1x1024, .f32⟩
  | .local _ .vmem, ⟨29, _⟩ => ⟨S1024x2816, .bf16⟩
  | .local _ .vmem, ⟨30, _⟩ => ⟨S1024x2816, .bf16⟩
  | .local _ .vmem, ⟨31, _⟩ => ⟨S2816x1024, .bf16⟩
  | .local _ .vmem, ⟨32, _⟩ => ⟨S1x512x1024, .f32⟩
  | .local _ .vmem, ⟨33, _⟩ => ⟨S1x512x1024, .f32⟩
  | .local _ .vmem, ⟨34, _⟩ => ⟨S4x128x256, .f32⟩
  | .local _ .vmem, ⟨35, _⟩ => ⟨S4x1x128, .f32⟩
  | .local _ .vmem, ⟨36, _⟩ => ⟨S2x512x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v110 : Index := Scalar.indexCast v12
  let c0_123 : Index := 0#32
  let c0_124 : Index := 0#32
  ![v110.toNat, 0, 0]
def k0_off2 (i : grid0.Coords) (c0_i32_128 : BitVec 32) : Fin 4 → Nat :=
  let c0_129 : Index := 0#32
  let c0_130 : Index := 0#32
  let arg1 : BitVec 32 := BitVec.ofNat 32 (i 1).val
  let c7_i32 : BitVec 32 := 7#32
  let v0 : BitVec 1 := Scalar.cmpi .eq arg1 c7_i32
  let c0_i32_8 : BitVec 32 := 0#32
  let c1_i32_7 : BitVec 32 := 1#32
  let v19 : BitVec 32 := Scalar.addi arg1 c1_i32_7
  let v20 : BitVec 32 := Scalar.select v0 c0_i32_8 v19
  let c4_i32 : BitVec 32 := 4#32
  let v115 : BitVec 32 := Scalar.muli v20 c4_i32
  let v116 : BitVec 32 := Scalar.addi v115 c0_i32_128
  let v117 : Index := Scalar.indexCast v116
  let c0_131 : Index := 0#32
  ![0, 0, v117.toNat, 0]
def k0_off3 (i : grid0.Coords) (c0_i32_136 : BitVec 32) : Fin 4 → Nat :=
  let c0_137 : Index := 0#32
  let c1 : Index := 1#32
  let arg1 : BitVec 32 := BitVec.ofNat 32 (i 1).val
  let c7_i32 : BitVec 32 := 7#32
  let v0 : BitVec 1 := Scalar.cmpi .eq arg1 c7_i32
  let c0_i32_8 : BitVec 32 := 0#32
  let c1_i32_7 : BitVec 32 := 1#32
  let v19 : BitVec 32 := Scalar.addi arg1 c1_i32_7
  let v20 : BitVec 32 := Scalar.select v0 c0_i32_8 v19
  let c4_i32_135 : BitVec 32 := 4#32
  let v124 : BitVec 32 := Scalar.muli v20 c4_i32_135
  let v125 : BitVec 32 := Scalar.addi v124 c0_i32_136
  let v126 : Index := Scalar.indexCast v125
  let c0_138 : Index := 0#32
  ![0, 1, v126.toNat, 0]
def k0_off4 (i : grid0.Coords) (c0_i32_143 : BitVec 32) : Fin 4 → Nat :=
  let c0_144 : Index := 0#32
  let c2 : Index := 2#32
  let arg1 : BitVec 32 := BitVec.ofNat 32 (i 1).val
  let c7_i32 : BitVec 32 := 7#32
  let v0 : BitVec 1 := Scalar.cmpi .eq arg1 c7_i32
  let c0_i32_8 : BitVec 32 := 0#32
  let c1_i32_7 : BitVec 32 := 1#32
  let v19 : BitVec 32 := Scalar.addi arg1 c1_i32_7
  let v20 : BitVec 32 := Scalar.select v0 c0_i32_8 v19
  let c4_i32_142 : BitVec 32 := 4#32
  let v133 : BitVec 32 := Scalar.muli v20 c4_i32_142
  let v134 : BitVec 32 := Scalar.addi v133 c0_i32_143
  let v135 : Index := Scalar.indexCast v134
  let c0_145 : Index := 0#32
  ![0, 2, v135.toNat, 0]
def k0_off5 (i : grid0.Coords) (c0_i32_150 : BitVec 32) : Fin 4 → Nat :=
  let c0_151 : Index := 0#32
  let c3 : Index := 3#32
  let arg1 : BitVec 32 := BitVec.ofNat 32 (i 1).val
  let c7_i32 : BitVec 32 := 7#32
  let v0 : BitVec 1 := Scalar.cmpi .eq arg1 c7_i32
  let c0_i32_8 : BitVec 32 := 0#32
  let c1_i32_7 : BitVec 32 := 1#32
  let v19 : BitVec 32 := Scalar.addi arg1 c1_i32_7
  let v20 : BitVec 32 := Scalar.select v0 c0_i32_8 v19
  let c4_i32_149 : BitVec 32 := 4#32
  let v142 : BitVec 32 := Scalar.muli v20 c4_i32_149
  let v143 : BitVec 32 := Scalar.addi v142 c0_i32_150
  let v144 : Index := Scalar.indexCast v143
  let c0_152 : Index := 0#32
  ![0, 3, v144.toNat, 0]
def k0_off6 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_880 : BitVec 32 := 0#32
  let c0_i32_881 : BitVec 32 := 0#32
  ![v18.toNat, 0, 0]
def k0_off7 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_880 : BitVec 32 := 0#32
  let c0_i32_881 : BitVec 32 := 0#32
  ![v18.toNat, 0, 0]
def k0_off8 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_898 : BitVec 32 := 0#32
  ![v18.toNat, 0, 128]
def k0_off9 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_916 : BitVec 32 := 0#32
  ![v18.toNat, 0, 256]
def k0_off10 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_934 : BitVec 32 := 0#32
  ![v18.toNat, 0, 384]
def k0_off11 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_953 : BitVec 32 := 0#32
  ![v18.toNat, 128, 0]
def k0_off12 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 128, 128]
def k0_off13 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 128, 256]
def k0_off14 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 128, 384]
def k0_off15 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_1025 : BitVec 32 := 0#32
  ![v18.toNat, 256, 0]
def k0_off16 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 256, 128]
def k0_off17 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 256, 256]
def k0_off18 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 256, 384]
def k0_off19 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  let c0_i32_1097 : BitVec 32 := 0#32
  ![v18.toNat, 384, 0]
def k0_off20 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 384, 128]
def k0_off21 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 384, 256]
def k0_off22 (i : grid0.Coords) : Fin 3 → Nat :=
  let c1_i32_6 : BitVec 32 := 1#32
  let arg0 : BitVec 32 := BitVec.ofNat 32 (i 0).val
  let c8_i32 : BitVec 32 := 8#32
  let v1 : BitVec 32 := Scalar.muli arg0 c8_i32
  let arg1 : BitVec 32 := BitVec.ofNat 32 (i 1).val
  let v2 : BitVec 32 := Scalar.addi v1 arg1
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v18 : BitVec 32 := Scalar.subi c1_i32_6 v12
  ![v18.toNat, 384, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c7_i32_0 : BitVec 32 := 7#32
  let v4 : BitVec 1 := Scalar.cmpi .eq arg1 c7_i32_0
  let c1_i32_1 : BitVec 32 := 1#32
  let v5 : BitVec 32 := Scalar.addi arg1 c1_i32_1
  let c0_i32 : BitVec 32 := 0#32
  let v6 : BitVec 32 := Scalar.select v4 c0_i32 v5
  let c0_i32_2 : BitVec 32 := 0#32
  let c0_i32_3 : BitVec 32 := 0#32
  ![v3.toNat, v6.toNat, c0_i32_2.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c7_i32_0 : BitVec 32 := 7#32
  let v4 : BitVec 1 := Scalar.cmpi .eq arg1 c7_i32_0
  let c1_i32_1 : BitVec 32 := 1#32
  let v5 : BitVec 32 := Scalar.addi arg1 c1_i32_1
  let c0_i32 : BitVec 32 := 0#32
  let v6 : BitVec 32 := Scalar.select v4 c0_i32 v5
  let c0_i32_2 : BitVec 32 := 0#32
  let c0_i32_3 : BitVec 32 := 0#32
  ![v3.toNat, c0_i32_2.toNat, v6.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c7_i32_0 : BitVec 32 := 7#32
  let v4 : BitVec 1 := Scalar.cmpi .eq arg1 c7_i32_0
  let c1_i32_1 : BitVec 32 := 1#32
  let v5 : BitVec 32 := Scalar.addi arg1 c1_i32_1
  let c0_i32 : BitVec 32 := 0#32
  let v6 : BitVec 32 := Scalar.select v4 c0_i32 v5
  let c0_i32_2 : BitVec 32 := 0#32
  let c0_i32_3 : BitVec 32 := 0#32
  ![v3.toNat, v6.toNat, c0_i32_2.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c7_i32_0 : BitVec 32 := 7#32
  let v4 : BitVec 1 := Scalar.cmpi .eq arg1 c7_i32_0
  let c1_i32_1 : BitVec 32 := 1#32
  let v5 : BitVec 32 := Scalar.addi arg1 c1_i32_1
  let c0_i32 : BitVec 32 := 0#32
  let v6 : BitVec 32 := Scalar.select v4 c0_i32 v5
  let c0_i32_2 : BitVec 32 := 0#32
  let c0_i32_3 : BitVec 32 := 0#32
  ![v3.toNat, v6.toNat, c0_i32_2.toNat]

def cc0_transform_12 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x2816 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x2816 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S2816x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "minus_log2e" => some ((-((Real.log 2)⁻¹) : ℝ) : EReal)
  | _ => none
-- ==== Projections.lean ====
abbrev S16x4096x1024 : Shape := ⟨3, ![16, 4096, 1024]⟩
abbrev S1x1024 : Shape := ⟨2, ![1, 1024]⟩
abbrev S1024x5632 : Shape := ⟨2, ![1024, 5632]⟩
abbrev S16x1024 : Shape := ⟨2, ![16, 1024]⟩
abbrev S16x1 : Shape := ⟨2, ![16, 1]⟩
abbrev S1x512 : Shape := ⟨2, ![1, 512]⟩
abbrev S4x1024 : Shape := ⟨2, ![4, 1024]⟩
abbrev S16x4096x512 : Shape := ⟨3, ![16, 4096, 512]⟩
abbrev S16x512x4096 : Shape := ⟨3, ![16, 512, 4096]⟩
abbrev S16x16x4096 : Shape := ⟨3, ![16, 16, 4096]⟩
abbrev S1x512x1024 : Shape := ⟨3, ![1, 512, 1024]⟩
abbrev S1x512x512 : Shape := ⟨3, ![1, 512, 512]⟩
abbrev S1x16x512 : Shape := ⟨3, ![1, 16, 512]⟩
abbrev S520x1024 : Shape := ⟨2, ![520, 1024]⟩
abbrev S1x128 : Shape := ⟨2, ![1, 128]⟩
abbrev S8x1024 : Shape := ⟨2, ![8, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x256x512 : Shape := ⟨3, ![1, 256, 512]⟩
abbrev S1024x1024 : Shape := ⟨2, ![1024, 1024]⟩
abbrev S16x256 : Shape := ⟨2, ![16, 256]⟩
abbrev S1x16x256 : Shape := ⟨3, ![1, 16, 256]⟩
abbrev S512x256 : Shape := ⟨2, ![512, 256]⟩
abbrev S1x512x256 : Shape := ⟨3, ![1, 512, 256]⟩

abbrev nBuf : Space → Nat
  | .hbm => 19
  | .vmem => 31
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1024x5632, .bf16⟩
  | .hbm, ⟨3, _⟩ => ⟨S16x1024, .bf16⟩
  | .hbm, ⟨4, _⟩ => ⟨S16x1, .f32⟩
  | .hbm, ⟨5, _⟩ => ⟨S1x512, .f32⟩
  | .hbm, ⟨6, _⟩ => ⟨S1x512, .f32⟩
  | .hbm, ⟨7, _⟩ => ⟨S4x1024, .f32⟩
  | .hbm, ⟨8, _⟩ => ⟨S1x1024, .f32⟩
  | .hbm, ⟨9, _⟩ => ⟨S16x4096x512, .bf16⟩
  | .hbm, ⟨10, _⟩ => ⟨S16x4096x512, .bf16⟩
  | .hbm, ⟨11, _⟩ => ⟨S16x4096x512, .bf16⟩
  | .hbm, ⟨12, _⟩ => ⟨S16x4096x512, .bf16⟩
  | .hbm, ⟨13, _⟩ => ⟨S16x512x4096, .bf16⟩
  | .hbm, ⟨14, _⟩ => ⟨S16x4096x512, .bf16⟩
  | .hbm, ⟨15, _⟩ => ⟨S16x4096x512, .bf16⟩
  | .hbm, ⟨16, _⟩ => ⟨S16x4096x1024, .bf16⟩
  | .hbm, ⟨17, _⟩ => ⟨S16x4096x1024, .bf16⟩
  | .hbm, ⟨18, _⟩ => ⟨S16x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S16x1024, .bf16⟩
  | .local _ .vmem, ⟨5, _⟩ => ⟨S16x1, .f32⟩
  | .local _ .vmem, ⟨6, _⟩ => ⟨S1x512, .f32⟩
  | .local _ .vmem, ⟨7, _⟩ => ⟨S1x512, .f32⟩
  | .local _ .vmem, ⟨8, _⟩ => ⟨S4x1024, .f32⟩
  | .local _ .vmem, ⟨9, _⟩ => ⟨S1x1024, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x16x512, .f32⟩
  | .local _ .vmem, ⟨29, _⟩ => ⟨S1x16x512, .f32⟩
  | .local _ .vmem, ⟨30, _⟩ => ⟨S520x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjectionsIdeal.lean ====
variable {F : FTy → Type} [FloatOps F] [Named F]
def κ : String → Option EReal := fun
  | "log2e" => some (((Real.log 2)⁻¹ : ℝ) : EReal)
  | "minus_log2e" => some ((-((Real.log 2)⁻¹) : ℝ) : EReal)
  | _ => none
-- ==== ReferenceIdeal.lean ====
abbrev S16x4096x1024 : Shape := ⟨3, ![16, 4096, 1024]⟩
abbrev S16x4096x512 : Shape := ⟨3, ![16, 4096, 512]⟩
abbrev S16x512x4096 : Shape := ⟨3, ![16, 512, 4096]⟩
abbrev S16x4x32x128 : Shape := ⟨4, ![16, 4, 32, 128]⟩
abbrev S1x512 : Shape := ⟨2, ![1, 512]⟩
abbrev S512x1024 : Shape := ⟨2, ![512, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S16x32x128x4x128 : Shape := ⟨5, ![16, 32, 128, 4, 128]⟩
abbrev S32x16x4x128x128 : Shape := ⟨5, ![32, 16, 4, 128, 128]⟩
abbrev S16x4x128x32x128 : Shape := ⟨5, ![16, 4, 128, 32, 128]⟩
abbrev S32x16x4x128 : Shape := ⟨4, ![32, 16, 4, 128]⟩
abbrev S_ : Shape := ⟨0, ![]⟩
abbrev S128x128 : Shape := ⟨2, ![128, 128]⟩
abbrev S16x4x128x128 : Shape := ⟨4, ![16, 4, 128, 128]⟩
abbrev S16x4x128 : Shape := ⟨3, ![16, 4, 128]⟩
abbrev S16x4 : Shape := ⟨2, ![16, 4]⟩
abbrev S1x16x4x128x128 : Shape := ⟨5, ![1, 16, 4, 128, 128]⟩
abbrev S1x16x4x128 : Shape := ⟨4, ![1, 16, 4, 128]⟩
abbrev S16x4x1 : Shape := ⟨3, ![16, 4, 1]⟩
abbrev S16x4x128x1 : Shape := ⟨4, ![16, 4, 128, 1]⟩
abbrev S16x4x1x128 : Shape := ⟨4, ![16, 4, 1, 128]⟩
abbrev S16x4x1x1 : Shape := ⟨4, ![16, 4, 1, 1]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S512 : Shape := ⟨1, ![512]⟩
abbrev S1x1x512 : Shape := ⟨3, ![1, 1, 512]⟩
abbrev S16x4096 : Shape := ⟨2, ![16, 4096]⟩
abbrev S16x4096x1 : Shape := ⟨3, ![16, 4096, 1]⟩
abbrev S1024 : Shape := ⟨1, ![1024]⟩
abbrev S1x1x1024 : Shape := ⟨3, ![1, 1, 1024]⟩
abbrev S16x4096x2816 : Shape := ⟨3, ![16, 4096, 2816]⟩

abbrev nBuf : Space → Nat
  | .hbm => 248
  | .vmem => 0
  | .smem => 0
  | _ => 0

abbrev hbmTy0_0 (i : Nat) : BufTy := match i % 128 with
  | 0 => ⟨S16x4096x1024, .f32⟩
  | 1 => ⟨S16x4096x512, .bf16⟩
  | 2 => ⟨S16x4096x1024, .bf16⟩
  | 3 => ⟨S16x4096x1024, .bf16⟩
  | 4 => ⟨S16x4096x512, .bf16⟩
  | 5 => ⟨S16x512x4096, .bf16⟩
  | 6 => ⟨S16x4096x512, .bf16⟩
  | 7 => ⟨S16x4096x512, .bf16⟩
  | 8 => ⟨S16x4x32x128, .f32⟩
  | 9 => ⟨S16x4x32x128, .f32⟩
  | 10 => ⟨S1x512, .f32⟩
  | 11 => ⟨S512x1024, .bf16⟩
  | 12 => ⟨S512x1024, .bf16⟩
  | 13 => ⟨S1024x1024, .bf16⟩
  | 14 => ⟨S1x1024, .f32⟩
  | 15 => ⟨S1024x2816, .bf16⟩
  | 16 => ⟨S1024x2816, .bf16⟩
  | 17 => ⟨S2816x1024, .bf16⟩
  | 18 => ⟨S16x4096x512, .f32⟩
  | 19 => ⟨S16x32x128x4x128, .f32⟩
  | 20 => ⟨S32x16x4x128x128, .f32⟩
  | 21 => ⟨S16x512x4096, .f32⟩
  | 22 => ⟨S16x4x128x32x128, .f32⟩
  | 23 => ⟨S32x16x4x128x128, .f32⟩
  | 24 => ⟨S16x4096x512, .f32⟩
  | 25 => ⟨S16x32x128x4x128, .f32⟩
  | 26 => ⟨S32x16x4x128x128, .f32⟩
  | 27 => ⟨S32x16x4x128, .f32⟩
  | 28 => ⟨S32x16x4x128, .f32⟩
  | 29 => ⟨S_, .i1⟩
  | 30 => ⟨S128x128, .i1⟩
  | 31 => ⟨S128x128, .i32⟩
  | 32 => ⟨S_, .i32⟩
  | 33 => ⟨S128x128, .i32⟩
  | 34 => ⟨S128x128, .i32⟩
  | 35 => ⟨S128x128, .i32⟩
  | 36 => ⟨S128x128, .i1⟩
  | 37 => ⟨S_, .i1⟩
  | 38 => ⟨S128x128, .i1⟩
  | 39 => ⟨S128x128, .i1⟩
  | 40 => ⟨S_, .f32⟩
  | 41 => ⟨S16x4x128x128, .f32⟩
  | 42 => ⟨S_, .f32⟩
  | 43 => ⟨S16x4x128, .f32⟩
  | 44 => ⟨S_, .f32⟩
  | 45 => ⟨S16x4, .f32⟩
  | 46 => ⟨S_, .f32⟩
  | 47 => ⟨S32x16x4x128x128, .f32⟩
  | 48 => ⟨S_, .i32⟩
  | 49 => ⟨S32x16x4x128x128, .f32⟩
  | 50 => ⟨S32x16x4x128x128, .f32⟩
  | 51 => ⟨S32x16x4x128x128, .f32⟩
  | 52 => ⟨S32x16x4x128, .f32⟩
  | 53 => ⟨S32x16x4x128, .f32⟩
  | 54 => ⟨S128x128, .i1⟩
  | 55 => ⟨S_, .i32⟩
  | 56 => ⟨S16x4x128x128, .f32⟩
  | 57 => ⟨S16x4x128, .f32⟩
  | 58 => ⟨S16x4, .f32⟩
  | 59 => ⟨S32x16x4x128x128, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S1x16x4x128x128, .f32⟩
  | 67 => ⟨S16x4x128x128, .f32⟩
  | 68 => ⟨S_, .i32⟩
  | 69 => ⟨S_, .i32⟩
  | 70 => ⟨S_, .i32⟩
  | 71 => ⟨S_, .i32⟩
  | 72 => ⟨S1x16x4x128x128, .f32⟩
  | 73 => ⟨S16x4x128x128, .f32⟩
  | 74 => ⟨S_, .i32⟩
  | 75 => ⟨S_, .i32⟩
  | 76 => ⟨S_, .i32⟩
  | 77 => ⟨S_, .i32⟩
  | 78 => ⟨S1x16x4x128x128, .f32⟩
  | 79 => ⟨S16x4x128x128, .f32⟩
  | 80 => ⟨S_, .i32⟩
  | 81 => ⟨S_, .i32⟩
  | 82 => ⟨S_, .i32⟩
  | 83 => ⟨S1x16x4x128, .f32⟩
  | 84 => ⟨S16x4x128, .f32⟩
  | 85 => ⟨S_, .i32⟩
  | 86 => ⟨S_, .i32⟩
  | 87 => ⟨S_, .i32⟩
  | 88 => ⟨S1x16x4x128, .f32⟩
  | 89 => ⟨S16x4x128, .f32⟩
  | 90 => ⟨S16x4x1, .f32⟩
  | 91 => ⟨S16x4x128, .f32⟩
  | 92 => ⟨S16x4x128, .f32⟩
  | 93 => ⟨S16x4x128x1, .f32⟩
  | 94 => ⟨S16x4x1x128, .f32⟩
  | 95 => ⟨S16x4x128x128, .f32⟩
  | 96 => ⟨S16x4x128x128, .f32⟩
  | 97 => ⟨S16x4x128x128, .f32⟩
  | 98 => ⟨S16x4x1x128, .f32⟩
  | 99 => ⟨S16x4x128x128, .f32⟩
  | 100 => ⟨S16x4x128x128, .f32⟩
  | 101 => ⟨S_, .f32⟩
  | 102 => ⟨S_, .f32⟩
  | 103 => ⟨S16x4x128x128, .i1⟩
  | 104 => ⟨S16x4x128x128, .f32⟩
  | 105 => ⟨S16x4x128x128, .f32⟩
  | 106 => ⟨S_, .f32⟩
  | 107 => ⟨S16x4x128, .f32⟩
  | 108 => ⟨S16x4x128, .f32⟩
  | 109 => ⟨S16x4x128, .f32⟩
  | 110 => ⟨S16x4x128, .f32⟩
  | 111 => ⟨S16x4x128x1, .f32⟩
  | 112 => ⟨S16x4x128x128, .f32⟩
  | 113 => ⟨S16x4x128x128, .f32⟩
  | 114 => ⟨S16x4x128x128, .f32⟩
  | 115 => ⟨S16x4x128x128, .f32⟩
  | 116 => ⟨S16x4x128x128, .f32⟩
  | 117 => ⟨S16x4x128x1, .f32⟩
  | 118 => ⟨S16x4x128x128, .f32⟩
  | 119 => ⟨S16x4x128x128, .f32⟩
  | 120 => ⟨S16x4x128x128, .f32⟩
  | 121 => ⟨S16x4x128x128, .f32⟩
  | 122 => ⟨S16x4x128x128, .f32⟩
  | 123 => ⟨S16x4x128, .f32⟩
  | 124 => ⟨S16x4x128, .f32⟩
  | 125 => ⟨S_, .f32⟩
  | 126 => ⟨S16x4x128, .f32⟩
  | 127 => ⟨S16x4x128, .f32⟩
  | _ => ⟨S16x4096x1024, .f32⟩

abbrev hbmTy0_1 (i : Nat) : BufTy := match i % 128 with
  | 0 => ⟨S16x4x128, .f32⟩
  | 1 => ⟨S16x4x128, .f32⟩
  | 2 => ⟨S16x4x128, .f32⟩
  | 3 => ⟨S16x4x128, .f32⟩
  | 4 => ⟨S16x4x128x1, .f32⟩
  | 5 => ⟨S16x4x128x128, .f32⟩
  | 6 => ⟨S16x4x128x128, .f32⟩
  | 7 => ⟨S16x4x1, .f32⟩
  | 8 => ⟨S16x4, .f32⟩
  | 9 => ⟨S16x4x1, .f32⟩
  | 10 => ⟨S16x4x128, .f32⟩
  | 11 => ⟨S16x4x128, .f32⟩
  | 12 => ⟨S16x4x128, .f32⟩
  | 13 => ⟨S16x4x1, .f32⟩
  | 14 => ⟨S16x4x128, .f32⟩
  | 15 => ⟨S16x4x128, .f32⟩
  | 16 => ⟨S16x4x128, .f32⟩
  | 17 => ⟨S16x4x1, .f32⟩
  | 18 => ⟨S16x4, .f32⟩
  | 19 => ⟨S16x4, .f32⟩
  | 20 => ⟨S16x4, .f32⟩
  | 21 => ⟨S16x4, .f32⟩
  | 22 => ⟨S16x4x1x1, .f32⟩
  | 23 => ⟨S16x4x128x128, .f32⟩
  | 24 => ⟨S16x4x128x128, .f32⟩
  | 25 => ⟨S16x4x128x1, .f32⟩
  | 26 => ⟨S16x4x128x128, .f32⟩
  | 27 => ⟨S16x4x128x128, .f32⟩
  | 28 => ⟨S16x4x128x128, .f32⟩
  | 29 => ⟨S16x4x128x128, .f32⟩
  | 30 => ⟨S16x4x1, .f32⟩
  | 31 => ⟨S16x4x128, .f32⟩
  | 32 => ⟨S16x4x128, .f32⟩
  | 33 => ⟨S16x4x128, .f32⟩
  | 34 => ⟨S16x4x128, .f32⟩
  | 35 => ⟨S1x16x4x128x128, .f32⟩
  | 36 => ⟨S_, .i32⟩
  | 37 => ⟨S_, .i32⟩
  | 38 => ⟨S_, .i32⟩
  | 39 => ⟨S_, .i32⟩
  | 40 => ⟨S32x16x4x128x128, .f32⟩
  | 41 => ⟨S_, .i32⟩
  | 42 => ⟨S_, .i32⟩
  | 43 => ⟨S16x32x128x4x128, .f32⟩
  | 44 => ⟨S16x4096x4x128, .f32⟩
  | 45 => ⟨S_, .f32⟩
  | 46 => ⟨S16x4096x4, .f32⟩
  | 47 => ⟨S16x4096x4x1, .f32⟩
  | 48 => ⟨S_, .f32⟩
  | 49 => ⟨S16x4096x4x1, .f32⟩
  | 50 => ⟨S16x4096x4x1, .f32⟩
  | 51 => ⟨S16x4096x4x128, .f32⟩
  | 52 => ⟨S16x4096x4x128, .f32⟩
  | 53 => ⟨S16x4096x4x128, .f32⟩
  | 54 => ⟨S_, .f32⟩
  | 55 => ⟨S16x4096x4, .f32⟩
  | 56 => ⟨S16x4096x4x1, .f32⟩
  | 57 => ⟨S_, .f32⟩
  | 58 => ⟨S16x4096x4x1, .f32⟩
  | 59 => ⟨S16x4096x4x1, .f32⟩
  | 60 => ⟨S_, .f32⟩
  | 61 => ⟨S16x4096x4x1, .f32⟩
  | 62 => ⟨S16x4096x4x1, .f32⟩
  | 63 => ⟨S16x4096x4x1, .f32⟩
  | 64 => ⟨S16x4096x4x128, .f32⟩
  | 65 => ⟨S16x4096x4x128, .f32⟩
  | 66 => ⟨S16x4096x512, .f32⟩
  | 67 => ⟨S512, .f32⟩
  | 68 => ⟨S1x1x512, .f32⟩
  | 69 => ⟨S16x4096x512, .f32⟩
  | 70 => ⟨S16x4096x512, .f32⟩
  | 71 => ⟨S16x4096x512, .f32⟩
  | 72 => ⟨S16x4096x512, .f32⟩
  | 73 => ⟨S16x4096x1024, .f32⟩
  | 74 => ⟨S16x4096x512, .f32⟩
  | 75 => ⟨S512x1024, .f32⟩
  | 76 => ⟨S16x4096x1024, .f32⟩
  | 77 => ⟨S16x4096x1024, .f32⟩
  | 78 => ⟨S16x4096x1024, .f32⟩
  | 79 => ⟨S512x1024, .f32⟩
  | 80 => ⟨S16x4096x1024, .f32⟩
  | 81 => ⟨S16x4096x1024, .f32⟩
  | 82 => ⟨S16x4096x1024, .f32⟩
  | 83 => ⟨S1024x1024, .f32⟩
  | 84 => ⟨S16x4096x1024, .f32⟩
  | 85 => ⟨S16x4096x1024, .f32⟩
  | 86 => ⟨S16x4096x1024, .f32⟩
  | 87 => ⟨S_, .f32⟩
  | 88 => ⟨S16x4096, .f32⟩
  | 89 => ⟨S16x4096x1, .f32⟩
  | 90 => ⟨S_, .f32⟩
  | 91 => ⟨S16x4096x1, .f32⟩
  | 92 => ⟨S16x4096x1, .f32⟩
  | 93 => ⟨S_, .f32⟩
  | 94 => ⟨S16x4096x1, .f32⟩
  | 95 => ⟨S16x4096x1, .f32⟩
  | 96 => ⟨S16x4096x1, .f32⟩
  | 97 => ⟨S16x4096x1024, .f32⟩
  | 98 => ⟨S16x4096x1024, .f32⟩
  | 99 => ⟨S1024, .f32⟩
  | 100 => ⟨S1x1x1024, .f32⟩
  | 101 => ⟨S16x4096x1024, .f32⟩
  | 102 => ⟨S16x4096x1024, .f32⟩
  | 103 => ⟨S1024x2816, .f32⟩
  | 104 => ⟨S16x4096x2816, .f32⟩
  | 105 => ⟨S16x4096x2816, .f32⟩
  | 106 => ⟨S16x4096x2816, .f32⟩
  | 107 => ⟨S_, .f32⟩
  | 108 => ⟨S16x4096x2816, .f32⟩
  | 109 => ⟨S16x4096x2816, .f32⟩
  | 110 => ⟨S_, .f32⟩
  | 111 => ⟨S16x4096x2816, .f32⟩
  | 112 => ⟨S16x4096x2816, .f32⟩
  | 113 => ⟨S16x4096x2816, .f32⟩
  | 114 => ⟨S1024x2816, .f32⟩
  | 115 => ⟨S16x4096x2816, .f32⟩
  | 116 => ⟨S16x4096x2816, .f32⟩
  | 117 => ⟨S2816x1024, .f32⟩
  | 118 => ⟨S16x4096x1024, .f32⟩
  | 119 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_0 : Ref sig .tc := ⟨.hbm, 37, rfl⟩
abbrev main_call0_v5 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_cst_0 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_c_3 : Ref sig .tc := ⟨.hbm, 48, rfl⟩
abbrev main_v17_0 : Ref sig .tc := ⟨.hbm, 49, rfl⟩
abbrev main_v17_1 : Ref sig .tc := ⟨.hbm, 50, rfl⟩
abbrev main_v17_2 : Ref sig .tc := ⟨.hbm, 51, rfl⟩
abbrev main_v17_3 : Ref sig .tc := ⟨.hbm, 52, rfl⟩
abbrev main_v17_4 : Ref sig .tc := ⟨.hbm, 53, rfl⟩
abbrev main_v17_5 : Ref sig .tc := ⟨.hbm, 54, rfl⟩
abbrev main_v17_6 : Ref sig .tc := ⟨.hbm, 55, rfl⟩
abbrev main_v17_7 : Ref sig .tc := ⟨.hbm, 56, rfl⟩
abbrev main_v17_8 : Ref sig .tc := ⟨.hbm, 57, rfl⟩
abbrev main_v17_9 : Ref sig .tc := ⟨.hbm, 58, rfl⟩
abbrev main_v17_10 : Ref sig .tc := ⟨.hbm, 59, rfl⟩
abbrev main_while0c_c_22 : Ref sig .tc := ⟨.hbm, 60, rfl⟩
abbrev main_while0c_v79 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_c_2 : Ref sig .tc := ⟨.hbm, 65, rfl⟩
abbrev main_while0b_call1_v0 : Ref sig .tc := ⟨.hbm, 66, rfl⟩
abbrev main_while0b_v79 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_c_2 : Ref sig .tc := ⟨.hbm, 71, rfl⟩
abbrev main_while0b_call2_v0 : Ref sig .tc := ⟨.hbm, 72, rfl⟩
abbrev main_while0b_v80 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_c_2 : Ref sig .tc := ⟨.hbm, 77, rfl⟩
abbrev main_while0b_call3_v0 : Ref sig .tc := ⟨.hbm, 78, rfl⟩
abbrev main_while0b_v81 : Ref sig .tc := ⟨.hbm, 79, rfl⟩
abbrev main_while0b_call4_c : Ref sig .tc := ⟨.hbm, 80, rfl⟩
abbrev main_while0b_call4_c_0 : Ref sig .tc := ⟨.hbm, 81, rfl⟩
abbrev main_while0b_call4_c_1 : Ref sig .tc := ⟨.hbm, 82, rfl⟩
abbrev main_while0b_call4_v0 : Ref sig .tc := ⟨.hbm, 83, rfl⟩
abbrev main_while0b_v82 : Ref sig .tc := ⟨.hbm, 84, rfl⟩
abbrev main_while0b_call5_c : Ref sig .tc := ⟨.hbm, 85, rfl⟩
abbrev main_while0b_call5_c_0 : Ref sig .tc := ⟨.hbm, 86, rfl⟩
abbrev main_while0b_call5_c_1 : Ref sig .tc := ⟨.hbm, 87, rfl⟩
abbrev main_while0b_call5_v0 : Ref sig .tc := ⟨.hbm, 88, rfl⟩
abbrev main_while0b_v83 : Ref sig .tc := ⟨.hbm, 89, rfl⟩
abbrev main_while0b_v84 : Ref sig .tc := ⟨.hbm, 90, rfl⟩
abbrev main_while0b_v85 : Ref sig .tc := ⟨.hbm, 91, rfl⟩
abbrev main_while0b_v86 : Ref sig .tc := ⟨.hbm, 92, rfl⟩
abbrev main_while0b_v87 : Ref sig .tc := ⟨.hbm, 93, rfl⟩
abbrev main_while0b_v88 : Ref sig .tc := ⟨.hbm, 94, rfl⟩
abbrev main_while0b_v89 : Ref sig .tc := ⟨.hbm, 95, rfl⟩
abbrev main_while0b_v90 : Ref sig .tc := ⟨.hbm, 96, rfl⟩
abbrev main_while0b_v91 : Ref sig .tc := ⟨.hbm, 97, rfl⟩
abbrev main_while0b_v92 : Ref sig .tc := ⟨.hbm, 98, rfl⟩
abbrev main_while0b_v93 : Ref sig .tc := ⟨.hbm, 99, rfl⟩
abbrev main_while0b_v94 : Ref sig .tc := ⟨.hbm, 100, rfl⟩
abbrev main_while0b_cst_22 : Ref sig .tc := ⟨.hbm, 101, rfl⟩
abbrev main_while0b_call6_v0 : Ref sig .tc := ⟨.hbm, 102, rfl⟩
abbrev main_while0b_call6_v1 : Ref sig .tc := ⟨.hbm, 103, rfl⟩
abbrev main_while0b_call6_v2 : Ref sig .tc := ⟨.hbm, 104, rfl⟩
abbrev main_while0b_v95 : Ref sig .tc := ⟨.hbm, 105, rfl⟩
abbrev main_while0b_cst_23 : Ref sig .tc := ⟨.hbm, 106, rfl⟩
abbrev main_while0b_v96 : Ref sig .tc := ⟨.hbm, 107, rfl⟩
abbrev main_while0b_v97 : Ref sig .tc := ⟨.hbm, 108, rfl⟩
abbrev main_while0b_v98 : Ref sig .tc := ⟨.hbm, 109, rfl⟩
abbrev main_while0b_v99 : Ref sig .tc := ⟨.hbm, 110, rfl⟩
abbrev main_while0b_v100 : Ref sig .tc := ⟨.hbm, 111, rfl⟩
abbrev main_while0b_v101 : Ref sig .tc := ⟨.hbm, 112, rfl⟩
abbrev main_while0b_v102 : Ref sig .tc := ⟨.hbm, 113, rfl⟩
abbrev main_while0b_v103 : Ref sig .tc := ⟨.hbm, 114, rfl⟩
abbrev main_while0b_v104 : Ref sig .tc := ⟨.hbm, 115, rfl⟩
abbrev main_while0b_v105 : Ref sig .tc := ⟨.hbm, 116, rfl⟩
abbrev main_while0b_v106 : Ref sig .tc := ⟨.hbm, 117, rfl⟩
abbrev main_while0b_v107 : Ref sig .tc := ⟨.hbm, 118, rfl⟩
abbrev main_while0b_v108 : Ref sig .tc := ⟨.hbm, 119, rfl⟩
abbrev main_while0b_v109 : Ref sig .tc := ⟨.hbm, 120, rfl⟩
abbrev main_while0b_v110 : Ref sig .tc := ⟨.hbm, 121, rfl⟩
abbrev main_while0b_v111 : Ref sig .tc := ⟨.hbm, 122, rfl⟩
abbrev main_while0b_v112 : Ref sig .tc := ⟨.hbm, 123, rfl⟩
abbrev main_while0b_v113 : Ref sig .tc := ⟨.hbm, 124, rfl⟩
abbrev main_while0b_cst_24 : Ref sig .tc := ⟨.hbm, 125, rfl⟩
abbrev main_while0b_v114 : Ref sig .tc := ⟨.hbm, 126, rfl⟩
abbrev main_while0b_v115 : Ref sig .tc := ⟨.hbm, 127, rfl⟩
abbrev main_while0b_v116 : Ref sig .tc := ⟨.hbm, 128, rfl⟩
abbrev main_while0b_v117 : Ref sig .tc := ⟨.hbm, 129, rfl⟩
abbrev main_while0b_v118 : Ref sig .tc := ⟨.hbm, 130, rfl⟩
abbrev main_while0b_v119 : Ref sig .tc := ⟨.hbm, 131, rfl⟩
abbrev main_while0b_v120 : Ref sig .tc := ⟨.hbm, 132, rfl⟩
abbrev main_while0b_v121 : Ref sig .tc := ⟨.hbm, 133, rfl⟩
abbrev main_while0b_v122 : Ref sig .tc := ⟨.hbm, 134, rfl⟩
abbrev main_while0b_v123 : Ref sig .tc := ⟨.hbm, 135, rfl⟩
abbrev main_while0b_v124 : Ref sig .tc := ⟨.hbm, 136, rfl⟩
abbrev main_while0b_v125 : Ref sig .tc := ⟨.hbm, 137, rfl⟩
abbrev main_while0b_v126 : Ref sig .tc := ⟨.hbm, 138, rfl⟩
abbrev main_while0b_v127 : Ref sig .tc := ⟨.hbm, 139, rfl⟩
abbrev main_while0b_v128 : Ref sig .tc := ⟨.hbm, 140, rfl⟩
abbrev main_while0b_v129 : Ref sig .tc := ⟨.hbm, 141, rfl⟩
abbrev main_while0b_v130 : Ref sig .tc := ⟨.hbm, 142, rfl⟩
abbrev main_while0b_v131 : Ref sig .tc := ⟨.hbm, 143, rfl⟩
abbrev main_while0b_v132 : Ref sig .tc := ⟨.hbm, 144, rfl⟩
abbrev main_while0b_v133 : Ref sig .tc := ⟨.hbm, 145, rfl⟩
abbrev main_while0b_v134 : Ref sig .tc := ⟨.hbm, 146, rfl⟩
abbrev main_while0b_v135 : Ref sig .tc := ⟨.hbm, 147, rfl⟩
abbrev main_while0b_v136 : Ref sig .tc := ⟨.hbm, 148, rfl⟩
abbrev main_while0b_v137 : Ref sig .tc := ⟨.hbm, 149, rfl⟩
abbrev main_while0b_v138 : Ref sig .tc := ⟨.hbm, 150, rfl⟩
abbrev main_while0b_v139 : Ref sig .tc := ⟨.hbm, 151, rfl⟩
abbrev main_while0b_v140 : Ref sig .tc := ⟨.hbm, 152, rfl⟩
abbrev main_while0b_v141 : Ref sig .tc := ⟨.hbm, 153, rfl⟩
abbrev main_while0b_v142 : Ref sig .tc := ⟨.hbm, 154, rfl⟩
abbrev main_while0b_v143 : Ref sig .tc := ⟨.hbm, 155, rfl⟩
abbrev main_while0b_v144 : Ref sig .tc := ⟨.hbm, 156, rfl⟩
abbrev main_while0b_v145 : Ref sig .tc := ⟨.hbm, 157, rfl⟩
abbrev main_while0b_v146 : Ref sig .tc := ⟨.hbm, 158, rfl⟩
abbrev main_while0b_v147 : Ref sig .tc := ⟨.hbm, 159, rfl⟩
abbrev main_while0b_v148 : Ref sig .tc := ⟨.hbm, 160, rfl⟩
abbrev main_while0b_v149 : Ref sig .tc := ⟨.hbm, 161, rfl⟩
abbrev main_while0b_v150 : Ref sig .tc := ⟨.hbm, 162, rfl⟩
abbrev main_while0b_call7_v0 : Ref sig .tc := ⟨.hbm, 163, rfl⟩
abbrev main_while0b_call7_c : Ref sig .tc := ⟨.hbm, 164, rfl⟩
abbrev main_while0b_call7_c_0 : Ref sig .tc := ⟨.hbm, 165, rfl⟩
abbrev main_while0b_call7_c_1 : Ref sig .tc := ⟨.hbm, 166, rfl⟩
abbrev main_while0b_call7_c_2 : Ref sig .tc := ⟨.hbm, 167, rfl⟩
abbrev main_while0b_v151 : Ref sig .tc := ⟨.hbm, 168, rfl⟩
abbrev main_while0b_c_25 : Ref sig .tc := ⟨.hbm, 169, rfl⟩
abbrev main_while0b_v152 : Ref sig .tc := ⟨.hbm, 170, rfl⟩
abbrev main_v18 : Ref sig .tc := ⟨.hbm, 171, rfl⟩
abbrev main_v19 : Ref sig .tc := ⟨.hbm, 172, rfl⟩
abbrev main_cst_4 : Ref sig .tc := ⟨.hbm, 173, rfl⟩
abbrev main_v20 : Ref sig .tc := ⟨.hbm, 174, rfl⟩
abbrev main_v21 : Ref sig .tc := ⟨.hbm, 175, rfl⟩
abbrev main_cst_5 : Ref sig .tc := ⟨.hbm, 176, rfl⟩
abbrev main_v22 : Ref sig .tc := ⟨.hbm, 177, rfl⟩
abbrev main_v23 : Ref sig .tc := ⟨.hbm, 178, rfl⟩
abbrev main_v24 : Ref sig .tc := ⟨.hbm, 179, rfl⟩
abbrev main_v25 : Ref sig .tc := ⟨.hbm, 180, rfl⟩
abbrev main_v26 : Ref sig .tc := ⟨.hbm, 181, rfl⟩
abbrev main_cst_6 : Ref sig .tc := ⟨.hbm, 182, rfl⟩
abbrev main_v27 : Ref sig .tc := ⟨.hbm, 183, rfl⟩
abbrev main_v28 : Ref sig .tc := ⟨.hbm, 184, rfl⟩
abbrev main_cst_7 : Ref sig .tc := ⟨.hbm, 185, rfl⟩
abbrev main_v29 : Ref sig .tc := ⟨.hbm, 186, rfl⟩
abbrev main_v30 : Ref sig .tc := ⟨.hbm, 187, rfl⟩
abbrev main_cst_8 : Ref sig .tc := ⟨.hbm, 188, rfl⟩
abbrev main_v31 : Ref sig .tc := ⟨.hbm, 189, rfl⟩
abbrev main_v32 : Ref sig .tc := ⟨.hbm, 190, rfl⟩
abbrev main_v33 : Ref sig .tc := ⟨.hbm, 191, rfl⟩
abbrev main_v34 : Ref sig .tc := ⟨.hbm, 192, rfl⟩
abbrev main_v35 : Ref sig .tc := ⟨.hbm, 193, rfl⟩
abbrev main_v36 : Ref sig .tc := ⟨.hbm, 194, rfl⟩
abbrev main_v37 : Ref sig .tc := ⟨.hbm, 195, rfl⟩
abbrev main_v38 : Ref sig .tc := ⟨.hbm, 196, rfl⟩
abbrev main_v39 : Ref sig .tc := ⟨.hbm, 197, rfl⟩
abbrev main_v40 : Ref sig .tc := ⟨.hbm, 198, rfl⟩
abbrev main_v41 : Ref sig .tc := ⟨.hbm, 199, rfl⟩
abbrev main_v42 : Ref sig .tc := ⟨.hbm, 200, rfl⟩
abbrev main_v43 : Ref sig .tc := ⟨.hbm, 201, rfl⟩
abbrev main_v44 : Ref sig .tc := ⟨.hbm, 202, rfl⟩
abbrev main_v45 : Ref sig .tc := ⟨.hbm, 203, rfl⟩
abbrev main_v46 : Ref sig .tc := ⟨.hbm, 204, rfl⟩
abbrev main_v47 : Ref sig .tc := ⟨.hbm, 205, rfl⟩
abbrev main_v48 : Ref sig .tc := ⟨.hbm, 206, rfl⟩
abbrev main_v49 : Ref sig .tc := ⟨.hbm, 207, rfl⟩
abbrev main_v50 : Ref sig .tc := ⟨.hbm, 208, rfl⟩
abbrev main_v51 : Ref sig .tc := ⟨.hbm, 209, rfl⟩
abbrev main_v52 : Ref sig .tc := ⟨.hbm, 210, rfl⟩
abbrev main_v53 : Ref sig .tc := ⟨.hbm, 211, rfl⟩
abbrev main_v54 : Ref sig .tc := ⟨.hbm, 212, rfl⟩
abbrev main_v55 : Ref sig .tc := ⟨.hbm, 213, rfl⟩
abbrev main_v56 : Ref sig .tc := ⟨.hbm, 214, rfl⟩
abbrev main_cst_9 : Ref sig .tc := ⟨.hbm, 215, rfl⟩
abbrev main_v57 : Ref sig .tc := ⟨.hbm, 216, rfl⟩
abbrev main_v58 : Ref sig .tc := ⟨.hbm, 217, rfl⟩
abbrev main_cst_10 : Ref sig .tc := ⟨.hbm, 218, rfl⟩
abbrev main_v59 : Ref sig .tc := ⟨.hbm, 219, rfl⟩
abbrev main_v60 : Ref sig .tc := ⟨.hbm, 220, rfl⟩
abbrev main_cst_11 : Ref sig .tc := ⟨.hbm, 221, rfl⟩
abbrev main_v61 : Ref sig .tc := ⟨.hbm, 222, rfl⟩
abbrev main_v62 : Ref sig .tc := ⟨.hbm, 223, rfl⟩
abbrev main_v63 : Ref sig .tc := ⟨.hbm, 224, rfl⟩
abbrev main_v64 : Ref sig .tc := ⟨.hbm, 225, rfl⟩
abbrev main_v65 : Ref sig .tc := ⟨.hbm, 226, rfl⟩
abbrev main_v66 : Ref sig .tc := ⟨.hbm, 227, rfl⟩
abbrev main_v67 : Ref sig .tc := ⟨.hbm, 228, rfl⟩
abbrev main_v68 : Ref sig .tc := ⟨.hbm, 229, rfl⟩
abbrev main_v69 : Ref sig .tc := ⟨.hbm, 230, rfl⟩
abbrev main_v70 : Ref sig .tc := ⟨.hbm, 231, rfl⟩
abbrev main_v71 : Ref sig .tc := ⟨.hbm, 232, rfl⟩
abbrev main_call8_v0 : Ref sig .tc := ⟨.hbm, 233, rfl⟩
abbrev main_call8_v1 : Ref sig .tc := ⟨.hbm, 234, rfl⟩
abbrev main_call8_cst : Ref sig .tc := ⟨.hbm, 235, rfl⟩
abbrev main_call8_v2 : Ref sig .tc := ⟨.hbm, 236, rfl⟩
abbrev main_call8_v3 : Ref sig .tc := ⟨.hbm, 237, rfl⟩
abbrev main_call8_cst_0 : Ref sig .tc := ⟨.hbm, 238, rfl⟩
abbrev main_call8_v4 : Ref sig .tc := ⟨.hbm, 239, rfl⟩
abbrev main_call8_v5 : Ref sig .tc := ⟨.hbm, 240, rfl⟩
abbrev main_v72 : Ref sig .tc := ⟨.hbm, 241, rfl⟩
abbrev main_v73 : Ref sig .tc := ⟨.hbm, 242, rfl⟩
abbrev main_v74 : Ref sig .tc := ⟨.hbm, 243, rfl⟩
abbrev main_v75 : Ref sig .tc := ⟨.hbm, 244, rfl⟩
abbrev main_v76 : Ref sig .tc := ⟨.hbm, 245, rfl⟩
abbrev main_v77 : Ref sig .tc := ⟨.hbm, 246, rfl⟩
abbrev main_v78 : Ref sig .tc := ⟨.hbm, 247, rfl⟩

abbrev nD : Nat := 1
abbrev τ : Topo := Topo.v7x

variable {F : FTy → Type} [FloatOps F]

abbrev main_while0_count : Scf.Loop 32 := ⟨0#32, 32#32, 1#32⟩
-- ==== Proof.IdealRest.lean ====
/-
  The body run once at symbolic operands, at every grid point but the first: what each written buffer ends at is found by the run, a term over what the buffers held before.
-/
module

public import proofs.«01_k».proof.Proof.Gen.KernelIdeal.Frame
public import proofs.«01_k».proof.Proof.Gen.KernelIdeal.Skeleton

@[expose] public section

set_option maxRecDepth 65536

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition of the prologue, as the body evaluates it. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

set_option maxHeartbeats 0 in
def run_rest (c : Dev nD) (i : grid0.Coords) (hc : ¬ first i)
    (arg2 : Memref sig .tc .vmem S1x512x1024 .f32) (harg2 : arg2.IsWhole)
    (arg3 : Memref sig .tc .vmem S1x512x512 .bf16) (harg3 : arg3.IsWhole)
    (arg4 : Memref sig .tc .vmem S1x512x1024 .bf16) (harg4 : arg4.IsWhole)
    (arg5 : Memref sig .tc .vmem S1x512x1024 .bf16) (harg5 : arg5.IsWhole)
    (arg6 : Memref sig .tc .vmem S1x512x512 .bf16) (harg6 : arg6.IsWhole)
    (arg7 : Memref sig .tc .vmem S1x512x512 .bf16) (harg7 : arg7.IsWhole)
    (arg8 : Memref sig .tc .vmem S1x512x512 .bf16) (harg8 : arg8.IsWhole)
    (arg9 : Memref sig .tc .vmem S1x512x512 .bf16) (harg9 : arg9.IsWhole)
    (arg10 : Memref sig .tc .vmem S1x512x512 .bf16) (harg10 : arg10.IsWhole)
    (arg11 : Memref sig .tc .vmem S1x512x512 .bf16) (harg11 : arg11.IsWhole)
    (arg12 : Memref sig .tc .vmem S1x512x512 .bf16) (harg12 : arg12.IsWhole)
    (arg13 : Memref sig .tc .vmem S1x512x512 .bf16) (harg13 : arg13.IsWhole)
    (arg14 : Memref sig .tc .vmem S1x4x32x128 .f32) (harg14 : arg14.IsWhole)
    (arg15 : Memref sig .tc .vmem S1x4x32x128 .f32) (harg15 : arg15.IsWhole)
    (arg16 : Memref sig .tc .vmem S1x512 .f32) (harg16 : arg16.IsWhole)
    (arg17 : Memref sig .tc .vmem S512x1024 .bf16) (harg17 : arg17.IsWhole)
    (arg18 : Memref sig .tc .vmem S512x1024 .bf16) (harg18 : arg18.IsWhole)
    (arg19 : Memref sig .tc .vmem S1024x1024 .bf16) (harg19 : arg19.IsWhole)
    (arg20 : Memref sig .tc .vmem S1x1024 .f32) (harg20 : arg20.IsWhole)
    (arg21 : Memref sig .tc .vmem S1024x2816 .bf16) (harg21 : arg21.IsWhole)
    (arg22 : Memref sig .tc .vmem S1024x2816 .bf16) (harg22 : arg22.IsWhole)
    (arg23 : Memref sig .tc .vmem S2816x1024 .bf16) (harg23 : arg23.IsWhole)
    (arg24 : Memref sig .tc .vmem S1x512x1024 .f32) (harg24 : arg24.IsWhole)
    (arg25 : Memref sig .tc .vmem S4x128x256 .f32) (harg25 : arg25.IsWhole)
    (arg26 : Memref sig .tc .vmem S4x1x128 .f32) (harg26 : arg26.IsWhole)
    (arg27 : Memref sig .tc .vmem S2x512x512 .bf16) (harg27 : arg27.IsWhole)
    (x2 : Vec F S1x512x1024 .f32)
    (x3 : Vec F S1x512x512 .bf16)
    (x4 : Vec F S1x512x1024 .bf16)
    (x5 : Vec F S1x512x1024 .bf16)
    (x6 : Vec F S1x512x512 .bf16)
    (x7 : Vec F S1x512x512 .bf16)
    (x8 : Vec F S1x512x512 .bf16)
    (x9 : Vec F S1x512x512 .bf16)
    (x10 : Vec F S1x512x512 .bf16)
    (x11 : Vec F S1x512x512 .bf16)
    (x12 : Vec F S1x512x512 .bf16)
    (x13 : Vec F S1x512x512 .bf16)
    (x14 : Vec F S1x4x32x128 .f32)
    (x15 : Vec F S1x4x32x128 .f32)
    (x16 : Vec F S1x512 .f32)
    (x17 : Vec F S512x1024 .bf16)
    (x18 : Vec F S512x1024 .bf16)
    (x19 : Vec F S1024x1024 .bf16)
    (x20 : Vec F S1x1024 .f32)
    (x21 : Vec F S1024x2816 .bf16)
    (x22 : Vec F S1024x2816 .bf16)
    (x23 : Vec F S2816x1024 .bf16)
    (x24 : Vec F S1x512x1024 .f32)
    (x25 : Vec F S4x128x256 .f32)
    (x26 : Vec F S4x1x128 .f32)
    (x27 : Vec F S2x512x512 .bf16)
    : { W : Vec F S1x512x1024 .f32 × Vec F S4x128x256 .f32 × Vec F S4x1x128 .f32 × Vec F S2x512x512 .bf16 // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ owns (c : Thread nD τ) arg24 fullShare x24 ∗ owns (c : Thread nD τ) arg25 fullShare x25 ∗ owns (c : Thread nD τ) arg26 fullShare x26 ∗ owns (c : Thread nD τ) arg27 fullShare x27
        ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
          ∗ owns (c : Thread nD τ) arg24 fullShare W.1 ∗ owns (c : Thread nD τ) arg25 fullShare W.2.1 ∗ owns (c : Thread nD τ) arg26 fullShare W.2.2.1 ∗ owns (c : Thread nD τ) arg27 fullShare W.2.2.2) -∗ K ⟨⟩))
      ⊢ wp frame (wpE (defs₀ (F := F)) Variants.none c none) E (cc0_tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨⟨?_, ?_, ?_, ?_⟩, fun E K => ?run⟩
  case run =>
    simp only [cc0_tail_eq_skeleton]; unfold cc0_tail_skel owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    obtain rfl := harg20.eq_unread hf20
    obtain rfl := harg21.eq_unread hf21
    obtain rfl := harg22.eq_unread hf22
    obtain rfl := harg23.eq_unread hf23
    obtain rfl := harg24.eq_unread hf24
    obtain rfl := harg25.eq_unread hf25
    obtain rfl := harg26.eq_unread hf26
    obtain rfl := harg27.eq_unread hf27
    sl_exec_parts (disch := first | sl_exact hc)
    sl_step
    iapply Hk
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    isplitl [H7]
    · iexists _; isplitr
      · ipureintro; exact harg7.read_unread _
      · iexact H7
    isplitl [H8]
    · iexists _; isplitr
      · ipureintro; exact harg8.read_unread _
      · iexact H8
    isplitl [H9]
    · iexists _; isplitr
      · ipureintro; exact harg9.read_unread _
      · iexact H9
    isplitl [H10]
    · iexists _; isplitr
      · ipureintro; exact harg10.read_unread _
      · iexact H10
    isplitl [H11]
    · iexists _; isplitr
      · ipureintro; exact harg11.read_unread _
      · iexact H11
    isplitl [H12]
    · iexists _; isplitr
      · ipureintro; exact harg12.read_unread _
      · iexact H12
    isplitl [H13]
    · iexists _; isplitr
      · ipureintro; exact harg13.read_unread _
      · iexact H13
    isplitl [H14]
    · iexists _; isplitr
      · ipureintro; exact harg14.read_unread _
      · iexact H14
    isplitl [H15]
    · iexists _; isplitr
      · ipureintro; exact harg15.read_unread _
      · iexact H15
    isplitl [H16]
    · iexists _; isplitr
      · ipureintro; exact harg16.read_unread _
      · iexact H16
    isplitl [H17]
    · iexists _; isplitr
      · ipureintro; exact harg17.read_unread _
      · iexact H17
    isplitl [H18]
    · iexists _; isplitr
      · ipureintro; exact harg18.read_unread _
      · iexact H18
    isplitl [H19]
    · iexists _; isplitr
      · ipureintro; exact harg19.read_unread _
      · iexact H19
    isplitl [H20]
    · iexists _; isplitr
      · ipureintro; exact harg20.read_unread _
      · iexact H20
    isplitl [H21]
    · iexists _; isplitr
      · ipureintro; exact harg21.read_unread _
      · iexact H21
    isplitl [H22]
    · iexists _; isplitr
      · ipureintro; exact harg22.read_unread _
      · iexact H22
    isplitl [H23]
    · iexists _; isplitr
      · ipureintro; exact harg23.read_unread _
      · iexact H23
    isplitl [H24]
    · iexists _; isplitr
      swap
      · iexact H24
      ipureintro; rfl
    isplitl [H25]
    · iexists _; isplitr
      swap
      · iexact H25
      ipureintro; rfl
    isplitl [H26]
    · iexists _; isplitr
      swap
      · iexact H26
      ipureintro; rfl
    iexists _; isplitr
    swap
    · iexact H27
    ipureintro; rfl

end Cert.KernelIdeal.Body

end
-- ==== Proof.IdealFirst.lean ====
/-
  The body run once at symbolic operands, at the first grid point, where the prologue fills the first half of the scratch buffer: what each written buffer ends at is found by the run, a term over what the buffers held before.
-/
module

public import proofs.«01_k».proof.Proof.Gen.KernelIdeal.Frame
public import proofs.«01_k».proof.Proof.Gen.KernelIdeal.Skeleton

@[expose] public section

set_option maxRecDepth 65536

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition of the prologue, as the body evaluates it. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

set_option maxHeartbeats 0 in
def run_first (c : Dev nD) (i : grid0.Coords) (hc : isFirst i) (hi : k0_off1 i = ![0, 0, 0])
    (arg2 : Memref sig .tc .vmem S1x512x1024 .f32) (harg2 : arg2.IsWhole)
    (arg3 : Memref sig .tc .vmem S1x512x512 .bf16) (harg3 : arg3.IsWhole)
    (arg4 : Memref sig .tc .vmem S1x512x1024 .bf16) (harg4 : arg4.IsWhole)
    (arg5 : Memref sig .tc .vmem S1x512x1024 .bf16) (harg5 : arg5.IsWhole)
    (arg6 : Memref sig .tc .vmem S1x512x512 .bf16) (harg6 : arg6.IsWhole)
    (arg7 : Memref sig .tc .vmem S1x512x512 .bf16) (harg7 : arg7.IsWhole)
    (arg8 : Memref sig .tc .vmem S1x512x512 .bf16) (harg8 : arg8.IsWhole)
    (arg9 : Memref sig .tc .vmem S1x512x512 .bf16) (harg9 : arg9.IsWhole)
    (arg10 : Memref sig .tc .vmem S1x512x512 .bf16) (harg10 : arg10.IsWhole)
    (arg11 : Memref sig .tc .vmem S1x512x512 .bf16) (harg11 : arg11.IsWhole)
    (arg12 : Memref sig .tc .vmem S1x512x512 .bf16) (harg12 : arg12.IsWhole)
    (arg13 : Memref sig .tc .vmem S1x512x512 .bf16) (harg13 : arg13.IsWhole)
    (arg14 : Memref sig .tc .vmem S1x4x32x128 .f32) (harg14 : arg14.IsWhole)
    (arg15 : Memref sig .tc .vmem S1x4x32x128 .f32) (harg15 : arg15.IsWhole)
    (arg16 : Memref sig .tc .vmem S1x512 .f32) (harg16 : arg16.IsWhole)
    (arg17 : Memref sig .tc .vmem S512x1024 .bf16) (harg17 : arg17.IsWhole)
    (arg18 : Memref sig .tc .vmem S512x1024 .bf16) (harg18 : arg18.IsWhole)
    (arg19 : Memref sig .tc .vmem S1024x1024 .bf16) (harg19 : arg19.IsWhole)
    (arg20 : Memref sig .tc .vmem S1x1024 .f32) (harg20 : arg20.IsWhole)
    (arg21 : Memref sig .tc .vmem S1024x2816 .bf16) (harg21 : arg21.IsWhole)
    (arg22 : Memref sig .tc .vmem S1024x2816 .bf16) (harg22 : arg22.IsWhole)
    (arg23 : Memref sig .tc .vmem S2816x1024 .bf16) (harg23 : arg23.IsWhole)
    (arg24 : Memref sig .tc .vmem S1x512x1024 .f32) (harg24 : arg24.IsWhole)
    (arg25 : Memref sig .tc .vmem S4x128x256 .f32) (harg25 : arg25.IsWhole)
    (arg26 : Memref sig .tc .vmem S4x1x128 .f32) (harg26 : arg26.IsWhole)
    (arg27 : Memref sig .tc .vmem S2x512x512 .bf16) (harg27 : arg27.IsWhole)
    (x2 : Vec F S1x512x1024 .f32)
    (x3 : Vec F S1x512x512 .bf16)
    (x4 : Vec F S1x512x1024 .bf16)
    (x5 : Vec F S1x512x1024 .bf16)
    (x6 : Vec F S1x512x512 .bf16)
    (x7 : Vec F S1x512x512 .bf16)
    (x8 : Vec F S1x512x512 .bf16)
    (x9 : Vec F S1x512x512 .bf16)
    (x10 : Vec F S1x512x512 .bf16)
    (x11 : Vec F S1x512x512 .bf16)
    (x12 : Vec F S1x512x512 .bf16)
    (x13 : Vec F S1x512x512 .bf16)
    (x14 : Vec F S1x4x32x128 .f32)
    (x15 : Vec F S1x4x32x128 .f32)
    (x16 : Vec F S1x512 .f32)
    (x17 : Vec F S512x1024 .bf16)
    (x18 : Vec F S512x1024 .bf16)
    (x19 : Vec F S1024x1024 .bf16)
    (x20 : Vec F S1x1024 .f32)
    (x21 : Vec F S1024x2816 .bf16)
    (x22 : Vec F S1024x2816 .bf16)
    (x23 : Vec F S2816x1024 .bf16)
    (x24 : Vec F S1x512x1024 .f32)
    (x25 : Vec F S4x128x256 .f32)
    (x26 : Vec F S4x1x128 .f32)
    (x27 : Vec F S2x512x512 .bf16)
    : { W : Vec F S1x512x1024 .f32 × Vec F S4x128x256 .f32 × Vec F S4x1x128 .f32 × Vec F S2x512x512 .bf16 // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ owns (c : Thread nD τ) arg24 fullShare x24 ∗ owns (c : Thread nD τ) arg25 fullShare x25 ∗ owns (c : Thread nD τ) arg26 fullShare x26 ∗ owns (c : Thread nD τ) arg27 fullShare x27
        ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
          ∗ owns (c : Thread nD τ) arg24 fullShare W.1 ∗ owns (c : Thread nD τ) arg25 fullShare W.2.1 ∗ owns (c : Thread nD τ) arg26 fullShare W.2.2.1 ∗ owns (c : Thread nD τ) arg27 fullShare W.2.2.2) -∗ K ⟨⟩))
      ⊢ wp frame (wpE (defs₀ (F := F)) Variants.none c none) E (cc0_tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨⟨?_, ?_, ?_, ?_⟩, fun E K => ?run⟩
  case run =>
    simp only [cc0_tail_eq_skeleton]; unfold cc0_tail_skel owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg19.eq_unread hf19
    obtain rfl := harg20.eq_unread hf20
    obtain rfl := harg21.eq_unread hf21
    obtain rfl := harg22.eq_unread hf22
    obtain rfl := harg23.eq_unread hf23
    obtain rfl := harg24.eq_unread hf24
    obtain rfl := harg25.eq_unread hf25
    obtain rfl := harg26.eq_unread hf26
    obtain rfl := harg27.eq_unread hf27
    letI : ClosedOff (k0_off1 i) := ⟨![0, 0, 0], hi⟩
    sl_exec_parts (disch := first | sl_exact hc)
    sl_step
    iapply Hk
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    isplitl [H7]
    · iexists _; isplitr
      · ipureintro; exact harg7.read_unread _
      · iexact H7
    isplitl [H8]
    · iexists _; isplitr
      · ipureintro; exact harg8.read_unread _
      · iexact H8
    isplitl [H9]
    · iexists _; isplitr
      · ipureintro; exact harg9.read_unread _
      · iexact H9
    isplitl [H10]
    · iexists _; isplitr
      · ipureintro; exact harg10.read_unread _
      · iexact H10
    isplitl [H11]
    · iexists _; isplitr
      · ipureintro; exact harg11.read_unread _
      · iexact H11
    isplitl [H12]
    · iexists _; isplitr
      · ipureintro; exact harg12.read_unread _
      · iexact H12
    isplitl [H13]
    · iexists _; isplitr
      · ipureintro; exact harg13.read_unread _
      · iexact H13
    isplitl [H14]
    · iexists _; isplitr
      · ipureintro; exact harg14.read_unread _
      · iexact H14
    isplitl [H15]
    · iexists _; isplitr
      · ipureintro; exact harg15.read_unread _
      · iexact H15
    isplitl [H16]
    · iexists _; isplitr
      · ipureintro; exact harg16.read_unread _
      · iexact H16
    isplitl [H17]
    · iexists _; isplitr
      · ipureintro; exact harg17.read_unread _
      · iexact H17
    isplitl [H18]
    · iexists _; isplitr
      · ipureintro; exact harg18.read_unread _
      · iexact H18
    isplitl [H19]
    · iexists _; isplitr
      · ipureintro; exact harg19.read_unread _
      · iexact H19
    isplitl [H20]
    · iexists _; isplitr
      · ipureintro; exact harg20.read_unread _
      · iexact H20
    isplitl [H21]
    · iexists _; isplitr
      · ipureintro; exact harg21.read_unread _
      · iexact H21
    isplitl [H22]
    · iexists _; isplitr
      · ipureintro; exact harg22.read_unread _
      · iexact H22
    isplitl [H23]
    · iexists _; isplitr
      · ipureintro; exact harg23.read_unread _
      · iexact H23
    isplitl [H24]
    · iexists _; isplitr
      swap
      · iexact H24
      ipureintro; rfl
    isplitl [H25]
    · iexists _; isplitr
      swap
      · iexact H25
      ipureintro; rfl
    isplitl [H26]
    · iexists _; isplitr
      swap
      · iexact H26
      ipureintro; rfl
    iexists _; isplitr
    swap
    · iexact H27
    ipureintro; rfl

end Cert.KernelIdeal.Body

end
-- ==== Proof.IdealLoose.lean ====
/-
  The idealized kernel's frame: its launch ends from every memory, every argument array unchanged and every semaphore at zero.
  Nothing is said of what the written buffers hold: at each grid point the body is run once (the first point and the
  others), its output window and its scratch buffers at some contents before and after.
-/
module

public import proofs.«01_k».proof.Proof.IdealRest
public import proofs.«01_k».proof.Proof.IdealFirst
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Only the output window is written. -/
def forgets : Fin 23 → Bool := fun w => w.val == 22

/-- The launch's proof data: every input's block is left in place, the output and the scratch are at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, h⟩ => Pipeline.Dat.unnamed (cfg := cfg0) ⟨22, h⟩ t
    | ⟨n + 23, h⟩ => absurd h (Nat.not_lt.mpr (Nat.le_add_left 23 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- Each input's staging buffer holds its block at every point. -/
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  before0_17_of m (dats m 0 c) (A_eq m c 17) (after_17 m c) t d
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  before0_18_of m (dats m 0 c) (A_eq m c 18) (after_18 m c) t d
theorem after_19 (c : Dev nD) (t : Fin cfg0.N) : (dats m 0 c).after 19 t = iblk m c 19 t := by dsimp only [dats]
theorem before_19 (c : Dev nD) (t : Fin cfg0.N) (d) : (dats m 0 c).before 19 t d = iblk m c 19 t :=
  before0_19_of m (dats m 0 c) (A_eq m c 19) (after_19 m c) t d
theorem after_20 (c : Dev nD) (t : Fin cfg0.N) : (dats m 0 c).after 20 t = iblk m c 20 t := by dsimp only [dats]
theorem before_20 (c : Dev nD) (t : Fin cfg0.N) (d) : (dats m 0 c).before 20 t d = iblk m c 20 t :=
  before0_20_of m (dats m 0 c) (A_eq m c 20) (after_20 m c) t d
theorem after_21 (c : Dev nD) (t : Fin cfg0.N) : (dats m 0 c).after 21 t = iblk m c 21 t := by dsimp only [dats]
theorem before_21 (c : Dev nD) (t : Fin cfg0.N) (d) : (dats m 0 c).before 21 t d = iblk m c 21 t :=
  before0_21_of m (dats m 0 c) (A_eq m c 21) (after_21 m c) t d
/-- The three scratch buffers. -/
abbrev sc0 : Memref sig .tc .vmem S4x128x256 .f32 := Memref.whole cc0_scratch0
abbrev sc1 : Memref sig .tc .vmem S4x1x128 .f32 := Memref.whole cc0_scratch1
abbrev sc2 : Memref sig .tc .vmem S2x512x512 .bf16 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ (∃ d, owns (c : Thread nD τ) (win0_22.stage (cfg0.slots t 22)) fullShare d))

/-- At the first point the prologue's half is half 0. -/
theorem off1_first : ∀ t : Fin grid0.N, isFirst (grid0.coords t) → k0_off1 (grid0.coords t) = ![0, 0, 0] := by decide +kernel

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, after_0, after_1, after_2, after_3, after_4, after_5, after_6, after_7, after_8, after_9, after_10, after_11, after_12, after_13, after_14, after_15, after_16, after_17, after_18, after_19, after_20, after_21]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  by_cases hc : isFirst (grid0.coords t)
  · iapply ((run_first c (grid0.coords t) hc (off1_first t hc) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ _).2 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [HS0]
    · iexact HS0
    isplitl [HS1]
    · iexact HS1
    isplitl [HS2]
    · iexact HS2
    iintro ⟨H0, H1, H2, H3, H4, H5, H6, H7, H8, H9, H10, H11, H12, H13, H14, H15, H16, H17, H18, H19, H20, H21, H22, HS0, HS1, HS2⟩
    isplitl [HS0 HS1 HS2 Hg]
    · isplitl [HS0 HS1 HS2]
      · isplitl [HS0]
        · iexists _; iexact HS0
        isplitl [HS1]
        · iexists _; iexact HS1
        iexists _; iexact HS2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    iexists _; iexact H22
  · iapply ((run_rest c (grid0.coords t) hc _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ _).2 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [HS0]
    · iexact HS0
    isplitl [HS1]
    · iexact HS1
    isplitl [HS2]
    · iexact HS2
    iintro ⟨H0, H1, H2, H3, H4, H5, H6, H7, H8, H9, H10, H11, H12, H13, H14, H15, H16, H17, H18, H19, H20, H21, H22, HS0, HS1, HS2⟩
    isplitl [HS0 HS1 HS2 Hg]
    · isplitl [HS0 HS1 HS2]
      · isplitl [HS0]
        · iexists _; iexact HS0
        isplitl [HS1]
        · iexists _; iexact HS1
        iexists _; iexact HS2
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    iexists _; iexact H22

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

set_option maxHeartbeats 4000000 in
/-- The launch ends, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ hh => ⟨fun c => have h := hh.1
    ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 8 rfl).trans ((A_eq m c 8).trans (V_main_arg4 m c)),
      (Pipeline.RDat.FramePost.arr_in h c 9 rfl).trans ((A_eq m c 9).trans (V_main_arg5 m c)),
      (Pipeline.RDat.FramePost.arr_in h c 10 rfl).trans ((A_eq m c 10).trans (V_main_arg6 m c)),
      (Pipeline.RDat.FramePost.arr_in h c 11 rfl).trans ((A_eq m c 11).trans (V_main_arg7 m c)),
      (Pipeline.RDat.FramePost.arr_in h c 12 rfl).trans ((A_eq m c 12).trans (V_main_arg8 m c)),
      (Pipeline.RDat.FramePost.arr_in h c 13 rfl).trans ((A_eq m c 13).trans (V_main_arg9 m c)),
      (Pipeline.RDat.FramePost.arr_in h c 14 rfl).trans ((A_eq m c 14).trans (V_main_arg10 m c)),
      (Pipeline.RDat.FramePost.arr_in h c 15 rfl).trans ((A_eq m c 15).trans (V_main_arg11 m c)),
      (Pipeline.RDat.FramePost.arr_in h c 16 rfl).trans ((A_eq m c 16).trans (V_main_arg12 m c)),
      (Pipeline.RDat.FramePost.arr_in h c 17 rfl).trans ((A_eq m c 17).trans (V_main_arg13 m c)),
      (Pipeline.RDat.FramePost.arr_in h c 18 rfl).trans ((A_eq m c 18).trans (V_main_arg14 m c)),
      (Pipeline.RDat.FramePost.arr_in h c 19 rfl).trans ((A_eq m c 19).trans (V_main_arg15 m c)),
      (Pipeline.RDat.FramePost.arr_in h c 20 rfl).trans ((A_eq m c 20).trans (V_main_arg16 m c)),
      (Pipeline.RDat.FramePost.arr_in h c 21 rfl).trans ((A_eq m c 21).trans (V_main_arg17 m c))⟩, hh.2⟩) (run_main m ρ)

end Cert.KernelIdeal.Body

end
-- ==== Proof.Items.lean ====
/-
  One chunk of one head as the kernel computes it, on whole vectors: each definition is a stretch of the body's own
  operations, named once for the sixteen (chunk, head) pairs of a tile that all run it.
-/
module

public import proofs.«01_k».proof.Proof.Gen.KernelIdeal

@[expose] public section

noncomputable section

namespace Cert.KernelIdeal.Body

open Cert.KernelIdeal.Gen
open Idealize.ShloMosaic Idealize.SL.Sem

variable {F : FTy → Type} [FloatOps F] [Named F]

/-- `2 ^ (x · log2 e)`, the body's exponential, at the shapes it is taken at. -/
def exRow (x : FVec F S1x128 .f32) : FVec F S1x128 .f32 := exp2 (mulf x (broadcast S1x128 (Named.named κ "log2e" 0x3FB8AA3B#32)))
def exMat (x : FVec F S128x128 .f32) : FVec F S128x128 .f32 := exp2 (mulf x (broadcast S128x128 (Named.named κ "log2e" 0x3FB8AA3B#32)))

/-- One head's row of a chunk, taken out of its block. -/
def row (x : Vec F S1x1x1x128 .f32) : FVec F S1x128 .f32 := shapeCast S1x128 x shapeCasts_S1x1x1x128_S1x128
/-- The log input gate relative to the forget gate. -/
def uRow (b li : FVec F S1x128 .f32) : FVec F S1x128 .f32 := subf li b
/-- The forget gate of the chunk's last row. -/
def bLast (b : FVec F S1x128 .f32) : FVec F S1x1 .f32 := extractStridedSlice S1x1 ![0, 127] b slices_S1x128_o0_127_S1x1
/-- The largest entry of a row. -/
def uMax (u : FVec F S1x128 .f32) : FVec F S1x1 .f32 :=
  shapeCast S1x1 (multiReduction .maximumf [1] S1 u 0xFF800000#32 reduces_S1x128_S1 (.inl rfl) rfl) shapeCasts_S1_S1x1
def bc1 (x : FVec F S1x1 .f32) : FVec F S1x128 .f32 := broadcastTo S1x128 x broadcasts_S1x1_S1x128
/-- The chunk's own stabilizer. -/
def mLoc (b li : FVec F S1x128 .f32) : FVec F S1x1 .f32 := addf (bLast b) (uMax (uRow b li))
/-- The stabilizer after the chunk. -/
def mNext (b li m : FVec F S1x128 .f32) : FVec F S1x128 .f32 := maximumf (addf (bc1 (bLast b)) m) (bc1 (mLoc b li))
def wide (g : FVec F S1x128 .f32) : FVec F S128x256 .f32 :=
  broadcastTo S128x256 (concatenate S1x256 1 [⟨S1x128, g⟩, ⟨S1x128, g⟩] concatenates_S1x128_S1x128_S1x256_d1) broadcasts_S1x256_S128x256
/-- The values with a block of ones beside them. -/
def vOnes (v : FVec F S128x128 .bf16) : FVec F S128x256 .bf16 :=
  concatenate S128x256 1 [⟨S128x128, v⟩, ⟨S128x128, broadcast S128x128 (Scalar.ofBits .bf16 0x3F80#16)⟩] concatenates_S128x128_S128x128_S128x256_d1
def wKeys (b li : FVec F S1x128 .f32) (kt : FVec F S128x128 .bf16) : FVec F S128x128 .bf16 :=
  truncf .bf16 (mulf (extf .f32 kt bitsLt_bf16_f32)
    (broadcastTo S128x128 (exRow (subf (uRow b li) (bc1 (uMax (uRow b li))))) broadcasts_S1x128_S128x128)) bitsLt_bf16_f32
/-- What the chunk adds to the state, before it is scaled. -/
def upd (b li : FVec F S1x128 .f32) (kt v : FVec F S128x128 .bf16) : FVec F S128x256 .f32 :=
  matmul dot_S128x128_S128x256_S128x256_1_0_0_1_n_n none (wKeys b li kt) (vOnes v) (constant S128x256 .f32 0x00000000#32)
/-- The state after the chunk: the matrix memory and, beside it, the normalizer along every lane. -/
def cNext (b li m : FVec F S1x128 .f32) (kt v : FVec F S128x128 .bf16) (c : FVec F S128x256 .f32) : FVec F S128x256 .f32 :=
  addf (mulf (wide (exRow (subf (addf (bc1 (bLast b)) m) (mNext b li m)))) c)
    (mulf (wide (exRow (subf (bc1 (mLoc b li)) (mNext b li m)))) (upd b li kt v))

def bcCol (x : FVec F S128x1 .f32) : FVec F S128x128 .f32 := broadcastTo S128x128 x broadcasts_S128x1_S128x128
/-- A row of forget gates as a column: the diagonal of its broadcast, summed along the rows. -/
def bCol (b : FVec F S1x128 .f32) : FVec F S128x1 .f32 :=
  shapeCast S128x1 (multiReduction .add [1] S128
    (select (cmpi .eq (iota .tc S128x128 32 [1] iota_S128x128_d1_w32) (iota .tc S128x128 32 [0] iota_S128x128_d0_w32))
      (broadcastTo S128x128 (shapeCast S1x128 b shapeCasts_S1x128_S1x128) broadcasts_S1x128_S128x128)
      (broadcast S128x128 (Scalar.ofBits .f32 0x00000000#32))) 0x00000000#32 reduces_S128x128_S128 (.inl rfl) rfl) shapeCasts_S128_S128x1
/-- The log weights inside the chunk, later rows masked. -/
def dMat (b li : FVec F S1x128 .f32) : FVec F S128x128 .f32 :=
  select (cmpi .sle (iota .tc S128x128 32 [1] iota_S128x128_d1_w32) (iota .tc S128x128 32 [0] iota_S128x128_d0_w32))
    (addf (bcCol (bCol b)) (broadcastTo S128x128 (uRow b li) broadcasts_S1x128_S128x128))
    (broadcast S128x128 (Named.named κ "mask" 0xF149F2CA#32))
def mD (b li : FVec F S1x128 .f32) : FVec F S128x1 .f32 :=
  shapeCast S128x1 (multiReduction .maximumf [1] S128 (dMat b li) 0xFF800000#32 reduces_S128x128_S128 (.inl rfl) rfl) shapeCasts_S128_S128x1
def scores (b li : FVec F S1x128 .f32) (q kt : FVec F S128x128 .bf16) : FVec F S128x128 .bf16 :=
  truncf .bf16 (mulf (matmul dot_S128x128_S128x128_S128x128_1_0_0_1_n_n none q kt (constant S128x128 .f32 0x00000000#32))
    (exMat (subf (dMat b li) (bcCol (mD b li))))) bitsLt_bf16_f32
def intra (b li : FVec F S1x128 .f32) (q kt v : FVec F S128x128 .bf16) : FVec F S128x256 .f32 :=
  matmul dot_S128x128_S128x256_S128x256_1_0_0_1_n_n none (scores b li q kt) (vOnes v) (constant S128x256 .f32 0x00000000#32)
def inter (q : FVec F S128x128 .bf16) (c : FVec F S128x256 .f32) : FVec F S128x256 .f32 :=
  matmul dot_S128x128_S128x256_S128x256_1_0_0_1_n_n none q (truncf .bf16 c bitsLt_bf16_f32) (constant S128x256 .f32 0x00000000#32)
def aMat (b m : FVec F S1x128 .f32) : FVec F S128x128 .f32 := addf (bcCol (bCol b)) (broadcastTo S128x128 m broadcasts_S1x128_S128x128)
def mT (b li m : FVec F S1x128 .f32) : FVec F S128x128 .f32 := maximumf (aMat b m) (bcCol (mD b li))
def left (x : FVec F S128x256 .f32) : FVec F S128x128 .f32 := extractStridedSlice S128x128 ![0, 0] x slices_S128x256_o0_0_S128x128
def right (x : FVec F S128x256 .f32) : FVec F S128x128 .f32 := extractStridedSlice S128x128 ![0, 128] x slices_S128x256_o0_128_S128x128
/-- A product with the state and one inside the chunk, each with its weight. -/
def mix (b li m : FVec F S1x128 .f32) (x y : FVec F S128x128 .f32) : FVec F S128x128 .f32 :=
  addf (mulf (exMat (subf (aMat b m) (mT b li m))) x) (mulf (exMat (subf (bcCol (mD b li)) (mT b li m))) y)
/-- What the chunk answers. -/
def hMat (b li m : FVec F S1x128 .f32) (q kt v : FVec F S128x128 .bf16) (c : FVec F S128x256 .f32) : FVec F S128x128 .f32 :=
  divf (mix b li m (left (inter q c)) (left (intra b li q kt v)))
    (maximumf (absf (mix b li m (right (inter q c)) (right (intra b li q kt v))))
      (exMat (subf (broadcast S128x128 (Scalar.ofBits .f32 0x00000000#32)) (mT b li m))))

def meanCol (x : FVec F S128x128 .f32) : FVec F S128x1 .f32 :=
  divf (shapeCast S128x1 (multiReduction .add [1] S128 x 0x00000000#32 reduces_S128x128_S128 (.inl rfl) rfl) shapeCasts_S128_S128x1)
    (broadcast S128x1 (Scalar.ofBits .f32 0x43000000#32))
def centred (x : FVec F S128x128 .f32) : FVec F S128x128 .f32 := subf x (bcCol (meanCol x))
/-- The head's layer norm, its scale and the output gate. -/
def gated (h : FVec F S128x128 .f32) (gh : FVec F S1x128 .f32) (og : FVec F S128x128 .bf16) : FVec F S128x128 .bf16 :=
  truncf .bf16 (mulf (mulf (mulf (centred h)
    (bcCol (rsqrt (addf (meanCol (mulf (centred h) (centred h))) (broadcast S128x1 (Scalar.ofBits .f32 0x358637BD#32))))))
      (broadcastTo S128x128 gh broadcasts_S1x128_S128x128)) (extf .f32 og bitsLt_bf16_f32)) bitsLt_bf16_f32

/-- A block's square of one chunk and one head. -/
def sq (x : Vec F S1x128x128 .bf16) : FVec F S128x128 .bf16 := shapeCast S128x128 x shapeCasts_S1x128x128_S128x128

end Cert.KernelIdeal.Body

end
-- ==== Proof.Tile.lean ====
/-
  One tile of the kernel's mLSTM: four heads of four chunks of 128 rows, each head's chunks in order from the state it
  starts with. These are the body's own operations, read one at a time.
-/
module

public import proofs.«01_k».proof.Proof.Items
public import proofs.«01_k».proof.Proof.Gen.KernelIdeal.Frame

@[expose] public section

noncomputable section

namespace Cert.KernelIdeal.Body

open Cert.KernelIdeal.Gen
open Idealize.ShloMosaic Idealize.ShloMosaic.TcCoe Idealize.ShloMosaic.Tactic

variable {F : FTy → Type} [FloatOps F] [Named F]

/-- One head's inputs of a tile: four chunks of gates, queries, keys and values, and the state before the first. -/
structure Head (F : FTy → Type) where
  b : Fin 4 → FVec F S1x128 .f32
  li : Fin 4 → FVec F S1x128 .f32
  q : Fin 4 → FVec F S128x128 .bf16
  kt : Fin 4 → FVec F S128x128 .bf16
  v : Fin 4 → FVec F S128x128 .bf16
  m : FVec F S1x128 .f32
  c : FVec F S128x256 .f32

namespace Head
variable (x : Head F)
/-- The stabilizer after one, two, three and four chunks. -/
def m1 : FVec F S1x128 .f32 := mNext (x.b 0) (x.li 0) x.m
def m2 : FVec F S1x128 .f32 := mNext (x.b 1) (x.li 1) x.m1
def m3 : FVec F S1x128 .f32 := mNext (x.b 2) (x.li 2) x.m2
def m4 : FVec F S1x128 .f32 := mNext (x.b 3) (x.li 3) x.m3
/-- The state after one, two, three and four chunks. -/
def c1 : FVec F S128x256 .f32 := cNext (x.b 0) (x.li 0) x.m (x.kt 0) (x.v 0) x.c
def c2 : FVec F S128x256 .f32 := cNext (x.b 1) (x.li 1) x.m1 (x.kt 1) (x.v 1) x.c1
def c3 : FVec F S128x256 .f32 := cNext (x.b 2) (x.li 2) x.m2 (x.kt 2) (x.v 2) x.c2
def c4 : FVec F S128x256 .f32 := cNext (x.b 3) (x.li 3) x.m3 (x.kt 3) (x.v 3) x.c3
/-- What the four chunks answer. -/
def h0 : FVec F S128x128 .f32 := hMat (x.b 0) (x.li 0) x.m (x.q 0) (x.kt 0) (x.v 0) x.c
def h1 : FVec F S128x128 .f32 := hMat (x.b 1) (x.li 1) x.m1 (x.q 1) (x.kt 1) (x.v 1) x.c1
def h2 : FVec F S128x128 .f32 := hMat (x.b 2) (x.li 2) x.m2 (x.q 2) (x.kt 2) (x.v 2) x.c2
def h3 : FVec F S128x128 .f32 := hMat (x.b 3) (x.li 3) x.m3 (x.q 3) (x.kt 3) (x.v 3) x.c3
end Head

/-- The scratch's block of one head's state or stabilizer, zero at the start of a row. -/
def cIn (z : BitVec 1) (x : Vec F S1x128x256 .f32) : FVec F S128x256 .f32 :=
  Scalar.select z (broadcast S128x256 (Scalar.ofBits .f32 0x00000000#32)) (shapeCast S128x256 x shapeCasts_S1x128x256_S128x256)
def mIn (z : BitVec 1) (x : Vec F S1x1x128 .f32) : FVec F S1x128 .f32 :=
  Scalar.select z (broadcast S1x128 (Scalar.ofBits .f32 0x00000000#32)) (shapeCast S1x128 x shapeCasts_S1x1x128_S1x128)

/-- A chunk's output as the scratch's block takes it. -/
def put (y : FVec F S128x128 .bf16) : Vec F S1x128x128 .bf16 :=
  shapeCast S1x128x128 (shapeCast S128x128 y shapeCasts_S128x128_S128x128) shapeCasts_S128x128_S1x128x128
/-- A head's state and stabilizer as the scratch's block takes them. -/
def putC (c : FVec F S128x256 .f32) : Vec F S1x128x256 .f32 := shapeCast S1x128x256 c shapeCasts_S128x256_S1x128x256
def putM (m : FVec F S1x128 .f32) : Vec F S1x1x128 .f32 := shapeCast S1x1x128 m shapeCasts_S1x128_S1x1x128

/-- Where a point's loads of a head's four gate rows start. -/
def gateOff (i : grid0.Coords) (h r : Fin 4) : Fin 4 → ℕ :=
  match h with
  | 0 => k0_off2 i (BitVec.ofNat 32 r.val)
  | 1 => k0_off3 i (BitVec.ofNat 32 r.val)
  | 2 => k0_off4 i (BitVec.ofNat 32 r.val)
  | 3 => k0_off5 i (BitVec.ofNat 32 r.val)
theorem gateOff_inb (i : grid0.Coords) (h r : Fin 4) : ∀ a, gateOff i h r a + S1x1x1x128.size a ≤ S1x4x32x128.size a := by
  fin_cases h
  · exact k0_off2_inb i r
  · exact k0_off3_inb i r
  · exact k0_off4_inb i r
  · exact k0_off5_inb i r

theorem inb_row (h r : Fin 4) : ∀ a, (![0, 128 * r.val, 128 * h.val] : Fin 3 → ℕ) a + S1x128x128.size a ≤ S1x512x512.size a := by
  revert h r; decide
theorem inb_c (h : Fin 4) : ∀ a, (![h.val, 0, 0] : Fin 3 → ℕ) a + S1x128x256.size a ≤ S4x128x256.size a := by
  revert h; decide
theorem inb_m (h : Fin 4) : ∀ a, (![h.val, 0, 0] : Fin 3 → ℕ) a + S1x1x128.size a ≤ S4x1x128.size a := by
  revert h; decide
theorem inb_gh (h : Fin 4) : ∀ a, (![0, 128 * h.val] : Fin 2 → ℕ) a + S1x128.size a ≤ S1x512.size a := by
  revert h; decide

/-- A square of 128 rows and columns of a block, read from its buffer. -/
def sqAt (a : Memref sig .tc .vmem S1x512x512 .bf16) (ha : Memref.IsWhole a) (x : Vec F S1x512x512 .bf16) (r h : Fin 4) : FVec F S128x128 .bf16 :=
  sq (View.readAt (Elt F) a.view (Rect.unit (s := S1x512x512) ![0, 128 * r.val, 128 * h.val] S1x128x128.size (inb_row h r)).toLoadRect (ha.unread x))
def rowAt (a : Memref sig .tc .vmem S1x4x32x128 .f32) (ha : Memref.IsWhole a) (x : Vec F S1x4x32x128 .f32) (off : Fin 4 → ℕ)
    (inb : ∀ a, off a + S1x1x1x128.size a ≤ S1x4x32x128.size a) : FVec F S1x128 .f32 :=
  row (View.readAt (Elt F) a.view (Rect.unit (s := S1x4x32x128) off S1x1x1x128.size inb).toLoadRect (ha.unread x))
def ghAt (a : Memref sig .tc .vmem S1x512 .f32) (ha : Memref.IsWhole a) (x : Vec F S1x512 .f32) (h : Fin 4) : FVec F S1x128 .f32 :=
  View.readAt (Elt F) a.view (Rect.unit (s := S1x512) ![0, 128 * h.val] S1x128.size (inb_gh h)).toLoadRect (ha.unread x)
def cAt (a : Memref sig .tc .vmem S4x128x256 .f32) (ha : Memref.IsWhole a) (x : Vec F S4x128x256 .f32) (h : Fin 4) : Vec F S1x128x256 .f32 :=
  View.readAt (Elt F) a.view (Rect.unit (s := S4x128x256) ![h.val, 0, 0] S1x128x256.size (inb_c h)).toLoadRect (ha.unread x)
def mAt (a : Memref sig .tc .vmem S4x1x128 .f32) (ha : Memref.IsWhole a) (x : Vec F S4x1x128 .f32) (h : Fin 4) : Vec F S1x1x128 .f32 :=
  View.readAt (Elt F) a.view (Rect.unit (s := S4x1x128) ![h.val, 0, 0] S1x1x128.size (inb_m h)).toLoadRect (ha.unread x)

/-- One head's inputs of a tile, read from the buffers that hold them. -/
def mkHead (aq : Memref sig .tc .vmem S1x512x512 .bf16) (haq : aq.IsWhole) (xq : Vec F S1x512x512 .bf16)
    (ak : Memref sig .tc .vmem S1x512x512 .bf16) (hak : ak.IsWhole) (xk : Vec F S1x512x512 .bf16)
    (av : Memref sig .tc .vmem S1x512x512 .bf16) (hav : av.IsWhole) (xv : Vec F S1x512x512 .bf16)
    (ab : Memref sig .tc .vmem S1x4x32x128 .f32) (hab : ab.IsWhole) (xb : Vec F S1x4x32x128 .f32)
    (al : Memref sig .tc .vmem S1x4x32x128 .f32) (hal : al.IsWhole) (xl : Vec F S1x4x32x128 .f32)
    (off : Fin 4 → Fin 4 → ℕ) (inb : ∀ r a, off r a + S1x1x1x128.size a ≤ S1x4x32x128.size a) (h : Fin 4)
    (m : FVec F S1x128 .f32) (c : FVec F S128x256 .f32) : Head F where
  b := ![rowAt ab hab xb (off 0) (inb 0), rowAt ab hab xb (off 1) (inb 1), rowAt ab hab xb (off 2) (inb 2), rowAt ab hab xb (off 3) (inb 3)]
  li := ![rowAt al hal xl (off 0) (inb 0), rowAt al hal xl (off 1) (inb 1), rowAt al hal xl (off 2) (inb 2), rowAt al hal xl (off 3) (inb 3)]
  q := ![sqAt aq haq xq 0 h, sqAt aq haq xq 1 h, sqAt aq haq xq 2 h, sqAt aq haq xq 3 h]
  kt := ![sqAt ak hak xk h 0, sqAt ak hak xk h 1, sqAt ak hak xk h 2, sqAt ak hak xk h 3]
  v := ![sqAt av hav xv 0 h, sqAt av hav xv 1 h, sqAt av hav xv 2 h, sqAt av hav xv 3 h]
  m := m
  c := c

/-- The first tile's gate rows. -/
def gateOff0 (h r : Fin 4) : Fin 4 → ℕ := ![0, h.val, r.val, 0]
theorem gateOff0_inb (h r : Fin 4) : ∀ a, gateOff0 h r a + S1x1x1x128.size a ≤ S1x4x32x128.size a := by
  revert h r; decide

/-! The gated merge and the channel mixer -/

theorem inb_x : ∀ a, (![0, 0, 0] : Fin 3 → ℕ) a + S1x512x1024.size a ≤ S1x512x1024.size a := by decide
theorem inb_y : ∀ a, (![0, 0, 0] : Fin 3 → ℕ) a + S1x512x512.size a ≤ S1x512x512.size a := by decide
theorem inb_wf : ∀ a, (![0, 0] : Fin 2 → ℕ) a + S512x1024.size a ≤ S512x1024.size a := by decide
theorem inb_wo : ∀ a, (![0, 0] : Fin 2 → ℕ) a + S1024x1024.size a ≤ S1024x1024.size a := by decide
theorem inb_gf : ∀ a, (![0, 0] : Fin 2 → ℕ) a + S1x1024.size a ≤ S1x1024.size a := by decide
theorem inb_wg (k : Fin 11) : ∀ a, (![0, 256 * k.val] : Fin 2 → ℕ) a + S1024x256.size a ≤ S1024x2816.size a := by
  revert k; decide
theorem inb_wd (k : Fin 11) : ∀ a, (![256 * k.val, 0] : Fin 2 → ℕ) a + S256x1024.size a ≤ S2816x1024.size a := by
  revert k; decide

/-- A whole block read from its buffer. -/
def xAt {e : EltTy} (a : Memref sig .tc .vmem S1x512x1024 e) (ha : a.IsWhole) (x : Vec F S1x512x1024 e) : Vec F S1x512x1024 e :=
  View.readAt (Elt F) a.view (Rect.unit (s := S1x512x1024) ![0, 0, 0] S1x512x1024.size inb_x).toLoadRect (ha.unread x)
def yAt (a : Memref sig .tc .vmem S1x512x512 .bf16) (ha : a.IsWhole) (x : Vec F S1x512x512 .bf16) : Vec F S1x512x512 .bf16 :=
  View.readAt (Elt F) a.view (Rect.unit (s := S1x512x512) ![0, 0, 0] S1x512x512.size inb_y).toLoadRect (ha.unread x)
def wfAt (a : Memref sig .tc .vmem S512x1024 .bf16) (ha : a.IsWhole) (x : Vec F S512x1024 .bf16) : Vec F S512x1024 .bf16 :=
  View.readAt (Elt F) a.view (Rect.unit (s := S512x1024) ![0, 0] S512x1024.size inb_wf).toLoadRect (ha.unread x)
def woAt (a : Memref sig .tc .vmem S1024x1024 .bf16) (ha : a.IsWhole) (x : Vec F S1024x1024 .bf16) : Vec F S1024x1024 .bf16 :=
  View.readAt (Elt F) a.view (Rect.unit (s := S1024x1024) ![0, 0] S1024x1024.size inb_wo).toLoadRect (ha.unread x)
def gfAt (a : Memref sig .tc .vmem S1x1024 .f32) (ha : a.IsWhole) (x : Vec F S1x1024 .f32) : Vec F S1x1024 .f32 :=
  View.readAt (Elt F) a.view (Rect.unit (s := S1x1024) ![0, 0] S1x1024.size inb_gf).toLoadRect (ha.unread x)
/-- A block of 256 columns, or of 256 rows, of the channel mixer's weights. -/
def wgAt (a : Memref sig .tc .vmem S1024x2816 .bf16) (ha : a.IsWhole) (x : Vec F S1024x2816 .bf16) (k : Fin 11) : Vec F S1024x256 .bf16 :=
  View.readAt (Elt F) a.view (Rect.unit (s := S1024x2816) ![0, 256 * k.val] S1024x256.size (inb_wg k)).toLoadRect (ha.unread x)
def wdAt (a : Memref sig .tc .vmem S2816x1024 .bf16) (ha : a.IsWhole) (x : Vec F S2816x1024 .bf16) (k : Fin 11) : Vec F S256x1024 .bf16 :=
  View.readAt (Elt F) a.view (Rect.unit (s := S2816x1024) ![256 * k.val, 0] S256x1024.size (inb_wd k)).toLoadRect (ha.unread x)

def flat {e : EltTy} (x : Vec F S1x512x1024 e) : Vec F S512x1024 e := shapeCast S512x1024 x shapeCasts_S1x512x1024_S512x1024
def flatY (y : Vec F S1x512x512 .bf16) : FVec F S512x512 .bf16 := shapeCast S512x512 y shapeCasts_S1x512x512_S512x512
def toModel (y : Vec F S1x512x512 .bf16) (w : FVec F S512x1024 .bf16) : FVec F S512x1024 .f32 :=
  matmul dot_S512x512_S512x1024_S512x1024_1_0_0_1_n_n none (flatY y) w (constant S512x1024 .f32 0x00000000#32)
def merged (ya : Vec F S1x512x512 .bf16) (mga mgb : Vec F S1x512x1024 .bf16) (yb : Vec F S1x512x512 .bf16) (wfo wmo : FVec F S512x1024 .bf16) : FVec F S512x1024 .bf16 :=
  truncf .bf16 (addf (mulf (extf .f32 (flat mga) bitsLt_bf16_f32) (toModel ya wfo)) (mulf (extf .f32 (flat mgb) bitsLt_bf16_f32) (toModel yb wmo))) bitsLt_bf16_f32
/-- The residual stream after the mixers. -/
def x1 (x : Vec F S1x512x1024 .f32) (ya : Vec F S1x512x512 .bf16) (mga mgb : Vec F S1x512x1024 .bf16) (yb : Vec F S1x512x512 .bf16)
    (wfo wmo : FVec F S512x1024 .bf16) (wo : FVec F S1024x1024 .bf16) : FVec F S512x1024 .f32 :=
  addf (flat x) (matmul dot_S512x1024_S1024x1024_S512x1024_1_0_0_1_n_n none (merged ya mga mgb yb wfo wmo) wo (constant S512x1024 .f32 0x00000000#32))
/-- Its rms norm. -/
def rms (x : FVec F S512x1024 .f32) (g : FVec F S1x1024 .f32) : FVec F S512x1024 .bf16 :=
  truncf .bf16 (mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024)) bitsLt_bf16_f32
def hidden (h : FVec F S512x1024 .bf16) (w : FVec F S1024x256 .bf16) : FVec F S512x256 .f32 :=
  matmul dot_S512x1024_S1024x256_S512x256_1_0_0_1_n_n none h w (constant S512x256 .f32 0x00000000#32)
def silu (z : FVec F S512x256 .f32) : FVec F S512x256 .f32 :=
  mulf z (divf (broadcast S512x256 (Scalar.ofBits .f32 0x3F800000#32))
    (addf (broadcast S512x256 (Scalar.ofBits .f32 0x3F800000#32)) (exp2 (mulf z (broadcast S512x256 (Named.named κ "minus_log2e" 0xBFB8AA3B#32))))))
/-- What one block of 256 hidden lanes adds. -/
def ffnStep (h : FVec F S512x1024 .bf16) (wg wu : FVec F S1024x256 .bf16) (wd : FVec F S256x1024 .bf16) (acc : Vec F S1x512x1024 .f32) : Vec F S1x512x1024 .f32 :=
  shapeCast S1x512x1024 (addf (flat acc) (matmul dot_S512x256_S256x1024_S512x1024_1_0_0_1_n_n none
    (truncf .bf16 (mulf (silu (hidden h wg)) (hidden h wu)) bitsLt_bf16_f32) wd (constant S512x1024 .f32 0x00000000#32))) shapeCasts_S512x1024_S1x512x1024
/-- The output after the first `k` blocks. -/
def acc (x : FVec F S512x1024 .f32) (h : FVec F S512x1024 .bf16) (wg wu : Fin 11 → FVec F S1024x256 .bf16) (wd : Fin 11 → FVec F S256x1024 .bf16) : (k : ℕ) → k ≤ 11 → Vec F S1x512x1024 .f32
  | 0, _ => shapeCast S1x512x1024 x shapeCasts_S512x1024_S1x512x1024
  | k + 1, hk => ffnStep h (wg ⟨k, hk⟩) (wu ⟨k, hk⟩) (wd ⟨k, hk⟩) (acc x h wg wu wd k (Nat.le_of_succ_le hk))

end Cert.KernelIdeal.Body

end
-- ==== Proof.Mlstm.lean ====
/-
  One chunk of the mLSTM recurrence of one head, over the extended reals: what a chunk of 128 rows answers and what state it
  leaves, in the reference's form (every weight relative to the row's stabilizer) — and the identities that turn the
  kernel's form of the same numbers (weights relative to the chunk's own largest term, rescaled afterwards) into it. They
  hold of infinite numbers too: a weight is the exponential of a number less a larger one, which is a nonnegative real number.
-/
module

public import Idealize.ShloMosaic.Lib.Pointwise
public import Mathlib.Data.EReal.Operations

@[expose] public section

noncomputable section

namespace Cert.Mlstm

open Idealize.ShloMosaic

/-! ### Exponentials of extended reals -/

/-- A weight relative to a larger stabilizer is a nonnegative number. -/
theorem exp_weight {p r : EReal} (h : p ≤ r) : 0 ≤ Ideal.exp (p - r) ∧ Ideal.exp (p - r) ≠ ⊤ := by
  induction r with
  | bot =>
    rw [le_bot_iff.mp h, EReal.bot_sub, Ideal.exp_bot]; exact ⟨le_rfl, EReal.zero_ne_top⟩
  | top => rw [EReal.sub_top, Ideal.exp_bot]; exact ⟨le_rfl, EReal.zero_ne_top⟩
  | coe r =>
    induction p with
    | bot => rw [EReal.bot_sub, Ideal.exp_bot]; exact ⟨le_rfl, EReal.zero_ne_top⟩
    | top => exact absurd (top_le_iff.mp h) (EReal.coe_ne_top r)
    | coe p =>
      rw [← EReal.coe_sub, Ideal.exp_coe]
      exact ⟨EReal.coe_nonneg.mpr (Real.exp_pos _).le, EReal.coe_ne_top _⟩

/-- Two steps of rescaling are one: from `P` to `r`, where `a` is at most `P`. -/
theorem exp_two {β a P r : EReal} (ha : a ≤ P) (hr : β + P ≤ r) :
    Ideal.exp (β + P - r) * Ideal.exp (a - P) = Ideal.exp (β + a - r) := by
  have hle : β + a ≤ β + P := add_le_add le_rfl ha
  induction r with
  | top => rw [EReal.sub_top, EReal.sub_top, Ideal.exp_bot, zero_mul]
  | bot =>
    have h1 := le_bot_iff.mp hr
    rw [h1] at hle ⊢
    rw [le_bot_iff.mp hle, EReal.bot_sub, Ideal.exp_bot, zero_mul]
  | coe r =>
    induction β with
    | bot => rw [EReal.bot_add, EReal.bot_add, EReal.bot_sub, Ideal.exp_bot, zero_mul]
    | top =>
      induction P with
      | bot => rw [le_bot_iff.mp ha, EReal.add_bot, EReal.bot_sub, Ideal.exp_bot, zero_mul]
      | top => exact absurd (top_le_iff.mp hr) (EReal.coe_ne_top r)
      | coe P => exact absurd (top_le_iff.mp hr) (EReal.coe_ne_top r)
    | coe β =>
      induction P with
      | bot => rw [le_bot_iff.mp ha, EReal.add_bot, EReal.bot_sub, Ideal.exp_bot, zero_mul]
      | top => exact absurd (top_le_iff.mp hr) (EReal.coe_ne_top r)
      | coe P =>
        induction a with
        | bot => rw [EReal.bot_sub, EReal.add_bot, EReal.bot_sub, Ideal.exp_bot, mul_zero]
        | top => exact absurd (top_le_iff.mp ha) (EReal.coe_ne_top P)
        | coe a =>
          rw [← EReal.coe_add, ← EReal.coe_add, ← EReal.coe_sub, ← EReal.coe_sub, ← EReal.coe_sub, Ideal.exp_coe, Ideal.exp_coe, Ideal.exp_coe,
            ← EReal.coe_mul, ← Real.exp_add]
          congr 2; ring

/-- A nonnegative number is distributed over any sum. -/
theorem mul_sum_real {n : Nat} {c : EReal} (h0 : 0 ≤ c) (ht : c ≠ ⊤) (f : Fin n → EReal) : c * ∑ s, f s = ∑ s, c * f s := by
  classical
  induction (Finset.univ : Finset (Fin n)) using Finset.induction_on with
  | empty => simp
  | insert a A hA ih => rw [Finset.sum_insert hA, Finset.sum_insert hA, EReal.left_distrib_of_nonneg_of_ne_top h0 ht, ih]

/-- The largest of finitely many numbers, `⊥` of none. -/
def largest {n : Nat} (f : Fin n → EReal) : EReal := (Finset.univ : Finset (Fin n)).fold max ⊥ f

theorem le_largest {n : Nat} (f : Fin n → EReal) (s : Fin n) : f s ≤ largest f := (Finset.le_fold_max _).mpr (.inr ⟨s, Finset.mem_univ s, le_rfl⟩)

theorem largest_add {n : Nat} (β : EReal) (f : Fin n → EReal) : (largest fun s => β + f s) = β + largest f := by
  have hm : Monotone fun z : EReal => β + z := fun _ _ h => add_le_add le_rfl h
  have := Finset.fold_hom (op := (max : EReal → EReal → EReal)) (op' := max) (s := (Finset.univ : Finset (Fin n))) (f := f) (b := ⊥) (m := fun z => β + z)
    fun _ _ => hm.map_max
  rw [EReal.add_bot] at this
  exact this

/-- The state of one head: the matrix memory (by value coordinate, then key coordinate), the normalizer and the stabilizer. -/
structure State where
  C : Fin 128 → Fin 128 → EReal
  n : Fin 128 → EReal
  m : EReal

/-- The state before the first chunk. -/
def State.zero : State := ⟨fun _ _ => 0, fun _ => 0, 0⟩

/-- A chunk's inputs: the cumulative log forget gate, the log input gate, queries, keys and values (by row, then coordinate). -/
structure Chunk where
  b : Fin 128 → EReal
  li : Fin 128 → EReal
  q : Fin 128 → Fin 128 → EReal
  k : Fin 128 → Fin 128 → EReal
  v : Fin 128 → Fin 128 → EReal

namespace Chunk

variable (x : Chunk) (S : State)

/-- The log weight of row `s` in row `t`. -/
def D (t s : Fin 128) : EReal := x.b t - x.b s + x.li s
/-- The same, nothing for a later row. -/
def E (t s : Fin 128) : EReal := if s ≤ t then x.D t s else ⊥
/-- The largest log weight a row sees. -/
def mD (t : Fin 128) : EReal := largest (x.E t)
/-- The row's stabilizer. -/
def mT (t : Fin 128) : EReal := max (x.b t + S.m) (x.mD t)
/-- The stabilizer the chunk leaves: the last row's. -/
def mN : EReal := x.mT S 127
/-- The weight of the state in row `t`. -/
def wC (t : Fin 128) : EReal := Ideal.exp (x.b t + S.m - x.mT S t)
/-- The weight of row `s` in row `t`: nothing from a later row. -/
def W (t s : Fin 128) : EReal := Ideal.exp (x.E t s - x.mT S t)
/-- The product of the query of row `t` with the key of row `s`. -/
def qk (t s : Fin 128) : EReal := ∑ j, x.q t j * x.k s j
/-- The weighted products. -/
def s (t s' : Fin 128) : EReal := x.qk t s' * x.W S t s'
def num (t d : Fin 128) : EReal := x.wC S t * (∑ j, S.C d j * x.q t j) + ∑ s', x.s S t s' * x.v s' d
def den (t : Fin 128) : EReal := x.wC S t * (∑ j, S.n j * x.q t j) + ∑ s', x.s S t s'
def bound (t : Fin 128) : EReal := max (max (x.den S t) (-(x.den S t))) (Ideal.exp (-(x.mT S t)))
/-- What row `t` answers. -/
def h (t d : Fin 128) : EReal := Ideal.div (x.num S t d) (x.bound S t)

/-- The weight of row `s` in the state the chunk leaves. -/
def wN (s : Fin 128) : EReal := Ideal.exp (x.b 127 - x.b s + x.li s - x.mN S)
/-- The weight of the state before in the state the chunk leaves. -/
def decay : EReal := Ideal.exp (x.b 127 + S.m - x.mN S)
/-- The state the chunk leaves. -/
def next : State where
  C d j := x.decay S * S.C d j + ∑ s, x.wN S s * x.v s d * x.k s j
  n j := x.decay S * S.n j + ∑ s, x.wN S s * x.k s j
  m := x.mN S

/-! The kernel's form -/

/-- The log input gate relative to the forget gate, and its largest value in the chunk. -/
def u (s : Fin 128) : EReal := x.li s - x.b s
def uM : EReal := largest x.u

theorem D_eq (t s : Fin 128) : x.D t s = x.b t + x.u s := by
  simp only [D, u, sub_eq_add_neg]; rw [add_assoc, add_comm (-x.b s)]

theorem mD_last : x.mD 127 = x.b 127 + x.uM := by
  rw [mD, uM, ← largest_add]
  congr 1; funext s
  rw [E, if_pos (show s ≤ 127 from Fin.le_last s), D_eq]

/-- The kernel's stabilizer of the state: the larger of the decayed one and the chunk's own. -/
theorem mN_eq : max (x.b 127 + S.m) (x.b 127 + x.uM) = x.mN S := by
  rw [mN, mT, mD_last]

/-- The kernel's weight relative to the row's largest, nothing from a later row. -/
def wD (t s : Fin 128) : EReal := Ideal.exp (x.E t s - x.mD t)

/-- The kernel's rescaling of a row. -/
def up (t : Fin 128) : EReal := Ideal.exp (x.mD t - x.mT S t)

theorem up_real (t : Fin 128) : 0 ≤ x.up S t ∧ x.up S t ≠ ⊤ := exp_weight (le_max_right _ _)

theorem W_eq (t s : Fin 128) : x.up S t * x.wD t s = x.W S t s := by
  have := exp_two (β := 0) (le_largest (x.E t) s) (r := x.mT S t) (by rw [zero_add]; exact le_max_right _ _)
  rw [zero_add, zero_add] at this
  exact this

theorem num_eq (t d : Fin 128) :
    x.wC S t * (∑ j, x.q t j * S.C d j) + x.up S t * (∑ s', x.qk t s' * x.wD t s' * x.v s' d) = x.num S t d := by
  rw [num, mul_sum_real (x.up_real S t).1 (x.up_real S t).2]
  simp only [s, ← W_eq]
  congr 1
  · congr 1; exact Finset.sum_congr rfl fun _ _ => mul_comm _ _
  · exact Finset.sum_congr rfl fun _ _ => by ac_rfl

theorem den_eq (t : Fin 128) :
    x.wC S t * (∑ j, x.q t j * S.n j) + x.up S t * (∑ s', x.qk t s' * x.wD t s' * 1) = x.den S t := by
  rw [den, mul_sum_real (x.up_real S t).1 (x.up_real S t).2]
  simp only [s, ← W_eq, mul_one]
  congr 1
  · congr 1; exact Finset.sum_congr rfl fun _ _ => mul_comm _ _
  · exact Finset.sum_congr rfl fun _ _ => by ac_rfl

/-- The kernel's rescaling of the state's update. -/
def gain : EReal := Ideal.exp (x.b 127 + x.uM - x.mN S)

theorem gain_le : x.b 127 + x.uM ≤ x.mN S := by rw [← mN_eq]; exact le_max_right _ _

theorem gain_real : 0 ≤ x.gain S ∧ x.gain S ≠ ⊤ := exp_weight (x.gain_le S)

theorem wN_eq (s : Fin 128) : x.gain S * Ideal.exp (x.u s - x.uM) = x.wN S s := by
  have := exp_two (le_largest x.u s) (x.gain_le S)
  rw [← x.D_eq] at this
  exact this

theorem C_eq (d j : Fin 128) :
    x.decay S * S.C d j + x.gain S * (∑ s, x.k s j * Ideal.exp (x.u s - x.uM) * x.v s d) = (x.next S).C d j := by
  rw [mul_sum_real (x.gain_real S).1 (x.gain_real S).2]
  simp only [next, ← wN_eq]
  congr 1
  exact Finset.sum_congr rfl fun _ _ => by ac_rfl

theorem n_eq (j : Fin 128) :
    x.decay S * S.n j + x.gain S * (∑ s, x.k s j * Ideal.exp (x.u s - x.uM) * 1) = (x.next S).n j := by
  rw [mul_sum_real (x.gain_real S).1 (x.gain_real S).2]
  simp only [next, ← wN_eq, mul_one]
  congr 1
  exact Finset.sum_congr rfl fun _ _ => by ac_rfl

end Chunk

end Cert.Mlstm

end
-- ==== Proof.ItemValue.lean ====
/-
  The value of one chunk of one head as the kernel computes it: what it answers and the state it leaves are the
  recurrence's (Mlstm.lean).
-/
module

public import proofs.«01_k».proof.Proof.Items
public import proofs.«01_k».proof.Proof.Mlstm

@[expose] public section

noncomputable section

namespace Cert.KernelIdeal.Body

open Cert.KernelIdeal.Gen Cert.Mlstm
open Idealize.ShloMosaic Idealize.SL.Sem

/-! ### The kernel's constants and exponentials -/

theorem log2e_eq : (Named.named κ "log2e" 0x3FB8AA3B#32 : Ideal .f32) = (((Real.log 2)⁻¹ : ℝ) : EReal) := rfl
theorem mask_eq : (Named.named κ "mask" 0xF149F2CA#32 : Ideal .f32) = (⊥ : EReal) := rfl

theorem exp2_log2e (x : EReal) : Ideal.exp2 (x * (((Real.log 2)⁻¹ : ℝ) : EReal)) = Ideal.exp x := by
  have hl : 0 < (Real.log 2)⁻¹ := inv_pos.mpr (Real.log_pos (by norm_num))
  induction x with
  | bot => rw [EReal.bot_mul_coe_of_pos hl, Ideal.exp2_bot, Ideal.exp_bot]
  | top => rw [EReal.top_mul_coe_of_pos hl]; rfl
  | coe x =>
    rw [← EReal.coe_mul, Ideal.exp2_coe, Ideal.exp_coe]
    congr 1
    refine (show Real.rpow 2 (x * (Real.log 2)⁻¹) = (2 : ℝ) ^ (x * (Real.log 2)⁻¹) from rfl).trans ?_
    rw [Real.rpow_def_of_pos (by norm_num), mul_comm x, ← mul_assoc, mul_inv_cancel₀ (Real.log_pos (by norm_num)).ne', one_mul]

/-- The vectors a chunk of one head is computed from hold the chunk `x` and the state `S`. -/
structure Reads (x : Chunk) (S : State) (b li m : FVec Ideal S1x128 .f32) (q kt v : FVec Ideal S128x128 .bf16)
    (c : FVec Ideal S128x256 .f32) : Prop where
  b (s : Fin 128) : b (ix2 0 s) = x.b s
  li (s : Fin 128) : li (ix2 0 s) = x.li s
  m (s : Fin 128) : m (ix2 0 s) = S.m
  q (t j : Fin 128) : q (ix2 t j) = x.q t j
  k (s j : Fin 128) : kt (ix2 j s) = x.k s j
  v (s d : Fin 128) : v (ix2 s d) = x.v s d
  C (d j : Fin 128) (h : d.val < 256) : c (ix2 j ⟨d.val, h⟩) = S.C d j
  n (d j : Fin 128) (h : 128 + d.val < 256) : c (ix2 j ⟨128 + d.val, h⟩) = S.n j

variable {x : Chunk} {S : State} {b li m : FVec Ideal S1x128 .f32} {q kt v : FVec Ideal S128x128 .bf16} {c : FVec Ideal S128x256 .f32}

theorem ninf : Ideal.ofBits .f32 0xFF800000#32 = (⊥ : EReal) := rfl

theorem bLast_eq (h : Reads x S b li m q kt v c) (j : S1x1.Idx) : bLast b j = x.b 127 := by
  unfold bLast; pointwise; exact h.b 127

theorem uRow_eq (h : Reads x S b li m q kt v c) (s : Fin 128) : uRow b li (ix2 0 s) = x.u s := by
  unfold uRow; pointwise; rw [h.b, h.li]; rfl

theorem uMax_eq (h : Reads x S b li m q kt v c) (j : S1x1.Idx) : uMax (uRow b li) j = x.uM := by
  unfold uMax; pointwise; rw [ninf]
  exact congrArg (fun f : Fin 128 → EReal => Finset.univ.fold max ⊥ f) (funext fun s => uRow_eq h s)

theorem mLoc_eq (h : Reads x S b li m q kt v c) (j : S1x1.Idx) : mLoc b li j = x.b 127 + x.uM := by
  unfold mLoc; pointwise; rw [bLast_eq h, uMax_eq h]

theorem exRow_eq (f : FVec Ideal S1x128 .f32) (s : Fin 128) (r : EReal) (h : f (ix2 0 s) = r) : exRow f (ix2 0 s) = Ideal.exp r := by
  unfold exRow; pointwise; rw [h]; exact exp2_log2e r

theorem exMat_eq (f : FVec Ideal S128x128 .f32) (t s : Fin 128) (r : EReal) (h : f (ix2 t s) = r) : exMat f (ix2 t s) = Ideal.exp r := by
  unfold exMat; pointwise; rw [h]; exact exp2_log2e r

theorem mNext_eq (h : Reads x S b li m q kt v c) (s : Fin 128) : mNext b li m (ix2 0 s) = (x.next S).m := by
  unfold mNext bc1; pointwise; rw [bLast_eq h, mLoc_eq h, h.m, x.mN_eq]; rfl

theorem wKeys_eq (h : Reads x S b li m q kt v c) (j s : Fin 128) :
    wKeys b li kt (ix2 j s) = x.k s j * Ideal.exp (x.u s - x.uM) := by
  unfold wKeys bc1; pointwise
  rw [h.k, exRow_eq _ s (x.u s - x.uM)]
  pointwise; rw [uMax_eq h, ← uRow_eq h]

theorem vOnes_left (h : Reads x S b li m q kt v c) (s d : Fin 128) (hd : d.val < 256) : vOnes v (ix2 s ⟨d.val, hd⟩) = x.v s d := by
  unfold vOnes; pointwise; first | exact h.v s d | (rw [dif_pos d.isLt]; exact h.v s d)

theorem vOnes_right (s d : Fin 128) (hd : 128 + d.val < 256) : vOnes v (ix2 s ⟨128 + d.val, hd⟩) = 1 := by
  unfold vOnes; pointwise

theorem wide_left (g : FVec Ideal S1x128 .f32) (j d : Fin 128) (hd : d.val < 256) : wide g (ix2 j ⟨d.val, hd⟩) = g (ix2 0 d) := by
  unfold wide; pointwise; first | done | (rw [dif_pos d.isLt])

theorem wide_right (g : FVec Ideal S1x128 .f32) (j d : Fin 128) (hd : 128 + d.val < 256) : wide g (ix2 j ⟨128 + d.val, hd⟩) = g (ix2 0 d) := by
  unfold wide; pointwise; first | done | (rw [dif_neg (by omega)]; congr 1; exact congrArg (ix2 0) (Fin.ext (by simp)))

theorem decay_eq (h : Reads x S b li m q kt v c) (s : Fin 128) :
    exRow (subf (addf (bc1 (bLast b)) m) (mNext b li m)) (ix2 0 s) = x.decay S := by
  rw [exRow_eq _ s (x.b 127 + S.m - x.mN S)]; · rfl
  unfold bc1; pointwise; rw [bLast_eq h, h.m, mNext_eq h]; rfl

theorem gain_eq (h : Reads x S b li m q kt v c) (s : Fin 128) :
    exRow (subf (bc1 (mLoc b li)) (mNext b li m)) (ix2 0 s) = x.gain S := by
  rw [exRow_eq _ s (x.b 127 + x.uM - x.mN S)]; · rfl
  unfold bc1; pointwise; rw [mLoc_eq h, mNext_eq h]; rfl

/-- The state the kernel leaves, and its normalizer, are the recurrence's. -/
theorem cNext_left (h : Reads x S b li m q kt v c) (d j : Fin 128) (hd : d.val < 256) :
    cNext b li m kt v c (ix2 j ⟨d.val, hd⟩) = (x.next S).C d j := by
  unfold cNext upd; pointwise
  rw [wide_left, wide_left, decay_eq h, gain_eq h, h.C d j, ← x.C_eq]
  congr 2
  exact Finset.sum_congr rfl fun s _ => by rw [wKeys_eq h, vOnes_left h]

theorem cNext_right (h : Reads x S b li m q kt v c) (d j : Fin 128) (hd : 128 + d.val < 256) :
    cNext b li m kt v c (ix2 j ⟨128 + d.val, hd⟩) = (x.next S).n j := by
  unfold cNext upd; pointwise
  rw [wide_right, wide_right, decay_eq h, gain_eq h, h.n d j, ← x.n_eq]
  congr 2
  exact Finset.sum_congr rfl fun s _ => by rw [wKeys_eq h, vOnes_right]

theorem bCol_eq (h : Reads x S b li m q kt v c) (t : Fin 128) : bCol b (ix2 t 0) = x.b t := by
  unfold bCol; pointwise
  rw [Finset.sum_eq_single t]
  · rw [← h.b t]; simp [IntOp.cmpi, Scalar.select]
  · intro s _ hs
    have : ¬ (BitVec.ofNat 32 s.val = BitVec.ofNat 32 t.val) := fun e => hs (Fin.ext (by
      have := congrArg BitVec.toNat e; simp only [BitVec.toNat_ofNat] at this; omega))
    simp [IntOp.cmpi, Scalar.select, this, beq_eq_false_iff_ne.mpr this]
  · exact fun hn => absurd (Finset.mem_univ t) hn

theorem sle_iota (t s : Fin 128) : IntOp.cmpi .sle (BitVec.ofNat 32 s.val) (BitVec.ofNat 32 t.val) = if s ≤ t then 1#1 else 0#1 := by
  revert t s; decide +kernel

theorem dMat_eq (h : Reads x S b li m q kt v c) (t s : Fin 128) : dMat b li (ix2 t s) = x.E t s := by
  unfold dMat bcCol; pointwise
  rw [sle_iota, Chunk.E]
  by_cases hs : s ≤ t
  · rw [if_pos hs, if_pos hs, bCol_eq h, uRow_eq h, x.D_eq]; rfl
  · rw [if_neg hs, if_neg hs]; rfl

theorem mD_eq (h : Reads x S b li m q kt v c) (t : Fin 128) : mD b li (ix2 t 0) = x.mD t := by
  unfold mD; pointwise; rw [ninf]
  exact congrArg (fun f : Fin 128 → EReal => Finset.univ.fold max ⊥ f) (funext fun s => dMat_eq h t s)

theorem scores_eq (h : Reads x S b li m q kt v c) (t s : Fin 128) : scores b li q kt (ix2 t s) = x.qk t s * x.wD t s := by
  unfold scores; pointwise
  rw [exMat_eq _ t s (x.E t s - x.mD t)]
  · congr 1
    exact Finset.sum_congr rfl fun j _ => by rw [h.q, h.k]
  · unfold bcCol; pointwise; rw [dMat_eq h, mD_eq h]

theorem aMat_eq (h : Reads x S b li m q kt v c) (t s : Fin 128) : aMat b m (ix2 t s) = x.b t + S.m := by
  unfold aMat bcCol; pointwise; rw [bCol_eq h, h.m]

theorem mT_eq (h : Reads x S b li m q kt v c) (t s : Fin 128) : mT b li m (ix2 t s) = x.mT S t := by
  unfold mT bcCol; pointwise; rw [aMat_eq h, mD_eq h]; rfl

theorem mix_eq (h : Reads x S b li m q kt v c) (f g : FVec Ideal S128x128 .f32) (t s : Fin 128) (p r : EReal)
    (hf : f (ix2 t s) = p) (hg : g (ix2 t s) = r) : mix b li m f g (ix2 t s) = x.wC S t * p + x.up S t * r := by
  unfold mix; pointwise
  rw [hf, hg, exMat_eq _ t s (x.b t + S.m - x.mT S t), exMat_eq _ t s (x.mD t - x.mT S t)]
  · rfl
  · unfold bcCol; pointwise; rw [mD_eq h, mT_eq h]
  · pointwise; rw [aMat_eq h, mT_eq h]

/-- What the kernel answers is what the recurrence answers. -/
theorem hMat_eq (h : Reads x S b li m q kt v c) (t d : Fin 128) : hMat b li m q kt v c (ix2 t d) = x.h S t d := by
  have hn : mix b li m (left (inter q c)) (left (intra b li q kt v)) (ix2 t d) = x.num S t d := by
    rw [mix_eq h _ _ t d (∑ j, x.q t j * S.C d j) (∑ s', x.qk t s' * x.wD t s' * x.v s' d), x.num_eq]
    · unfold left inter; pointwise
      exact Finset.sum_congr rfl fun j _ => by rw [h.q, h.C d j]
    · unfold left intra; pointwise
      exact Finset.sum_congr rfl fun s _ => by rw [scores_eq h, vOnes_left h]
  have hd : mix b li m (right (inter q c)) (right (intra b li q kt v)) (ix2 t d) = x.den S t := by
    rw [mix_eq h _ _ t d (∑ j, x.q t j * S.n j) (∑ s', x.qk t s' * x.wD t s' * 1), x.den_eq]
    · unfold right inter; pointwise
      exact Finset.sum_congr rfl fun j _ => by rw [h.q, h.n d j]
    · unfold right intra; pointwise
      exact Finset.sum_congr rfl fun s _ => by rw [scores_eq h, vOnes_right, mul_one]
  unfold hMat; pointwise
  rw [hn, hd, exMat_eq _ t d (-(x.mT S t))]
  · rfl
  · pointwise; rw [mT_eq h, zero_sub]

end Cert.KernelIdeal.Body

end
-- ==== Proof.Rows.lean ====
/-
  The recurrence's inputs, chunk by chunk, and the state of a head before each of its chunks.
-/
module

public import proofs.«01_k».proof.Proof.Mlstm

@[expose] public section

noncomputable section

namespace Cert.Mlstm

/-- The inputs: queries, keys and values by sequence, head, chunk, row and coordinate; the gates by row. -/
structure Data where
  q : Fin 16 → Fin 4 → Fin 32 → Fin 128 → Fin 128 → EReal
  k : Fin 16 → Fin 4 → Fin 32 → Fin 128 → Fin 128 → EReal
  v : Fin 16 → Fin 4 → Fin 32 → Fin 128 → Fin 128 → EReal
  b : Fin 16 → Fin 4 → Fin 32 → Fin 128 → EReal
  li : Fin 16 → Fin 4 → Fin 32 → Fin 128 → EReal

namespace Data

variable (D : Data)

/-- A chunk of a head of a sequence. -/
def chunk (B : Fin 16) (H : Fin 4) (g : Fin 32) : Chunk := ⟨D.b B H g, D.li B H g, D.q B H g, D.k B H g, D.v B H g⟩

/-- The state of a head before chunk `k`. -/
def stateAt (B : Fin 16) (H : Fin 4) : Nat → State
  | 0 => State.zero
  | k + 1 => if hk : k < 32 then (D.chunk B H ⟨k, hk⟩).next (stateAt B H k) else stateAt B H k

theorem stateAt_succ (B : Fin 16) (H : Fin 4) (g : Fin 32) : D.stateAt B H (g.val + 1) = (D.chunk B H g).next (D.stateAt B H g.val) := by
  show (if hk : g.val < 32 then _ else _) = _
  rw [dif_pos g.isLt]

/-- What a row of a chunk answers. -/
def answer (B : Fin 16) (H : Fin 4) (g : Fin 32) (t d : Fin 128) : EReal := (D.chunk B H g).h (D.stateAt B H g.val) t d

/-- The arrays hold the inputs. -/
structure Of (qb : Fin 16 → Fin 4096 → Fin 512 → EReal) (kbt : Fin 16 → Fin 512 → Fin 4096 → EReal) (vb : Fin 16 → Fin 4096 → Fin 512 → EReal)
    (bcs li : Fin 16 → Fin 4 → Fin 32 → Fin 128 → EReal) : Prop where
  q (B : Fin 16) (H : Fin 4) (g : Fin 32) (t j : Fin 128) : qb B ⟨g.val * 128 + t.val, by omega⟩ ⟨H.val * 128 + j.val, by omega⟩ = D.q B H g t j
  k (B : Fin 16) (H : Fin 4) (g : Fin 32) (t j : Fin 128) : kbt B ⟨H.val * 128 + j.val, by omega⟩ ⟨g.val * 128 + t.val, by omega⟩ = D.k B H g t j
  v (B : Fin 16) (H : Fin 4) (g : Fin 32) (t j : Fin 128) : vb B ⟨g.val * 128 + t.val, by omega⟩ ⟨H.val * 128 + j.val, by omega⟩ = D.v B H g t j
  b (B : Fin 16) (H : Fin 4) (g : Fin 32) (t : Fin 128) : bcs B H g t = D.b B H g t
  li (B : Fin 16) (H : Fin 4) (g : Fin 32) (t : Fin 128) : li B H g t = D.li B H g t

end Data

end Cert.Mlstm

end
-- ==== Proof.Spec.lean ====
/-
  What a row of the result is, at the extended reals, from the row's answers of the recurrence: the layer norm of each head,
  its scale and output gate, the gated merge of the two mixers, the output projection and the channel mixer.
-/
module

public import proofs.«01_k».proof.Proof.ItemValue
public import proofs.«01_k».proof.Proof.Rows

@[expose] public section

noncomputable section

namespace Cert.Tail

open Idealize.ShloMosaic

/-- A vector of 128 numbers less its mean. -/
def centred (a : Fin 128 → EReal) (d : Fin 128) : EReal := a d - Ideal.div (∑ j, a j) (Ideal.ofBits .f32 0x43000000#32)
/-- Its layer norm. -/
def normed (a : Fin 128 → EReal) (d : Fin 128) : EReal :=
  centred a d * Ideal.rsqrt (Ideal.div (∑ j, centred a j * centred a j) (Ideal.ofBits .f32 0x43000000#32) + Ideal.ofBits .f32 0x358637BD#32)
/-- The mixer's gated output, from the four heads' answers. -/
def gated (a : Fin 4 → Fin 128 → EReal) (gh og : Fin 512 → EReal) (c : Fin 512) : EReal :=
  normed (a ⟨c.val / 128, by omega⟩) ⟨c.val % 128, by omega⟩ * gh c * og c

/-- The weights. -/
structure Weights where
  wfo : Fin 512 → Fin 1024 → EReal
  wmo : Fin 512 → Fin 1024 → EReal
  wo : Fin 1024 → Fin 1024 → EReal
  g : Fin 1024 → EReal
  wg : Fin 1024 → Fin 2816 → EReal
  wu : Fin 1024 → Fin 2816 → EReal
  wd : Fin 2816 → Fin 1024 → EReal

/-- A row's inputs. -/
structure Row where
  x : Fin 1024 → EReal
  mga : Fin 1024 → EReal
  mgb : Fin 1024 → EReal
  ya : Fin 512 → EReal
  y : Fin 512 → EReal

/-- The logistic function. -/
def logi (z : EReal) : EReal := Ideal.div 1 (1 + Ideal.exp (-z))

namespace Row
variable (r : Row) (w : Weights)
def merged (l : Fin 1024) : EReal := r.mga l * (∑ c, r.ya c * w.wfo c l) + r.mgb l * ∑ c, r.y c * w.wmo c l
/-- The residual stream after the mixers. -/
def x1 (j : Fin 1024) : EReal := r.x j + ∑ l, r.merged w l * w.wo l j
/-- Its rms norm. -/
def rms (j : Fin 1024) : EReal :=
  r.x1 w j * Ideal.rsqrt (Ideal.div (∑ l, r.x1 w l * r.x1 w l) (Ideal.ofBits .f32 0x44800000#32) + Ideal.ofBits .f32 0x358637BD#32) * w.g j
/-- The channel mixer's hidden lanes. -/
def act (f : Fin 2816) : EReal :=
  (∑ l, r.rms w l * w.wg l f) * logi (∑ l, r.rms w l * w.wg l f) * ∑ l, r.rms w l * w.wu l f
def out (j : Fin 1024) : EReal := r.x1 w j + ∑ f, r.act w f * w.wd f j
end Row

end Cert.Tail

end
-- ==== Proof.TileValue.lean ====
/-
  What a point's steps after the recurrence are, row by row, at the extended reals: the row's values of Spec.lean, from the
  blocks the point reads.
-/
module

public import proofs.«01_k».proof.Proof.Tile
public import proofs.«01_k».proof.Proof.Spec
public import Idealize.ShloMosaic.Lib.Pipeline.Value

@[expose] public section

noncomputable section

namespace Cert.KernelIdeal.Body

open Cert.KernelIdeal.Gen Cert.Tail
open Idealize.ShloMosaic Idealize.ShloMosaic.TcCoe Idealize.ShloMosaic.Tactic

/-- A load of a buffer that holds `x`, at an element: `x` at the coordinates offset. -/
theorem unread_at {s : Shape} {e : EltTy} (a : Memref sig .tc .vmem s e) (ha : a.IsWhole) (x : Vec Ideal s e) (off size : Fin s.rank → Nat)
    (inb : ∀ b, off b + size b ≤ s.size b) (y : (Rect.unit off size inb).shape.Idx) (i : s.Idx) (hi : ∀ b, (i b : Nat) = off b + y b) :
    View.readAt (Elt Ideal) a.view (Rect.unit (s := s) off size inb).toLoadRect (ha.unread x) y = x i := by
  rw [View.readAt_eq_ld, Memref.IsWhole.read_unread]
  exact congrArg x (funext fun b => Fin.ext ((congrArg (off b + ·) (Nat.one_mul (y b).val)).trans (hi b).symm))

section
variable {e : EltTy} (a : Memref sig .tc .vmem S1x512x1024 e) (ha : a.IsWhole) (x : Vec Ideal S1x512x1024 e)
theorem xAt_eq : xAt a ha x = x := by
  funext y; exact unread_at a ha x ![0, 0, 0] S1x512x1024.size inb_x y y fun b => by
    match b with
    | 0 | 1 | 2 => exact (Nat.zero_add _).symm
end
theorem yAt_eq (a : Memref sig .tc .vmem S1x512x512 .bf16) (ha : a.IsWhole) (x : Vec Ideal S1x512x512 .bf16) : yAt a ha x = x := by
  funext y; exact unread_at a ha x ![0, 0, 0] S1x512x512.size inb_y y y fun b => by
    match b with
    | 0 | 1 | 2 => exact (Nat.zero_add _).symm
theorem wfAt_eq (a : Memref sig .tc .vmem S512x1024 .bf16) (ha : a.IsWhole) (x : Vec Ideal S512x1024 .bf16) : wfAt a ha x = x := by
  funext y; exact unread_at a ha x ![0, 0] S512x1024.size inb_wf y y fun b => by
    match b with
    | 0 | 1 => exact (Nat.zero_add _).symm
theorem woAt_eq (a : Memref sig .tc .vmem S1024x1024 .bf16) (ha : a.IsWhole) (x : Vec Ideal S1024x1024 .bf16) : woAt a ha x = x := by
  funext y; exact unread_at a ha x ![0, 0] S1024x1024.size inb_wo y y fun b => by
    match b with
    | 0 | 1 => exact (Nat.zero_add _).symm
theorem gfAt_eq (a : Memref sig .tc .vmem S1x1024 .f32) (ha : a.IsWhole) (x : Vec Ideal S1x1024 .f32) : gfAt a ha x = x := by
  funext y; exact unread_at a ha x ![0, 0] S1x1024.size inb_gf y y fun b => by
    match b with
    | 0 | 1 => exact (Nat.zero_add _).symm
theorem wgAt_at (a : Memref sig .tc .vmem S1024x2816 .bf16) (ha : a.IsWhole) (x : Vec Ideal S1024x2816 .bf16) (k : Fin 11) (l : Fin 1024) (f : Fin 256) :
    wgAt a ha x k (ix2 l f) = x (ix2 l ⟨256 * k.val + f.val, by omega⟩) :=
  unread_at a ha x ![0, 256 * k.val] S1024x256.size (inb_wg k) (ix2 l f) (ix2 l ⟨256 * k.val + f.val, by omega⟩) fun b => by
    match b with
    | 0 => exact (Nat.zero_add _).symm
    | 1 => rfl
theorem wdAt_at (a : Memref sig .tc .vmem S2816x1024 .bf16) (ha : a.IsWhole) (x : Vec Ideal S2816x1024 .bf16) (k : Fin 11) (f : Fin 256) (j : Fin 1024) :
    wdAt a ha x k (ix2 f j) = x (ix2 ⟨256 * k.val + f.val, by omega⟩ j) :=
  unread_at a ha x ![256 * k.val, 0] S256x1024.size (inb_wd k) (ix2 f j) (ix2 ⟨256 * k.val + f.val, by omega⟩ j) fun b => by
    match b with
    | 0 => rfl
    | 1 => exact (Nat.zero_add _).symm

/-- A row of the blocks. -/
def tileRow (x : Vec Ideal S1x512x1024 .f32) (ya : Vec Ideal S1x512x512 .bf16) (mga mgb : Vec Ideal S1x512x1024 .bf16) (y : Vec Ideal S1x512x512 .bf16) (t : Fin 512) : Row where
  x j := x (ix3 0 t j)
  mga j := mga (ix3 0 t j)
  mgb j := mgb (ix3 0 t j)
  ya c := ya (ix3 0 t c)
  y c := y (ix3 0 t c)

/-- The weights' blocks. -/
def tileWeights (wfo wmo : Vec Ideal S512x1024 .bf16) (wo : Vec Ideal S1024x1024 .bf16) (g : Vec Ideal S1x1024 .f32) (wg wu : Vec Ideal S1024x2816 .bf16) (wd : Vec Ideal S2816x1024 .bf16) : Weights where
  wfo c j := wfo (ix2 c j)
  wmo c j := wmo (ix2 c j)
  wo l j := wo (ix2 l j)
  g j := g (ix2 0 j)
  wg l f := wg (ix2 l f)
  wu l f := wu (ix2 l f)
  wd f j := wd (ix2 f j)

theorem flat_at {e : EltTy} (x : Vec Ideal S1x512x1024 e) (t : Fin 512) (j : Fin 1024) : flat x (ix2 t j) = x (ix3 0 t j) := by
  unfold flat; pointwise
theorem flatY_at (x : Vec Ideal S1x512x512 .bf16) (t c : Fin 512) : flatY x (ix2 t c) = x (ix3 0 t c) := by
  unfold flatY; pointwise
theorem toModel_at (y : Vec Ideal S1x512x512 .bf16) (w : FVec Ideal S512x1024 .bf16) (t : Fin 512) (j : Fin 1024) :
    toModel y w (ix2 t j) = ∑ c : Fin 512, y (ix3 0 t c) * w (ix2 c j) := by
  unfold toModel; pointwise; simp only [flatY_at]
theorem merged_at (ya : Vec Ideal S1x512x512 .bf16) (mga mgb : Vec Ideal S1x512x1024 .bf16) (yb : Vec Ideal S1x512x512 .bf16) (wfo wmo : FVec Ideal S512x1024 .bf16) (t : Fin 512) (j : Fin 1024) :
    merged ya mga mgb yb wfo wmo (ix2 t j) = mga (ix3 0 t j) * (∑ c : Fin 512, ya (ix3 0 t c) * wfo (ix2 c j)) + mgb (ix3 0 t j) * ∑ c : Fin 512, yb (ix3 0 t c) * wmo (ix2 c j) := by
  unfold merged; pointwise; simp only [flat_at, toModel_at]
theorem rms_at (x : FVec Ideal S512x1024 .f32) (g : FVec Ideal S1x1024 .f32) (t : Fin 512) (j : Fin 1024) :
    rms x g (ix2 t j) = x (ix2 t j) * Ideal.rsqrt (Ideal.div (∑ l : Fin 1024, x (ix2 t l) * x (ix2 t l)) (Ideal.ofBits .f32 0x44800000#32) + Ideal.ofBits .f32 0x358637BD#32) * g (ix2 0 j) := by
  unfold rms; pointwise
theorem hidden_at (h : FVec Ideal S512x1024 .bf16) (w : FVec Ideal S1024x256 .bf16) (t : Fin 512) (f : Fin 256) :
    hidden h w (ix2 t f) = ∑ l : Fin 1024, h (ix2 t l) * w (ix2 l f) := by
  unfold hidden; pointwise

theorem minus_log2e_eq : (Named.named κ "minus_log2e" 0xBFB8AA3B#32 : Ideal .f32) = ((-(Real.log 2)⁻¹ : ℝ) : EReal) := rfl

theorem exp2_minus (z : EReal) : Ideal.exp2 (z * ((-(Real.log 2)⁻¹ : ℝ) : EReal)) = Ideal.exp (-z) := by
  have hn : -(Real.log 2)⁻¹ < 0 := neg_lt_zero.mpr (inv_pos.mpr (Real.log_pos (by norm_num)))
  induction z with
  | bot => rw [EReal.bot_mul_coe_of_neg hn, EReal.neg_bot, Ideal.exp2_top, Ideal.exp_top]
  | top => rw [EReal.top_mul_coe_of_neg hn, EReal.neg_top, Ideal.exp2_bot, Ideal.exp_bot]
  | coe r =>
    rw [← exp2_log2e]
    congr 1
    rw [← EReal.coe_neg]
    rw [← EReal.coe_mul, ← EReal.coe_mul]; congr 1; ring

theorem silu_at (z : FVec Ideal S512x256 .f32) (t : Fin 512) (f : Fin 256) : silu z (ix2 t f) = z (ix2 t f) * logi (z (ix2 t f)) := by
  unfold silu; pointwise
  rw [minus_log2e_eq]
  refine (congrArg (fun w => z (ix2 t f) * Ideal.div 1 (1 + w)) (exp2_minus _)).trans ?_
  rfl

theorem ffnStep_at (h : FVec Ideal S512x1024 .bf16) (wg wu : FVec Ideal S1024x256 .bf16) (wd : FVec Ideal S256x1024 .bf16) (acc : Vec Ideal S1x512x1024 .f32) (t : Fin 512) (j : Fin 1024) :
    ffnStep h wg wu wd acc (ix3 0 t j) = acc (ix3 0 t j) + ∑ f : Fin 256, hidden h wg (ix2 t f) * logi (hidden h wg (ix2 t f)) * hidden h wu (ix2 t f) * wd (ix2 f j) := by
  unfold ffnStep; pointwise; simp only [flat_at, silu_at]

section
variable (x : Vec Ideal S1x512x1024 .f32) (ya : Vec Ideal S1x512x512 .bf16) (mga mgb : Vec Ideal S1x512x1024 .bf16) (y : Vec Ideal S1x512x512 .bf16)
  (wfo wmo : Vec Ideal S512x1024 .bf16) (wo : Vec Ideal S1024x1024 .bf16) (g : Vec Ideal S1x1024 .f32) (wg wu : Vec Ideal S1024x2816 .bf16) (wd : Vec Ideal S2816x1024 .bf16)
  (t : Fin 512)

theorem x1_at (j : Fin 1024) : x1 x ya mga mgb y wfo wmo wo (ix2 t j) = (tileRow x ya mga mgb y t).x1 (tileWeights wfo wmo wo g wg wu wd) j := by
  unfold x1; pointwise; simp only [flat_at, merged_at]; rfl

theorem rms_x1_at (j : Fin 1024) : rms (x1 x ya mga mgb y wfo wmo wo) g (ix2 t j) = (tileRow x ya mga mgb y t).rms (tileWeights wfo wmo wo g wg wu wd) j := by
  rw [rms_at]; simp only [x1_at x ya mga mgb y wfo wmo wo g wg wu wd]; rfl

/-- The hidden lanes' terms, by lane. -/
def term (j : Fin 1024) (f : ℕ) : EReal :=
  if hf : f < 2816 then (tileRow x ya mga mgb y t).act (tileWeights wfo wmo wo g wg wu wd) ⟨f, hf⟩ * wd (ix2 ⟨f, hf⟩ j) else 0

variable (bg bu : Fin 11 → FVec Ideal S1024x256 .bf16) (bd : Fin 11 → FVec Ideal S256x1024 .bf16)
  (hg : ∀ k l f, bg k (ix2 l f) = wg (ix2 l ⟨256 * k.val + f.val, by omega⟩))
  (hu : ∀ k l f, bu k (ix2 l f) = wu (ix2 l ⟨256 * k.val + f.val, by omega⟩))
  (hd : ∀ k f j, bd k (ix2 f j) = wd (ix2 ⟨256 * k.val + f.val, by omega⟩ j))
include hg hu hd

theorem acc_at (j : Fin 1024) : ∀ (k : ℕ) (hk : k ≤ 11),
    acc (x1 x ya mga mgb y wfo wmo wo) (rms (x1 x ya mga mgb y wfo wmo wo) g) bg bu bd k hk (ix3 0 t j)
      = (tileRow x ya mga mgb y t).x1 (tileWeights wfo wmo wo g wg wu wd) j + ∑ f ∈ Finset.range (256 * k), term x ya mga mgb y wfo wmo wo g wg wu wd t j f
  | 0, _ => by
    show shapeCast S1x512x1024 _ _ (ix3 0 t j) = _
    pointwise
    rw [x1_at x ya mga mgb y wfo wmo wo g wg wu wd]
    exact (add_zero _).symm
  | k + 1, hk => by
    show ffnStep _ _ _ _ _ (ix3 0 t j) = _
    rw [ffnStep_at, acc_at j k (Nat.le_of_succ_le hk), Nat.mul_succ, Finset.sum_range_add, ← add_assoc]
    congr 1
    rw [Finset.sum_range]
    refine Finset.sum_congr rfl fun f _ => ?_
    have hf : 256 * k + f.val < 2816 := by omega
    unfold term
    rw [dif_pos hf, hd]
    simp only [hidden_at, rms_x1_at x ya mga mgb y wfo wmo wo g wg wu wd, hg, hu]
    rfl

/-- A row of what the point leaves in the output block. -/
theorem acc_out (j : Fin 1024) :
    acc (x1 x ya mga mgb y wfo wmo wo) (rms (x1 x ya mga mgb y wfo wmo wo) g) bg bu bd 11 le_rfl (ix3 0 t j)
      = (tileRow x ya mga mgb y t).out (tileWeights wfo wmo wo g wg wu wd) j := by
  rw [acc_at x ya mga mgb y wfo wmo wo g wg wu wd t bg bu bd hg hu hd j 11 le_rfl, show 256 * 11 = 2816 from rfl, Finset.sum_range]
  refine congrArg (fun u : EReal => (tileRow x ya mga mgb y t).x1 (tileWeights wfo wmo wo g wg wu wd) j + u) (Finset.sum_congr rfl fun f _ => ?_)
  unfold term
  rw [dif_pos f.isLt]
  rfl
end

/-- A chunk's gated answers of one head. -/
theorem gated_at (h : FVec Ideal S128x128 .f32) (gh : FVec Ideal S1x128 .f32) (og : FVec Ideal S128x128 .bf16) (t d : Fin 128) :
    Cert.KernelIdeal.Body.gated h gh og (ix2 t d) = normed (fun d => h (ix2 t d)) d * gh (ix2 0 d) * og (ix2 t d) := by
  have hm (x : FVec Ideal S128x128 .f32) (t : Fin 128) : meanCol x (ix2 t 0) = Ideal.div (∑ j : Fin 128, x (ix2 t j)) (Ideal.ofBits .f32 0x43000000#32) := by
    unfold meanCol; pointwise
  have hc (t d : Fin 128) : Cert.KernelIdeal.Body.centred h (ix2 t d) = Cert.Tail.centred (fun d => h (ix2 t d)) d := by
    unfold Cert.KernelIdeal.Body.centred bcCol; pointwise; rw [hm]; rfl
  unfold Cert.KernelIdeal.Body.gated bcCol; pointwise; rw [hm]
  simp only [hc]
  refine congrArg (fun z => Cert.Tail.centred _ d * Ideal.rsqrt (Ideal.div z _ + _) * _ * _) (Finset.sum_congr rfl fun j _ => ?_)
  exact congrArg₂ (· * ·) (hc t j) (hc t j)

end Cert.KernelIdeal.Body

end
-- ==== Proof.Slots.lean ====
/-
  What a tile's stores leave in the three scratch buffers, at an element: the heads' states and stabilizers, and the sixteen
  squares of a half of the mixer's output buffer.
-/
module

public import proofs.«01_k».proof.Proof.Tile
public import Idealize.ShloMosaic.Lib.WritesUnit
public import Idealize.ShloMosaic.Lib.Pointwise

@[expose] public section

noncomputable section

namespace Cert.KernelIdeal.Body

open Cert.KernelIdeal.Gen
open Idealize.ShloMosaic Idealize.ShloMosaic.TcCoe Idealize.ShloMosaic.Tactic

section
variable (a : Memref sig .tc .vmem S4x128x256 .f32) (f : a.view.ty.Contents (Elt Ideal))

theorem c_hit (L : List (View.Piece (Elt Ideal) S4x128x256 .f32)) (h : Fin 4) (w : FVec Ideal S128x256 .f32) (inb) (j : Fin 128) (e : Fin 256) :
    a.view.read (Elt Ideal) (a.view.writes (Elt Ideal) f (⟨Rect.unit (s := S4x128x256) ![h.val, 0, 0] S1x128x256.size inb, putC w⟩ :: L)) (ix3 h j e) = w (ix2 j e) := by
  refine (View.read_writes_cons_unit_of_mem a.view f (off' := ![h.val, 0, 0]) inb (putC w) L (ix3 h j e) (ix3 0 j e) rfl fun b => ?_).trans ?_
  · match b with
    | 0 => rfl
    | 1 | 2 => exact (Nat.zero_add _).symm
  · unfold putC; pointwise

theorem c_miss (L : List (View.Piece (Elt Ideal) S4x128x256 .f32)) (h h' : Fin 4) (hne : h' ≠ h) (w : Vec Ideal S1x128x256 .f32) (inb) (j : Fin 128) (e : Fin 256) :
    a.view.read (Elt Ideal) (a.view.writes (Elt Ideal) f (⟨Rect.unit (s := S4x128x256) ![h.val, 0, 0] S1x128x256.size inb, w⟩ :: L)) (ix3 h' j e)
      = a.view.read (Elt Ideal) (a.view.writes (Elt Ideal) f L) (ix3 h' j e) :=
  View.read_writes_cons_unit_of_not_mem a.view f (off' := ![h.val, 0, 0]) inb w L (ix3 h' j e) rfl 0 (by
    have : h'.val ≠ h.val := fun hh => hne (Fin.ext hh)
    show h'.val < h.val ∨ h.val + 1 ≤ h'.val
    omega)

/-- The four heads' states, stored one after the other. -/
theorem c_four (L : List (View.Piece (Elt Ideal) S4x128x256 .f32)) (w : Fin 4 → FVec Ideal S128x256 .f32) (h : Fin 4) (j : Fin 128) (e : Fin 256) :
    a.view.read (Elt Ideal) (a.view.writes (Elt Ideal) f
      (⟨Rect.unit (s := S4x128x256) ![3, 0, 0] S1x128x256.size (inb_c 3), putC (w 3)⟩ ::
       ⟨Rect.unit (s := S4x128x256) ![2, 0, 0] S1x128x256.size (inb_c 2), putC (w 2)⟩ ::
       ⟨Rect.unit (s := S4x128x256) ![1, 0, 0] S1x128x256.size (inb_c 1), putC (w 1)⟩ ::
       ⟨Rect.unit (s := S4x128x256) ![0, 0, 0] S1x128x256.size (inb_c 0), putC (w 0)⟩ :: L)) (ix3 h j e) = w h (ix2 j e) := by
  match h with
  | 3 => exact c_hit a f _ 3 (w 3) _ j e
  | 2 => exact (c_miss a f _ 3 2 (by decide) _ _ j e).trans (c_hit a f _ 2 (w 2) _ j e)
  | 1 => exact (c_miss a f _ 3 1 (by decide) _ _ j e).trans ((c_miss a f _ 2 1 (by decide) _ _ j e).trans (c_hit a f _ 1 (w 1) _ j e))
  | 0 => exact (c_miss a f _ 3 0 (by decide) _ _ j e).trans ((c_miss a f _ 2 0 (by decide) _ _ j e).trans ((c_miss a f _ 1 0 (by decide) _ _ j e).trans (c_hit a f _ 0 (w 0) _ j e)))
end

section
variable (a : Memref sig .tc .vmem S4x1x128 .f32) (f : a.view.ty.Contents (Elt Ideal))

theorem m_hit (L : List (View.Piece (Elt Ideal) S4x1x128 .f32)) (h : Fin 4) (w : FVec Ideal S1x128 .f32) (inb) (e : Fin 128) :
    a.view.read (Elt Ideal) (a.view.writes (Elt Ideal) f (⟨Rect.unit (s := S4x1x128) ![h.val, 0, 0] S1x1x128.size inb, putM w⟩ :: L)) (ix3 h 0 e) = w (ix2 0 e) := by
  refine (View.read_writes_cons_unit_of_mem a.view f (off' := ![h.val, 0, 0]) inb (putM w) L (ix3 h 0 e) (ix3 0 0 e) rfl fun b => ?_).trans ?_
  · match b with
    | 0 => rfl
    | 1 | 2 => exact (Nat.zero_add _).symm
  · unfold putM; pointwise

theorem m_miss (L : List (View.Piece (Elt Ideal) S4x1x128 .f32)) (h h' : Fin 4) (hne : h' ≠ h) (w : Vec Ideal S1x1x128 .f32) (inb) (e : Fin 128) :
    a.view.read (Elt Ideal) (a.view.writes (Elt Ideal) f (⟨Rect.unit (s := S4x1x128) ![h.val, 0, 0] S1x1x128.size inb, w⟩ :: L)) (ix3 h' 0 e)
      = a.view.read (Elt Ideal) (a.view.writes (Elt Ideal) f L) (ix3 h' 0 e) :=
  View.read_writes_cons_unit_of_not_mem a.view f (off' := ![h.val, 0, 0]) inb w L (ix3 h' 0 e) rfl 0 (by
    have : h'.val ≠ h.val := fun hh => hne (Fin.ext hh)
    show h'.val < h.val ∨ h.val + 1 ≤ h'.val
    omega)

/-- The four heads' stabilizers, stored one after the other. -/
theorem m_four (L : List (View.Piece (Elt Ideal) S4x1x128 .f32)) (w : Fin 4 → FVec Ideal S1x128 .f32) (h : Fin 4) (e : Fin 128) :
    a.view.read (Elt Ideal) (a.view.writes (Elt Ideal) f
      (⟨Rect.unit (s := S4x1x128) ![3, 0, 0] S1x1x128.size (inb_m 3), putM (w 3)⟩ ::
       ⟨Rect.unit (s := S4x1x128) ![2, 0, 0] S1x1x128.size (inb_m 2), putM (w 2)⟩ ::
       ⟨Rect.unit (s := S4x1x128) ![1, 0, 0] S1x1x128.size (inb_m 1), putM (w 1)⟩ ::
       ⟨Rect.unit (s := S4x1x128) ![0, 0, 0] S1x1x128.size (inb_m 0), putM (w 0)⟩ :: L)) (ix3 h 0 e) = w h (ix2 0 e) := by
  match h with
  | 3 => exact m_hit a f _ 3 (w 3) _ e
  | 2 => exact (m_miss a f _ 3 2 (by decide) _ _ e).trans (m_hit a f _ 2 (w 2) _ e)
  | 1 => exact (m_miss a f _ 3 1 (by decide) _ _ e).trans ((m_miss a f _ 2 1 (by decide) _ _ e).trans (m_hit a f _ 1 (w 1) _ e))
  | 0 => exact (m_miss a f _ 3 0 (by decide) _ _ e).trans ((m_miss a f _ 2 0 (by decide) _ _ e).trans ((m_miss a f _ 1 0 (by decide) _ _ e).trans (m_hit a f _ 0 (w 0) _ e)))
end

section
variable (a : Memref sig .tc .vmem S2x512x512 .bf16) (f : a.view.ty.Contents (Elt Ideal)) (p : Fin 2) (r : Fin 4)

theorem y_hit (L : List (View.Piece (Elt Ideal) S2x512x512 .bf16)) (h : Fin 4) (off : Fin 3 → ℕ) (ho : off = ![p.val, 128 * r.val, 128 * h.val])
    (w : Vec Ideal S1x128x128 .bf16) (inb) (t c : Fin 512) (ht : t.val / 128 = r.val) (hh : c.val / 128 = h.val) :
    a.view.read (Elt Ideal) (a.view.writes (Elt Ideal) f (⟨Rect.unit (s := S2x512x512) off S1x128x128.size inb, w⟩ :: L)) (ix3 p t c)
      = w (ix3 0 ⟨t.val % 128, by omega⟩ ⟨c.val % 128, by omega⟩) := by
  refine View.read_writes_cons_unit_of_mem a.view f inb w L (ix3 p t c) (ix3 0 ⟨t.val % 128, by omega⟩ ⟨c.val % 128, by omega⟩) ho fun b => ?_
  match b with
  | 0 => rfl
  | 1 => show t.val = 128 * r.val + t.val % 128; omega
  | 2 => show c.val = 128 * h.val + c.val % 128; omega

theorem y_miss (L : List (View.Piece (Elt Ideal) S2x512x512 .bf16)) (h : Fin 4) (off : Fin 3 → ℕ) (ho : off = ![p.val, 128 * r.val, 128 * h.val])
    (w : Vec Ideal S1x128x128 .bf16) (inb) (p' : Fin 2) (t c : Fin 512) (hne : p' ≠ p ∨ t.val / 128 ≠ r.val ∨ c.val / 128 ≠ h.val) :
    a.view.read (Elt Ideal) (a.view.writes (Elt Ideal) f (⟨Rect.unit (s := S2x512x512) off S1x128x128.size inb, w⟩ :: L)) (ix3 p' t c)
      = a.view.read (Elt Ideal) (a.view.writes (Elt Ideal) f L) (ix3 p' t c) := by
  rcases hne with hp | ht | hc
  · refine View.read_writes_cons_unit_of_not_mem a.view f inb w L (ix3 p' t c) ho 0 ?_
    have : p'.val ≠ p.val := fun hh => hp (Fin.ext hh)
    show p'.val < p.val ∨ p.val + 1 ≤ p'.val
    omega
  · refine View.read_writes_cons_unit_of_not_mem a.view f inb w L (ix3 p' t c) ho 1 ?_
    show t.val < 128 * r.val ∨ 128 * r.val + 128 ≤ t.val
    omega
  · refine View.read_writes_cons_unit_of_not_mem a.view f inb w L (ix3 p' t c) ho 2 ?_
    show c.val < 128 * h.val ∨ 128 * h.val + 128 ≤ c.val
    omega

variable (L : List (View.Piece (Elt Ideal) S2x512x512 .bf16)) (w : Fin 4 → Vec Ideal S1x128x128 .bf16) (o0 o1 o2 o3 : Fin 3 → ℕ)
  (h0 : o0 = ![p.val, 128 * r.val, 0]) (h1 : o1 = ![p.val, 128 * r.val, 128]) (h2 : o2 = ![p.val, 128 * r.val, 256]) (h3 : o3 = ![p.val, 128 * r.val, 384]) (i0 i1 i2 i3)
include h0 h1 h2 h3

/-- A chunk's four squares, stored one after the other: at the chunk's own rows. -/
theorem y_four_hit (t c : Fin 512) (ht : t.val / 128 = r.val) :
    a.view.read (Elt Ideal) (a.view.writes (Elt Ideal) f
      (⟨Rect.unit (s := S2x512x512) o3 S1x128x128.size i3, w 3⟩ :: ⟨Rect.unit (s := S2x512x512) o2 S1x128x128.size i2, w 2⟩ ::
       ⟨Rect.unit (s := S2x512x512) o1 S1x128x128.size i1, w 1⟩ :: ⟨Rect.unit (s := S2x512x512) o0 S1x128x128.size i0, w 0⟩ :: L)) (ix3 p t c)
      = w ⟨c.val / 128, by omega⟩ (ix3 0 ⟨t.val % 128, by omega⟩ ⟨c.val % 128, by omega⟩) := by
  by_cases e3 : c.val / 128 = 3
  · refine (y_hit a f p r _ 3 o3 h3 (w 3) i3 t c ht e3).trans ?_
    rw [show (⟨c.val / 128, by omega⟩ : Fin 4) = 3 from Fin.ext e3]
  refine (y_miss a f p r _ 3 o3 h3 (w 3) i3 p t c (.inr (.inr e3))).trans ?_
  by_cases e2 : c.val / 128 = 2
  · refine (y_hit a f p r _ 2 o2 h2 (w 2) i2 t c ht e2).trans ?_
    rw [show (⟨c.val / 128, by omega⟩ : Fin 4) = 2 from Fin.ext e2]
  refine (y_miss a f p r _ 2 o2 h2 (w 2) i2 p t c (.inr (.inr e2))).trans ?_
  by_cases e1 : c.val / 128 = 1
  · refine (y_hit a f p r _ 1 o1 h1 (w 1) i1 t c ht e1).trans ?_
    rw [show (⟨c.val / 128, by omega⟩ : Fin 4) = 1 from Fin.ext e1]
  refine (y_miss a f p r _ 1 o1 h1 (w 1) i1 p t c (.inr (.inr e1))).trans ?_
  have e0 : c.val / 128 = 0 := by omega
  refine (y_hit a f p r _ 0 o0 h0 (w 0) i0 t c ht e0).trans ?_
  rw [show (⟨c.val / 128, by omega⟩ : Fin 4) = 0 from Fin.ext e0]

/-- And anywhere else. -/
theorem y_four_miss (p' : Fin 2) (t c : Fin 512) (hne : p' ≠ p ∨ t.val / 128 ≠ r.val) :
    a.view.read (Elt Ideal) (a.view.writes (Elt Ideal) f
      (⟨Rect.unit (s := S2x512x512) o3 S1x128x128.size i3, w 3⟩ :: ⟨Rect.unit (s := S2x512x512) o2 S1x128x128.size i2, w 2⟩ ::
       ⟨Rect.unit (s := S2x512x512) o1 S1x128x128.size i1, w 1⟩ :: ⟨Rect.unit (s := S2x512x512) o0 S1x128x128.size i0, w 0⟩ :: L)) (ix3 p' t c)
      = a.view.read (Elt Ideal) (a.view.writes (Elt Ideal) f L) (ix3 p' t c) := by
  have hn (h : Fin 4) : p' ≠ p ∨ t.val / 128 ≠ r.val ∨ c.val / 128 ≠ h.val := hne.imp_right .inl
  exact (y_miss a f p r _ 3 o3 h3 (w 3) i3 p' t c (hn 3)).trans ((y_miss a f p r _ 2 o2 h2 (w 2) i2 p' t c (hn 2)).trans
    ((y_miss a f p r _ 1 o1 h1 (w 1) i1 p' t c (hn 1)).trans (y_miss a f p r _ 0 o0 h0 (w 0) i0 p' t c (hn 0))))
end

end Cert.KernelIdeal.Body

end
-- ==== Proof.HeadValue.lean ====
/-
  A tile of one head: where the point's blocks hold a tile of the recurrence's inputs and the carried vectors hold the
  head's state before the tile, the four chunks' answers are the recurrence's and the vectors left hold the state after it.
-/
module

public import proofs.«01_k».proof.Proof.TileValue
public import proofs.«01_k».proof.Proof.Slots

@[expose] public section

noncomputable section

namespace Cert.KernelIdeal.Body

open Cert.KernelIdeal.Gen Cert.Mlstm
open Idealize.ShloMosaic Idealize.ShloMosaic.TcCoe Idealize.ShloMosaic.Tactic

/-- The chunk `r` of tile `I`. -/
def chunkOf (I : Fin 8) (r : Fin 4) : Fin 32 := ⟨4 * I.val + r.val, by omega⟩

/-- A head's state as the scratch holds it. -/
structure StateIs (S : State) (m : FVec Ideal S1x128 .f32) (c : FVec Ideal S128x256 .f32) : Prop where
  m (s : Fin 128) : m (ix2 0 s) = (S.m : EReal)
  C (d j : Fin 128) : c (ix2 j ⟨d.val, by omega⟩) = (S.C d j : EReal)
  n (d j : Fin 128) : c (ix2 j ⟨128 + d.val, by omega⟩) = (S.n j : EReal)

/-- A head's inputs hold its tile `I`, and its carried vectors the state before it. -/
structure HeadIs (D : Data) (B : Fin 16) (H : Fin 4) (I : Fin 8) (x : Head Ideal) : Prop where
  b (r : Fin 4) (s : Fin 128) : x.b r (ix2 0 s) = (D.b B H (chunkOf I r) s : EReal)
  li (r : Fin 4) (s : Fin 128) : x.li r (ix2 0 s) = (D.li B H (chunkOf I r) s : EReal)
  q (r : Fin 4) (t j : Fin 128) : x.q r (ix2 t j) = (D.q B H (chunkOf I r) t j : EReal)
  k (r : Fin 4) (s j : Fin 128) : x.kt r (ix2 j s) = (D.k B H (chunkOf I r) s j : EReal)
  v (r : Fin 4) (s d : Fin 128) : x.v r (ix2 s d) = (D.v B H (chunkOf I r) s d : EReal)
  state : StateIs (D.stateAt B H (4 * I.val)) x.m x.c

variable {D : Data} {B : Fin 16} {H : Fin 4} {I : Fin 8} {x : Head Ideal}

theorem HeadIs.reads (h : HeadIs D B H I x) (r : Fin 4) {S : State} {m : FVec Ideal S1x128 .f32} {c : FVec Ideal S128x256 .f32} (hs : StateIs S m c) :
    Reads (D.chunk B H (chunkOf I r)) S (x.b r) (x.li r) m (x.q r) (x.kt r) (x.v r) c where
  b := h.b r
  li := h.li r
  m := hs.m
  q := h.q r
  k := h.k r
  v := h.v r
  C d j _ := hs.C d j
  n d j _ := hs.n d j

theorem HeadIs.step (h : HeadIs D B H I x) (r : Fin 4) {m : FVec Ideal S1x128 .f32} {c : FVec Ideal S128x256 .f32} (hs : StateIs (D.stateAt B H (4 * I.val + r.val)) m c) :
    StateIs (D.stateAt B H (4 * I.val + r.val + 1)) (mNext (x.b r) (x.li r) m) (cNext (x.b r) (x.li r) m (x.kt r) (x.v r) c) := by
  have hr := h.reads r hs
  have he : D.stateAt B H (4 * I.val + r.val + 1) = (D.chunk B H (chunkOf I r)).next (D.stateAt B H (4 * I.val + r.val)) := D.stateAt_succ B H (chunkOf I r)
  rw [he]
  exact ⟨mNext_eq hr, fun d j => cNext_left hr d j _, fun d j => cNext_right hr d j _⟩

theorem HeadIs.s1 (h : HeadIs D B H I x) : StateIs (D.stateAt B H (4 * I.val + 1)) x.m1 x.c1 := h.step 0 h.state
theorem HeadIs.s2 (h : HeadIs D B H I x) : StateIs (D.stateAt B H (4 * I.val + 2)) x.m2 x.c2 := h.step 1 h.s1
theorem HeadIs.s3 (h : HeadIs D B H I x) : StateIs (D.stateAt B H (4 * I.val + 3)) x.m3 x.c3 := h.step 2 h.s2
theorem HeadIs.s4 (h : HeadIs D B H I x) : StateIs (D.stateAt B H (4 * I.val + 4)) x.m4 x.c4 := h.step 3 h.s3

/-- The four chunks' answers. -/
theorem HeadIs.answers (h : HeadIs D B H I x) (r : Fin 4) (t d : Fin 128) :
    (![x.h0, x.h1, x.h2, x.h3] : Fin 4 → FVec Ideal S128x128 .f32) r (ix2 t d) = (D.answer B H (chunkOf I r) t d : EReal) := by
  match r with
  | 0 => exact hMat_eq (h.reads 0 h.state) t d
  | 1 => exact hMat_eq (h.reads 1 h.s1) t d
  | 2 => exact hMat_eq (h.reads 2 h.s2) t d
  | 3 => exact hMat_eq (h.reads 3 h.s3) t d

/-- The call's recurrence: its inputs, and the mixer's scale and output gate. -/
structure Call where
  D : Data
  gh : Fin 512 → EReal
  og : Fin 16 → Fin 4096 → Fin 512 → EReal

/-- The mixer's gated output at a row of tile `I` of sequence `B`. -/
def Call.y (K : Call) (B : Fin 16) (I : Fin 8) (t c : Fin 512) : EReal :=
  Cert.Tail.gated (fun H d => (K.D.answer B H ⟨4 * I.val + t.val / 128, by omega⟩ ⟨t.val % 128, by omega⟩ d : EReal)) K.gh
    (K.og B ⟨512 * I.val + t.val, by omega⟩) c

/-- A point's blocks hold tile `I` of sequence `B`. -/
structure BlocksAre (K : Call) (B : Fin 16) (I : Fin 8) (xq xk xv xo : Vec Ideal S1x512x512 .bf16) (xb xl : Vec Ideal S1x4x32x128 .f32) (xg : Vec Ideal S1x512 .f32) : Prop where
  q (r H : Fin 4) (t j : Fin 128) : xq (ix3 0 ⟨128 * r.val + t.val, by omega⟩ ⟨128 * H.val + j.val, by omega⟩) = (K.D.q B H (chunkOf I r) t j : EReal)
  k (r H : Fin 4) (t j : Fin 128) : xk (ix3 0 ⟨128 * H.val + j.val, by omega⟩ ⟨128 * r.val + t.val, by omega⟩) = (K.D.k B H (chunkOf I r) t j : EReal)
  v (r H : Fin 4) (t j : Fin 128) : xv (ix3 0 ⟨128 * r.val + t.val, by omega⟩ ⟨128 * H.val + j.val, by omega⟩) = (K.D.v B H (chunkOf I r) t j : EReal)
  b (H : Fin 4) (g : Fin 32) (s : Fin 128) : xb (ix4 0 H g s) = (K.D.b B H g s : EReal)
  li (H : Fin 4) (g : Fin 32) (s : Fin 128) : xl (ix4 0 H g s) = (K.D.li B H g s : EReal)
  gh (c : Fin 512) : xg (ix2 0 c) = K.gh c
  og (t c : Fin 512) : xo (ix3 0 t c) = K.og B ⟨512 * I.val + t.val, by omega⟩ c

theorem sqAt_at (a : Memref sig .tc .vmem S1x512x512 .bf16) (ha : a.IsWhole) (x : Vec Ideal S1x512x512 .bf16) (r h : Fin 4) (t j : Fin 128) :
    sqAt a ha x r h (ix2 t j) = x (ix3 0 ⟨128 * r.val + t.val, by omega⟩ ⟨128 * h.val + j.val, by omega⟩) := by
  unfold sqAt sq
  refine Eq.trans ?_ (unread_at a ha x ![0, 128 * r.val, 128 * h.val] S1x128x128.size (inb_row h r) (ix3 0 t j) (ix3 0 ⟨128 * r.val + t.val, by omega⟩ ⟨128 * h.val + j.val, by omega⟩) fun b => ?_)
  · generalize View.readAt (Elt Ideal) a.view _ _ = z
    pointwise
  · match b with
    | 0 | 1 | 2 => rfl

theorem rowAt_at (a : Memref sig .tc .vmem S1x4x32x128 .f32) (ha : a.IsWhole) (x : Vec Ideal S1x4x32x128 .f32) (off : Fin 4 → ℕ) (inb) (h : Fin 4) (g : Fin 32)
    (ho : off = ![0, h.val, g.val, 0]) (s : Fin 128) : rowAt a ha x off inb (ix2 0 s) = x (ix4 0 h g s) := by
  subst ho
  unfold rowAt row
  refine Eq.trans ?_ (unread_at a ha x ![0, h.val, g.val, 0] S1x1x1x128.size inb (ix4 0 0 0 s) (ix4 0 h g s) fun b => ?_)
  · generalize View.readAt (Elt Ideal) a.view _ _ = z
    pointwise
  · match b with
    | 0 | 1 | 2 => rfl
    | 3 => exact (Nat.zero_add _).symm

theorem ghAt_at (a : Memref sig .tc .vmem S1x512 .f32) (ha : a.IsWhole) (x : Vec Ideal S1x512 .f32) (h : Fin 4) (d : Fin 128) :
    ghAt a ha x h (ix2 0 d) = x (ix2 0 ⟨128 * h.val + d.val, by omega⟩) := by
  unfold ghAt
  refine unread_at a ha x ![0, 128 * h.val] S1x128.size (inb_gh h) (ix2 0 d) (ix2 0 ⟨128 * h.val + d.val, by omega⟩) fun b => ?_
  match b with
  | 0 | 1 => rfl

theorem cAt_at (a : Memref sig .tc .vmem S4x128x256 .f32) (ha : a.IsWhole) (x : Vec Ideal S4x128x256 .f32) (h : Fin 4) (j : Fin 128) (e : Fin 256) :
    cAt a ha x h (ix3 0 j e) = x (ix3 h j e) := by
  unfold cAt
  refine unread_at a ha x ![h.val, 0, 0] S1x128x256.size (inb_c h) (ix3 0 j e) (ix3 h j e) fun b => ?_
  match b with
  | 0 => rfl
  | 1 | 2 => exact (Nat.zero_add _).symm

theorem mAt_at (a : Memref sig .tc .vmem S4x1x128 .f32) (ha : a.IsWhole) (x : Vec Ideal S4x1x128 .f32) (h : Fin 4) (s : Fin 128) :
    mAt a ha x h (ix3 0 0 s) = x (ix3 h 0 s) := by
  unfold mAt
  refine unread_at a ha x ![h.val, 0, 0] S1x1x128.size (inb_m h) (ix3 0 0 s) (ix3 h 0 s) fun b => ?_
  match b with
  | 0 => rfl
  | 1 | 2 => exact (Nat.zero_add _).symm

theorem zero_at {s : Shape} (i : s.Idx) : broadcast s (Scalar.ofBits (F := Ideal) .f32 0x00000000#32) i = (0 : EReal) := Ideal.ofBits_zero .f32

theorem four {α : Type} (f : Fin 4 → α) (r : Fin 4) : ![f 0, f 1, f 2, f 3] r = f r := by
  match r with
  | 0 | 1 | 2 | 3 => rfl

/-- A head whose state starts at zero. -/
theorem stateIs_zero (m : Vec Ideal S1x1x128 .f32) (c : Vec Ideal S1x128x256 .f32) : StateIs State.zero (mIn 1#1 m) (cIn 1#1 c) where
  m s := zero_at (s := S1x128) (ix2 0 s)
  C d j := zero_at (s := S128x256) (ix2 (n1 := 256) j ⟨d.val, by omega⟩)
  n d j := zero_at (s := S128x256) (ix2 (n1 := 256) j ⟨128 + d.val, by omega⟩)

/-- A head whose state is the carried one. -/
theorem stateIs_carried {S : State} (m : Vec Ideal S1x1x128 .f32) (c : Vec Ideal S1x128x256 .f32) (hm : ∀ s : Fin 128, m (ix3 0 0 s) = (S.m : EReal))
    (hC : ∀ d j : Fin 128, c (ix3 0 j ⟨d.val, by omega⟩) = (S.C d j : EReal)) (hn : ∀ d j : Fin 128, c (ix3 0 j ⟨128 + d.val, by omega⟩) = (S.n j : EReal)) :
    StateIs S (mIn 0#1 m) (cIn 0#1 c) where
  m s := by
    refine Eq.trans ?_ (hm s)
    show shapeCast S1x128 m _ (ix2 0 s) = _
    pointwise
  C d j := by
    refine Eq.trans ?_ (hC d j)
    show shapeCast S128x256 c _ (ix2 j _) = _
    pointwise
  n d j := by
    refine Eq.trans ?_ (hn d j)
    show shapeCast S128x256 c _ (ix2 j _) = _
    pointwise

section
variable {K : Call} {xq xk xv xo : Vec Ideal S1x512x512 .bf16} {xb xl : Vec Ideal S1x4x32x128 .f32} {xg : Vec Ideal S1x512 .f32}
  (hb : BlocksAre K B I xq xk xv xo xb xl xg)
  (aq : Memref sig .tc .vmem S1x512x512 .bf16) (haq : aq.IsWhole) (ak : Memref sig .tc .vmem S1x512x512 .bf16) (hak : ak.IsWhole)
  (av : Memref sig .tc .vmem S1x512x512 .bf16) (hav : av.IsWhole) (ao : Memref sig .tc .vmem S1x512x512 .bf16) (hao : ao.IsWhole)
  (ab : Memref sig .tc .vmem S1x4x32x128 .f32) (hab : ab.IsWhole) (al : Memref sig .tc .vmem S1x4x32x128 .f32) (hal : al.IsWhole)
  (ag : Memref sig .tc .vmem S1x512 .f32) (hag : ag.IsWhole)
  (off : Fin 4 → Fin 4 → ℕ) (inb : ∀ r a, off r a + S1x1x1x128.size a ≤ S1x4x32x128.size a)
  (hoff : ∀ r : Fin 4, off r = ![0, H.val, (chunkOf I r).val, 0])
include hb

include hoff in
theorem headIs (m : FVec Ideal S1x128 .f32) (c : FVec Ideal S128x256 .f32) (hs : StateIs (K.D.stateAt B H (4 * I.val)) m c) :
    HeadIs K.D B H I (mkHead aq haq xq ak hak xk av hav xv ab hab xb al hal xl off inb H m c) where
  b r s := (congrFun (four (fun r => rowAt ab hab xb (off r) (inb r)) r) _).trans ((rowAt_at ab hab xb _ _ H _ (hoff r) s).trans (hb.b H _ s))
  li r s := (congrFun (four (fun r => rowAt al hal xl (off r) (inb r)) r) _).trans ((rowAt_at al hal xl _ _ H _ (hoff r) s).trans (hb.li H _ s))
  q r t j := (congrFun (four (fun r => sqAt aq haq xq r H) r) _).trans ((sqAt_at aq haq xq r H t j).trans (hb.q r H t j))
  k r s j := (congrFun (four (fun r => sqAt ak hak xk H r) r) _).trans ((sqAt_at ak hak xk H r j s).trans (hb.k r H s j))
  v r s d := (congrFun (four (fun r => sqAt av hav xv r H) r) _).trans ((sqAt_at av hav xv r H s d).trans (hb.v r H s d))
  state := hs

/-- A chunk's square of the mixer's output. -/
theorem item_at {x : Head Ideal} (h : HeadIs K.D B H I x) (r : Fin 4) (t c : Fin 512) (ht : t.val / 128 = r.val) (hc : c.val / 128 = H.val) :
    put (gated ((![x.h0, x.h1, x.h2, x.h3] : Fin 4 → FVec Ideal S128x128 .f32) r) (ghAt ag hag xg H) (sqAt ao hao xo r H)) (ix3 0 ⟨t.val % 128, by omega⟩ ⟨c.val % 128, by omega⟩)
      = K.y B I t c := by
  have hp (z : FVec Ideal S128x128 .bf16) (t d : Fin 128) : put z (ix3 0 t d) = z (ix2 t d) := by unfold put; pointwise
  rw [hp, gated_at, ghAt_at, sqAt_at, hb.gh, hb.og]
  simp only [h.answers]
  have e1 : (⟨128 * H.val + c.val % 128, by omega⟩ : Fin 512) = c := Fin.ext (by show 128 * H.val + c.val % 128 = c.val; omega)
  have e2 : (⟨512 * I.val + (128 * r.val + t.val % 128), by omega⟩ : Fin 4096) = ⟨512 * I.val + t.val, by omega⟩ := Fin.ext (by show 512 * I.val + (128 * r.val + t.val % 128) = 512 * I.val + t.val; omega)
  have e3 : (⟨c.val / 128, by omega⟩ : Fin 4) = H := Fin.ext hc
  have e4 : (⟨4 * I.val + t.val / 128, by omega⟩ : Fin 32) = chunkOf I r := Fin.ext (by show 4 * I.val + t.val / 128 = 4 * I.val + r.val; omega)
  unfold Call.y Cert.Tail.gated
  rw [e1, e2, e3, e4]
end

/-- What the scratch buffers hold after the point that computed tile `I` of sequence `B`: each head's state after the tile,
    and the mixer's output of the tile in half `p`. -/
structure Carry (K : Call) (B : Fin 16) (I : Fin 8) (p : Fin 2) (x25 : Vec Ideal S4x128x256 .f32) (x26 : Vec Ideal S4x1x128 .f32) (x27 : Vec Ideal S2x512x512 .bf16) : Prop where
  m (H : Fin 4) (s : Fin 128) : x26 (ix3 H 0 s) = ((K.D.stateAt B H (4 * I.val + 4)).m : EReal)
  C (H : Fin 4) (d j : Fin 128) : x25 (ix3 H j ⟨d.val, by omega⟩) = ((K.D.stateAt B H (4 * I.val + 4)).C d j : EReal)
  n (H : Fin 4) (d j : Fin 128) : x25 (ix3 H j ⟨128 + d.val, by omega⟩) = ((K.D.stateAt B H (4 * I.val + 4)).n j : EReal)
  y (t c : Fin 512) : x27 (ix3 p t c) = K.y B I t c

/-- A chunk's four stores, over the chunks before it. -/
theorem y_group (a : Memref sig .tc .vmem S2x512x512 .bf16) (f : a.view.ty.Contents (Elt Ideal)) (p : Fin 2) (r : Fin 4) (G : Fin 512 → Fin 512 → EReal)
    (L : List (View.Piece (Elt Ideal) S2x512x512 .bf16)) (w : Fin 4 → Vec Ideal S1x128x128 .bf16) (o0 o1 o2 o3 : Fin 3 → ℕ)
    (h0 : o0 = ![p.val, 128 * r.val, 0]) (h1 : o1 = ![p.val, 128 * r.val, 128]) (h2 : o2 = ![p.val, 128 * r.val, 256]) (h3 : o3 = ![p.val, 128 * r.val, 384]) (i0 i1 i2 i3)
    (hw : ∀ (h : Fin 4) (t c : Fin 512), t.val / 128 = r.val → c.val / 128 = h.val → w h (ix3 0 ⟨t.val % 128, by omega⟩ ⟨c.val % 128, by omega⟩) = G t c)
    (hL : ∀ t c : Fin 512, t.val / 128 < r.val → a.view.read (Elt Ideal) (a.view.writes (Elt Ideal) f L) (ix3 p t c) = G t c) (t c : Fin 512) (ht : t.val / 128 < r.val + 1) :
    a.view.read (Elt Ideal) (a.view.writes (Elt Ideal) f
      (⟨Rect.unit (s := S2x512x512) o3 S1x128x128.size i3, w 3⟩ :: ⟨Rect.unit (s := S2x512x512) o2 S1x128x128.size i2, w 2⟩ ::
       ⟨Rect.unit (s := S2x512x512) o1 S1x128x128.size i1, w 1⟩ :: ⟨Rect.unit (s := S2x512x512) o0 S1x128x128.size i0, w 0⟩ :: L)) (ix3 p t c) = G t c := by
  by_cases e : t.val / 128 = r.val
  · exact (y_four_hit a f p r L w o0 o1 o2 o3 h0 h1 h2 h3 i0 i1 i2 i3 t c e).trans (hw _ t c e rfl)
  · exact (y_four_miss a f p r L w o0 o1 o2 o3 h0 h1 h2 h3 i0 i1 i2 i3 p t c (.inr e)).trans (hL t c (by omega))

end Cert.KernelIdeal.Body

end
-- ==== Proof.RestValue.lean ====
/-
  What a point after the first computes, in the words of `Tile`: the next tile's mLSTM from the state in the scratch
  buffers, and this tile's merge and channel mixer.
-/
module

public import proofs.«01_k».proof.Proof.Tile
public import proofs.«01_k».proof.Proof.IdealRest

@[expose] public section

set_option maxRecDepth 65536

noncomputable section

namespace Cert.KernelIdeal.Body

open Cert.KernelIdeal.Gen
open Idealize.ShloMosaic Idealize.ShloMosaic.TcCoe Idealize.ShloMosaic.Tactic

variable {F : FTy → Type} [FloatOps F] [Named F] (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x2 : Vec F S1x512x1024 .f32)
  (x3 : Vec F S1x512x512 .bf16)
  (x4 : Vec F S1x512x1024 .bf16)
  (x5 : Vec F S1x512x1024 .bf16)
  (x6 : Vec F S1x512x512 .bf16)
  (x7 : Vec F S1x512x512 .bf16)
  (x8 : Vec F S1x512x512 .bf16)
  (x9 : Vec F S1x512x512 .bf16)
  (x10 : Vec F S1x512x512 .bf16)
  (x11 : Vec F S1x512x512 .bf16)
  (x12 : Vec F S1x512x512 .bf16)
  (x13 : Vec F S1x512x512 .bf16)
  (x14 : Vec F S1x4x32x128 .f32)
  (x15 : Vec F S1x4x32x128 .f32)
  (x16 : Vec F S1x512 .f32)
  (x17 : Vec F S512x1024 .bf16)
  (x18 : Vec F S512x1024 .bf16)
  (x19 : Vec F S1024x1024 .bf16)
  (x20 : Vec F S1x1024 .f32)
  (x21 : Vec F S1024x2816 .bf16)
  (x22 : Vec F S1024x2816 .bf16)
  (x23 : Vec F S2816x1024 .bf16)
  (x24 : Vec F S1x512x1024 .f32)
  (x25 : Vec F S4x128x256 .f32)
  (x26 : Vec F S4x1x128 .f32)
  (x27 : Vec F S2x512x512 .bf16)

/-- One head's inputs of the next tile. -/
def restHead (h : Fin 4) : Head F :=
  mkHead arg10 harg10 x10 arg11 harg11 x11 arg12 harg12 x12 arg14 harg14 x14 arg15 harg15 x15 (gateOff i h) (gateOff_inb i h) h
    (mIn (Scalar.cmpi .eq (BitVec.ofNat 32 (i 1)) 7#32) (mAt arg26 harg26 x26 h)) (cIn (Scalar.cmpi .eq (BitVec.ofNat 32 (i 1)) 7#32) (cAt arg25 harg25 x25 h))

set_option maxHeartbeats 0 in
/-- The heads' stabilizers and states after chunk 1. -/
theorem rest_1 :
    (run_rest.sl.r_115 (F := F) c i arg14 harg14 arg15 harg15 arg26 harg26 x14 x15 x26) = (restHead i arg10 harg10 arg11 harg11 arg12 harg12 arg14 harg14 arg15 harg15 arg25 harg25 arg26 harg26 x10 x11 x12 x14 x15 x25 x26 0).m1
    ∧ (run_rest.sl.r_118 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 0).c1
    ∧ (run_rest.sl.r_119 (F := F) c i arg14 harg14 arg15 harg15 arg26 harg26 x14 x15 x26) = (restHead i arg10 harg10 arg11 harg11 arg12 harg12 arg14 harg14 arg15 harg15 arg25 harg25 arg26 harg26 x10 x11 x12 x14 x15 x25 x26 1).m1
    ∧ (run_rest.sl.r_120 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 1).c1
    ∧ (run_rest.sl.r_121 (F := F) c i arg14 harg14 arg15 harg15 arg26 harg26 x14 x15 x26) = (restHead i arg10 harg10 arg11 harg11 arg12 harg12 arg14 harg14 arg15 harg15 arg25 harg25 arg26 harg26 x10 x11 x12 x14 x15 x25 x26 2).m1
    ∧ (run_rest.sl.r_122 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 2).c1
    ∧ (run_rest.sl.r_125 (F := F) c i arg14 harg14 arg15 harg15 arg26 harg26 x14 x15 x26) = (restHead i arg10 harg10 arg11 harg11 arg12 harg12 arg14 harg14 arg15 harg15 arg25 harg25 arg26 harg26 x10 x11 x12 x14 x15 x25 x26 3).m1
    ∧ (run_rest.sl.r_126 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 3).c1 := by
  refine ⟨?_, ?_, ?_, ?_, ?_, ?_, ?_, ?_⟩ <;> rfl

set_option maxHeartbeats 0 in
/-- The heads' stabilizers and states after chunk 2. -/
theorem rest_2 :
    (run_rest.sl.r_127 (F := F) c i arg14 harg14 arg15 harg15 arg26 harg26 x14 x15 x26) = (restHead i arg10 harg10 arg11 harg11 arg12 harg12 arg14 harg14 arg15 harg15 arg25 harg25 arg26 harg26 x10 x11 x12 x14 x15 x25 x26 0).m2
    ∧ (run_rest.sl.r_128 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 0).c2
    ∧ (run_rest.sl.r_129 (F := F) c i arg14 harg14 arg15 harg15 arg26 harg26 x14 x15 x26) = (restHead i arg10 harg10 arg11 harg11 arg12 harg12 arg14 harg14 arg15 harg15 arg25 harg25 arg26 harg26 x10 x11 x12 x14 x15 x25 x26 1).m2
    ∧ (run_rest.sl.r_132 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 1).c2
    ∧ (run_rest.sl.r_133 (F := F) c i arg14 harg14 arg15 harg15 arg26 harg26 x14 x15 x26) = (restHead i arg10 harg10 arg11 harg11 arg12 harg12 arg14 harg14 arg15 harg15 arg25 harg25 arg26 harg26 x10 x11 x12 x14 x15 x25 x26 2).m2
    ∧ (run_rest.sl.r_134 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 2).c2
    ∧ (run_rest.sl.r_135 (F := F) c i arg14 harg14 arg15 harg15 arg26 harg26 x14 x15 x26) = (restHead i arg10 harg10 arg11 harg11 arg12 harg12 arg14 harg14 arg15 harg15 arg25 harg25 arg26 harg26 x10 x11 x12 x14 x15 x25 x26 3).m2
    ∧ (run_rest.sl.r_136 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 3).c2 := by
  obtain ⟨h1, h2, h3, h4, h5, h6, h7, h8⟩ := rest_1 (F := F) c i arg10 harg10 arg11 harg11 arg12 harg12 arg14 harg14 arg15 harg15 arg25 harg25 arg26 harg26 x10 x11 x12 x14 x15 x25 x26
  rw [Head.m2, Head.c2, Head.m2, Head.c2, Head.m2, Head.c2, Head.m2, Head.c2, ← h1, ← h2, ← h3, ← h4, ← h5, ← h6, ← h7, ← h8]
  refine ⟨?_, ?_, ?_, ?_, ?_, ?_, ?_, ?_⟩ <;> rfl

set_option maxHeartbeats 0 in
/-- The heads' stabilizers and states after chunk 3. -/
theorem rest_3 :
    (run_rest.sl.r_139 (F := F) c i arg14 harg14 arg15 harg15 arg26 harg26 x14 x15 x26) = (restHead i arg10 harg10 arg11 harg11 arg12 harg12 arg14 harg14 arg15 harg15 arg25 harg25 arg26 harg26 x10 x11 x12 x14 x15 x25 x26 0).m3
    ∧ (run_rest.sl.r_140 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 0).c3
    ∧ (run_rest.sl.r_141 (F := F) c i arg14 harg14 arg15 harg15 arg26 harg26 x14 x15 x26) = (restHead i arg10 harg10 arg11 harg11 arg12 harg12 arg14 harg14 arg15 harg15 arg25 harg25 arg26 harg26 x10 x11 x12 x14 x15 x25 x26 1).m3
    ∧ (run_rest.sl.r_142 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 1).c3
    ∧ (run_rest.sl.r_143 (F := F) c i arg14 harg14 arg15 harg15 arg26 harg26 x14 x15 x26) = (restHead i arg10 harg10 arg11 harg11 arg12 harg12 arg14 harg14 arg15 harg15 arg25 harg25 arg26 harg26 x10 x11 x12 x14 x15 x25 x26 2).m3
    ∧ (run_rest.sl.r_146 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 2).c3
    ∧ (run_rest.sl.r_147 (F := F) c i arg14 harg14 arg15 harg15 arg26 harg26 x14 x15 x26) = (restHead i arg10 harg10 arg11 harg11 arg12 harg12 arg14 harg14 arg15 harg15 arg25 harg25 arg26 harg26 x10 x11 x12 x14 x15 x25 x26 3).m3
    ∧ (run_rest.sl.r_148 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 3).c3 := by
  obtain ⟨h1, h2, h3, h4, h5, h6, h7, h8⟩ := rest_2 (F := F) c i arg10 harg10 arg11 harg11 arg12 harg12 arg14 harg14 arg15 harg15 arg25 harg25 arg26 harg26 x10 x11 x12 x14 x15 x25 x26
  rw [Head.m3, Head.c3, Head.m3, Head.c3, Head.m3, Head.c3, Head.m3, Head.c3, ← h1, ← h2, ← h3, ← h4, ← h5, ← h6, ← h7, ← h8]
  refine ⟨?_, ?_, ?_, ?_, ?_, ?_, ?_, ?_⟩ <;> rfl

set_option maxHeartbeats 0 in
/-- The heads' stabilizers and states after chunk 4. -/
theorem rest_4 :
    (run_rest.sl.r_149 (F := F) c i arg14 harg14 arg15 harg15 arg26 harg26 x14 x15 x26) = (restHead i arg10 harg10 arg11 harg11 arg12 harg12 arg14 harg14 arg15 harg15 arg25 harg25 arg26 harg26 x10 x11 x12 x14 x15 x25 x26 0).m4
    ∧ (run_rest.sl.r_150 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 0).c4
    ∧ (run_rest.sl.r_153 (F := F) c i arg14 harg14 arg15 harg15 arg26 harg26 x14 x15 x26) = (restHead i arg10 harg10 arg11 harg11 arg12 harg12 arg14 harg14 arg15 harg15 arg25 harg25 arg26 harg26 x10 x11 x12 x14 x15 x25 x26 1).m4
    ∧ (run_rest.sl.r_154 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 1).c4
    ∧ (run_rest.sl.r_155 (F := F) c i arg14 harg14 arg15 harg15 arg26 harg26 x14 x15 x26) = (restHead i arg10 harg10 arg11 harg11 arg12 harg12 arg14 harg14 arg15 harg15 arg25 harg25 arg26 harg26 x10 x11 x12 x14 x15 x25 x26 2).m4
    ∧ (run_rest.sl.r_156 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 2).c4
    ∧ (run_rest.sl.r_157 (F := F) c i arg14 harg14 arg15 harg15 arg26 harg26 x14 x15 x26) = (restHead i arg10 harg10 arg11 harg11 arg12 harg12 arg14 harg14 arg15 harg15 arg25 harg25 arg26 harg26 x10 x11 x12 x14 x15 x25 x26 3).m4
    ∧ (run_rest.sl.v1450 (F := F) c i arg11 harg11 arg12 harg12 arg14 harg14 arg15 harg15 arg25 harg25 arg26 harg26 x11 x12 x14 x15 x25 x26) = (restHead i arg10 harg10 arg11 harg11 arg12 harg12 arg14 harg14 arg15 harg15 arg25 harg25 arg26 harg26 x10 x11 x12 x14 x15 x25 x26 3).c4 := by
  obtain ⟨h1, h2, h3, h4, h5, h6, h7, h8⟩ := rest_3 (F := F) c i arg10 harg10 arg11 harg11 arg12 harg12 arg14 harg14 arg15 harg15 arg25 harg25 arg26 harg26 x10 x11 x12 x14 x15 x25 x26
  rw [Head.m4, Head.c4, Head.m4, Head.c4, Head.m4, Head.c4, Head.m4, Head.c4, ← h1, ← h2, ← h3, ← h4, ← h5, ← h6, ← h7, ← h8]
  refine ⟨?_, ?_, ?_, ?_, ?_, ?_, ?_, ?_⟩ <;> rfl

/-- A chunk's gated output, as the scratch takes it. -/
def restItem (h r : Fin 4) : Vec F S1x128x128 .bf16 :=
  put (gated (![(restHead i arg10 harg10 arg11 harg11 arg12 harg12 arg14 harg14 arg15 harg15 arg25 harg25 arg26 harg26 x10 x11 x12 x14 x15 x25 x26 h).h0, (restHead i arg10 harg10 arg11 harg11 arg12 harg12 arg14 harg14 arg15 harg15 arg25 harg25 arg26 harg26 x10 x11 x12 x14 x15 x25 x26 h).h1, (restHead i arg10 harg10 arg11 harg11 arg12 harg12 arg14 harg14 arg15 harg15 arg25 harg25 arg26 harg26 x10 x11 x12 x14 x15 x25 x26 h).h2, (restHead i arg10 harg10 arg11 harg11 arg12 harg12 arg14 harg14 arg15 harg15 arg25 harg25 arg26 harg26 x10 x11 x12 x14 x15 x25 x26 h).h3] r) (ghAt arg16 harg16 x16 h) (sqAt arg13 harg13 x13 r h))

set_option maxHeartbeats 0 in
/-- The chunks 0 of the four heads. -/
theorem rest_y0 : (run_rest.sl.H27_4 (F := F) c i arg10 harg10 arg11 harg11 arg12 harg12 arg13 harg13 arg14 harg14 arg15 harg15 arg16 harg16 arg25 harg25 arg26 harg26 x10 x11 x12 x13 x14 x15 x16 x25 x26) =
     ⟨Rect.unit (s := S2x512x512) (k0_off10 i) S1x128x128.size (k0_off10_inb i), restItem i arg10 harg10 arg11 harg11 arg12 harg12 arg13 harg13 arg14 harg14 arg15 harg15 arg16 harg16 arg25 harg25 arg26 harg26 x10 x11 x12 x13 x14 x15 x16 x25 x26 3 0⟩ ::
     ⟨Rect.unit (s := S2x512x512) (k0_off9 i) S1x128x128.size (k0_off9_inb i), restItem i arg10 harg10 arg11 harg11 arg12 harg12 arg13 harg13 arg14 harg14 arg15 harg15 arg16 harg16 arg25 harg25 arg26 harg26 x10 x11 x12 x13 x14 x15 x16 x25 x26 2 0⟩ ::
     ⟨Rect.unit (s := S2x512x512) (k0_off8 i) S1x128x128.size (k0_off8_inb i), restItem i arg10 harg10 arg11 harg11 arg12 harg12 arg13 harg13 arg14 harg14 arg15 harg15 arg16 harg16 arg25 harg25 arg26 harg26 x10 x11 x12 x13 x14 x15 x16 x25 x26 1 0⟩ ::
     ⟨Rect.unit (s := S2x512x512) (k0_off7 i) S1x128x128.size (k0_off7_inb i), restItem i arg10 harg10 arg11 harg11 arg12 harg12 arg13 harg13 arg14 harg14 arg15 harg15 arg16 harg16 arg25 harg25 arg26 harg26 x10 x11 x12 x13 x14 x15 x16 x25 x26 0 0⟩ :: [] := by
  simp only [restItem, Matrix.cons_val]
  rw [Head.h0, Head.h0, Head.h0, Head.h0]
  rfl

set_option maxHeartbeats 0 in
/-- The chunks 1 of the four heads. -/
theorem rest_y1 : (run_rest.sl.H27_8 (F := F) c i arg10 harg10 arg11 harg11 arg12 harg12 arg13 harg13 arg14 harg14 arg15 harg15 arg16 harg16 arg25 harg25 arg26 harg26 x10 x11 x12 x13 x14 x15 x16 x25 x26) =
     ⟨Rect.unit (s := S2x512x512) (k0_off14 i) S1x128x128.size (k0_off14_inb i), restItem i arg10 harg10 arg11 harg11 arg12 harg12 arg13 harg13 arg14 harg14 arg15 harg15 arg16 harg16 arg25 harg25 arg26 harg26 x10 x11 x12 x13 x14 x15 x16 x25 x26 3 1⟩ ::
     ⟨Rect.unit (s := S2x512x512) (k0_off13 i) S1x128x128.size (k0_off13_inb i), restItem i arg10 harg10 arg11 harg11 arg12 harg12 arg13 harg13 arg14 harg14 arg15 harg15 arg16 harg16 arg25 harg25 arg26 harg26 x10 x11 x12 x13 x14 x15 x16 x25 x26 2 1⟩ ::
     ⟨Rect.unit (s := S2x512x512) (k0_off12 i) S1x128x128.size (k0_off12_inb i), restItem i arg10 harg10 arg11 harg11 arg12 harg12 arg13 harg13 arg14 harg14 arg15 harg15 arg16 harg16 arg25 harg25 arg26 harg26 x10 x11 x12 x13 x14 x15 x16 x25 x26 1 1⟩ ::
     ⟨Rect.unit (s := S2x512x512) (k0_off11 i) S1x128x128.size (k0_off11_inb i), restItem i arg10 harg10 arg11 harg11 arg12 harg12 arg13 harg13 arg14 harg14 arg15 harg15 arg16 harg16 arg25 harg25 arg26 harg26 x10 x11 x12 x13 x14 x15 x16 x25 x26 0 1⟩ :: (run_rest.sl.H27_4 (F := F) c i arg10 harg10 arg11 harg11 arg12 harg12 arg13 harg13 arg14 harg14 arg15 harg15 arg16 harg16 arg25 harg25 arg26 harg26 x10 x11 x12 x13 x14 x15 x16 x25 x26) := by
  obtain ⟨h1, h2, h3, h4, h5, h6, h7, h8⟩ := rest_1 (F := F) c i arg10 harg10 arg11 harg11 arg12 harg12 arg14 harg14 arg15 harg15 arg25 harg25 arg26 harg26 x10 x11 x12 x14 x15 x25 x26
  simp only [restItem, Matrix.cons_val]
  rw [Head.h1, Head.h1, Head.h1, Head.h1, ← h1, ← h2, ← h3, ← h4, ← h5, ← h6, ← h7, ← h8]
  rfl

set_option maxHeartbeats 0 in
/-- The chunks 2 of the four heads. -/
theorem rest_y2 : (run_rest.sl.H27_12 (F := F) c i arg10 harg10 arg11 harg11 arg12 harg12 arg13 harg13 arg14 harg14 arg15 harg15 arg16 harg16 arg25 harg25 arg26 harg26 x10 x11 x12 x13 x14 x15 x16 x25 x26) =
     ⟨Rect.unit (s := S2x512x512) (k0_off18 i) S1x128x128.size (k0_off18_inb i), restItem i arg10 harg10 arg11 harg11 arg12 harg12 arg13 harg13 arg14 harg14 arg15 harg15 arg16 harg16 arg25 harg25 arg26 harg26 x10 x11 x12 x13 x14 x15 x16 x25 x26 3 2⟩ ::
     ⟨Rect.unit (s := S2x512x512) (k0_off17 i) S1x128x128.size (k0_off17_inb i), restItem i arg10 harg10 arg11 harg11 arg12 harg12 arg13 harg13 arg14 harg14 arg15 harg15 arg16 harg16 arg25 harg25 arg26 harg26 x10 x11 x12 x13 x14 x15 x16 x25 x26 2 2⟩ ::
     ⟨Rect.unit (s := S2x512x512) (k0_off16 i) S1x128x128.size (k0_off16_inb i), restItem i arg10 harg10 arg11 harg11 arg12 harg12 arg13 harg13 arg14 harg14 arg15 harg15 arg16 harg16 arg25 harg25 arg26 harg26 x10 x11 x12 x13 x14 x15 x16 x25 x26 1 2⟩ ::
     ⟨Rect.unit (s := S2x512x512) (k0_off15 i) S1x128x128.size (k0_off15_inb i), restItem i arg10 harg10 arg11 harg11 arg12 harg12 arg13 harg13 arg14 harg14 arg15 harg15 arg16 harg16 arg25 harg25 arg26 harg26 x10 x11 x12 x13 x14 x15 x16 x25 x26 0 2⟩ :: (run_rest.sl.H27_8 (F := F) c i arg10 harg10 arg11 harg11 arg12 harg12 arg13 harg13 arg14 harg14 arg15 harg15 arg16 harg16 arg25 harg25 arg26 harg26 x10 x11 x12 x13 x14 x15 x16 x25 x26) := by
  obtain ⟨h1, h2, h3, h4, h5, h6, h7, h8⟩ := rest_2 (F := F) c i arg10 harg10 arg11 harg11 arg12 harg12 arg14 harg14 arg15 harg15 arg25 harg25 arg26 harg26 x10 x11 x12 x14 x15 x25 x26
  simp only [restItem, Matrix.cons_val]
  rw [Head.h2, Head.h2, Head.h2, Head.h2, ← h1, ← h2, ← h3, ← h4, ← h5, ← h6, ← h7, ← h8]
  rfl

set_option maxHeartbeats 0 in
/-- The chunks 3 of the four heads. -/
theorem rest_y3 (hc : ¬ first i) : (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.2 = arg27.view.read (Elt F) (arg27.view.writes (Elt F) (harg27.unread x27) (
     ⟨Rect.unit (s := S2x512x512) (k0_off22 i) S1x128x128.size (k0_off22_inb i), restItem i arg10 harg10 arg11 harg11 arg12 harg12 arg13 harg13 arg14 harg14 arg15 harg15 arg16 harg16 arg25 harg25 arg26 harg26 x10 x11 x12 x13 x14 x15 x16 x25 x26 3 3⟩ ::
     ⟨Rect.unit (s := S2x512x512) (k0_off21 i) S1x128x128.size (k0_off21_inb i), restItem i arg10 harg10 arg11 harg11 arg12 harg12 arg13 harg13 arg14 harg14 arg15 harg15 arg16 harg16 arg25 harg25 arg26 harg26 x10 x11 x12 x13 x14 x15 x16 x25 x26 2 3⟩ ::
     ⟨Rect.unit (s := S2x512x512) (k0_off20 i) S1x128x128.size (k0_off20_inb i), restItem i arg10 harg10 arg11 harg11 arg12 harg12 arg13 harg13 arg14 harg14 arg15 harg15 arg16 harg16 arg25 harg25 arg26 harg26 x10 x11 x12 x13 x14 x15 x16 x25 x26 1 3⟩ ::
     ⟨Rect.unit (s := S2x512x512) (k0_off19 i) S1x128x128.size (k0_off19_inb i), restItem i arg10 harg10 arg11 harg11 arg12 harg12 arg13 harg13 arg14 harg14 arg15 harg15 arg16 harg16 arg25 harg25 arg26 harg26 x10 x11 x12 x13 x14 x15 x16 x25 x26 0 3⟩ :: (run_rest.sl.H27_12 (F := F) c i arg10 harg10 arg11 harg11 arg12 harg12 arg13 harg13 arg14 harg14 arg15 harg15 arg16 harg16 arg25 harg25 arg26 harg26 x10 x11 x12 x13 x14 x15 x16 x25 x26))) := by
  obtain ⟨h1, h2, h3, h4, h5, h6, h7, h8⟩ := rest_3 (F := F) c i arg10 harg10 arg11 harg11 arg12 harg12 arg14 harg14 arg15 harg15 arg25 harg25 arg26 harg26 x10 x11 x12 x14 x15 x25 x26
  simp only [restItem, Matrix.cons_val]
  rw [Head.h3, Head.h3, Head.h3, Head.h3, ← h1, ← h2, ← h3, ← h4, ← h5, ← h6, ← h7, ← h8]
  rfl

set_option maxHeartbeats 0 in
theorem rest_c (hc : ¬ first i) : (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.1 = arg25.view.read (Elt F) (arg25.view.writes (Elt F) (harg25.unread x25)
    [⟨Rect.unit (s := S4x128x256) ![3, 0, 0] S1x128x256.size (inb_c 3), putC (restHead i arg10 harg10 arg11 harg11 arg12 harg12 arg14 harg14 arg15 harg15 arg25 harg25 arg26 harg26 x10 x11 x12 x14 x15 x25 x26 3).c4⟩,
     ⟨Rect.unit (s := S4x128x256) ![2, 0, 0] S1x128x256.size (inb_c 2), putC (restHead i arg10 harg10 arg11 harg11 arg12 harg12 arg14 harg14 arg15 harg15 arg25 harg25 arg26 harg26 x10 x11 x12 x14 x15 x25 x26 2).c4⟩,
     ⟨Rect.unit (s := S4x128x256) ![1, 0, 0] S1x128x256.size (inb_c 1), putC (restHead i arg10 harg10 arg11 harg11 arg12 harg12 arg14 harg14 arg15 harg15 arg25 harg25 arg26 harg26 x10 x11 x12 x14 x15 x25 x26 1).c4⟩,
     ⟨Rect.unit (s := S4x128x256) ![0, 0, 0] S1x128x256.size (inb_c 0), putC (restHead i arg10 harg10 arg11 harg11 arg12 harg12 arg14 harg14 arg15 harg15 arg25 harg25 arg26 harg26 x10 x11 x12 x14 x15 x25 x26 0).c4⟩] ) := by
  obtain ⟨h1, h2, h3, h4, h5, h6, h7, h8⟩ := rest_4 (F := F) c i arg10 harg10 arg11 harg11 arg12 harg12 arg14 harg14 arg15 harg15 arg25 harg25 arg26 harg26 x10 x11 x12 x14 x15 x25 x26
  rw [← h2, ← h4, ← h6, ← h8]; rfl

set_option maxHeartbeats 0 in
theorem rest_m (hc : ¬ first i) : (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.1 = arg26.view.read (Elt F) (arg26.view.writes (Elt F) (harg26.unread x26)
    [⟨Rect.unit (s := S4x1x128) ![3, 0, 0] S1x1x128.size (inb_m 3), putM (restHead i arg10 harg10 arg11 harg11 arg12 harg12 arg14 harg14 arg15 harg15 arg25 harg25 arg26 harg26 x10 x11 x12 x14 x15 x25 x26 3).m4⟩,
     ⟨Rect.unit (s := S4x1x128) ![2, 0, 0] S1x1x128.size (inb_m 2), putM (restHead i arg10 harg10 arg11 harg11 arg12 harg12 arg14 harg14 arg15 harg15 arg25 harg25 arg26 harg26 x10 x11 x12 x14 x15 x25 x26 2).m4⟩,
     ⟨Rect.unit (s := S4x1x128) ![1, 0, 0] S1x1x128.size (inb_m 1), putM (restHead i arg10 harg10 arg11 harg11 arg12 harg12 arg14 harg14 arg15 harg15 arg25 harg25 arg26 harg26 x10 x11 x12 x14 x15 x25 x26 1).m4⟩,
     ⟨Rect.unit (s := S4x1x128) ![0, 0, 0] S1x1x128.size (inb_m 0), putM (restHead i arg10 harg10 arg11 harg11 arg12 harg12 arg14 harg14 arg15 harg15 arg25 harg25 arg26 harg26 x10 x11 x12 x14 x15 x25 x26 0).m4⟩] ) := by
  obtain ⟨h1, h2, h3, h4, h5, h6, h7, h8⟩ := rest_4 (F := F) c i arg10 harg10 arg11 harg11 arg12 harg12 arg14 harg14 arg15 harg15 arg25 harg25 arg26 harg26 x10 x11 x12 x14 x15 x25 x26
  rw [← h1, ← h3, ← h5, ← h7]; rfl

end Cert.KernelIdeal.Body

end
-- ==== Proof.RestOut.lean ====
/-
  What a point after the first leaves in the output block: the merge and the channel mixer of its own tile, whose
  mLSTM output the point before left.
-/
module

public import proofs.«01_k».proof.Proof.Tile
public import Idealize.ShloMosaic.Lib.VecWindow
public import proofs.«01_k».proof.Proof.IdealRest

@[expose] public section

set_option maxRecDepth 65536

noncomputable section

namespace Cert.KernelIdeal.Body

open Cert.KernelIdeal.Gen
open Idealize.ShloMosaic Idealize.ShloMosaic.TcCoe Idealize.ShloMosaic.Tactic

variable {F : FTy → Type} [FloatOps F] [Named F] (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x2 : Vec F S1x512x1024 .f32)
  (x3 : Vec F S1x512x512 .bf16)
  (x4 : Vec F S1x512x1024 .bf16)
  (x5 : Vec F S1x512x1024 .bf16)
  (x6 : Vec F S1x512x512 .bf16)
  (x7 : Vec F S1x512x512 .bf16)
  (x8 : Vec F S1x512x512 .bf16)
  (x9 : Vec F S1x512x512 .bf16)
  (x10 : Vec F S1x512x512 .bf16)
  (x11 : Vec F S1x512x512 .bf16)
  (x12 : Vec F S1x512x512 .bf16)
  (x13 : Vec F S1x512x512 .bf16)
  (x14 : Vec F S1x4x32x128 .f32)
  (x15 : Vec F S1x4x32x128 .f32)
  (x16 : Vec F S1x512 .f32)
  (x17 : Vec F S512x1024 .bf16)
  (x18 : Vec F S512x1024 .bf16)
  (x19 : Vec F S1024x1024 .bf16)
  (x20 : Vec F S1x1024 .f32)
  (x21 : Vec F S1024x2816 .bf16)
  (x22 : Vec F S1024x2816 .bf16)
  (x23 : Vec F S2816x1024 .bf16)
  (x24 : Vec F S1x512x1024 .f32)
  (x25 : Vec F S4x128x256 .f32)
  (x26 : Vec F S4x1x128 .f32)
  (x27 : Vec F S2x512x512 .bf16)

/-- This tile's mLSTM output, as the point before left it. -/
def restY : Vec F S1x512x512 .bf16 :=
  View.readAt (Elt F) arg27.view (Rect.unit (s := S2x512x512) (k0_off1 i) S1x512x512.size (k0_off1_inb i)).toLoadRect (harg27.unread x27)
def restX : FVec F S512x1024 .f32 :=
  x1 (xAt arg2 harg2 x2) (yAt arg3 harg3 x3) (xAt arg4 harg4 x4) (xAt arg5 harg5 x5) (restY i arg27 harg27 x27) (wfAt arg17 harg17 x17) (wfAt arg18 harg18 x18) (woAt arg19 harg19 x19)
/-- The output after the first `k` blocks of hidden lanes. -/
def restAcc (k : ℕ) (hk : k ≤ 11) : Vec F S1x512x1024 .f32 :=
  acc (restX i arg2 harg2 arg3 harg3 arg4 harg4 arg5 harg5 arg17 harg17 arg18 harg18 arg19 harg19 arg27 harg27 x2 x3 x4 x5 x17 x18 x19 x27) (rms (restX i arg2 harg2 arg3 harg3 arg4 harg4 arg5 harg5 arg17 harg17 arg18 harg18 arg19 harg19 arg27 harg27 x2 x3 x4 x5 x17 x18 x19 x27) (gfAt arg20 harg20 x20)) (wgAt arg21 harg21 x21) (wgAt arg22 harg22 x22) (wdAt arg23 harg23 x23) k hk

set_option maxHeartbeats 0 in
theorem rest_acc0 : (run_rest.sl.v993 (F := F) c i arg2 harg2 arg3 harg3 arg4 harg4 arg5 harg5 arg17 harg17 arg18 harg18 arg19 harg19 arg24 arg27 harg27 x2 x3 x4 x5 x17 x18 x19 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 0 (by decide) := by
  refine (View.readCov_full _ _ _ _ _).trans ?_
  rfl

set_option maxHeartbeats 0 in
theorem rest_acc1 : (run_rest.sl.v1015 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 1 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 0 (by decide))
  rw [← rest_acc0 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc2 : (run_rest.sl.v1037 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 2 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 1 (by decide))
  rw [← rest_acc1 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc3 : (run_rest.sl.v1059 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 3 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 2 (by decide))
  rw [← rest_acc2 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc4 : (run_rest.sl.v1553 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 4 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 3 (by decide))
  rw [← rest_acc3 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc5 : (run_rest.sl.v1575 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 5 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 4 (by decide))
  rw [← rest_acc4 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc6 : (run_rest.sl.v1597 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 6 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 5 (by decide))
  rw [← rest_acc5 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc7 : (run_rest.sl.v1619 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 7 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 6 (by decide))
  rw [← rest_acc6 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc8 : (run_rest.sl.v1641 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 8 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 7 (by decide))
  rw [← rest_acc7 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc9 : (run_rest.sl.v2639 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 9 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 8 (by decide))
  rw [← rest_acc8 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
theorem rest_acc10 : (run_rest.sl.v2661 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27) = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 10 (by decide) := by
  refine (View.readCov_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 9 (by decide))
  rw [← rest_acc9 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

set_option maxHeartbeats 0 in
/-- What the output block holds at the end. -/
theorem rest_out (hc : ¬ first i) : (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.1 = restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 11 (by decide) := by
  refine (View.read_writes_full _ _ _ _ _).trans ?_
  show _ = ffnStep _ _ _ _ (restAcc i arg2 harg2 arg3 harg3 arg4 harg4 arg5 harg5 arg17 harg17 arg18 harg18 arg19 harg19 arg20 harg20 arg21 harg21 arg22 harg22 arg23 harg23 arg27 harg27 x2 x3 x4 x5 x17 x18 x19 x20 x21 x22 x23 x27 10 (by decide))
  rw [← rest_acc10 (F := F) c i arg2 harg2 arg3 harg3 arg4 harg4 arg5 harg5 arg17 harg17 arg18 harg18 arg19 harg19 arg20 harg20 arg21 harg21 arg22 harg22 arg23 harg23 arg24 arg27 harg27 x2 x3 x4 x5 x17 x18 x19 x20 x21 x22 x23 x27]
  rfl

end Cert.KernelIdeal.Body

end
-- ==== Proof.RestStep.lean ====
/-
  What a point after the first leaves: the scratch buffers at the next tile's, the output block at its own tile's rows.
-/
module

public import proofs.«01_k».proof.Proof.HeadValue
public import proofs.«01_k».proof.Proof.RestValue
public import proofs.«01_k».proof.Proof.RestOut

@[expose] public section

set_option maxRecDepth 65536

noncomputable section

namespace Cert.KernelIdeal.Body

open Cert.KernelIdeal.Gen Cert.Mlstm
open Idealize.ShloMosaic Idealize.ShloMosaic.TcCoe Idealize.ShloMosaic.Tactic

/-- Where a point's sixteen stores of the mixer's output start. -/
def yOff (i : grid0.Coords) (r h : Fin 4) : Fin 3 → ℕ :=
  match r, h with
  | 0, 0 => k0_off7 i | 0, 1 => k0_off8 i | 0, 2 => k0_off9 i | 0, 3 => k0_off10 i
  | 1, 0 => k0_off11 i | 1, 1 => k0_off12 i | 1, 2 => k0_off13 i | 1, 3 => k0_off14 i
  | 2, 0 => k0_off15 i | 2, 1 => k0_off16 i | 2, 2 => k0_off17 i | 2, 3 => k0_off18 i
  | 3, 0 => k0_off19 i | 3, 1 => k0_off20 i | 3, 2 => k0_off21 i | 3, 3 => k0_off22 i

variable (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x2 : Vec Ideal S1x512x1024 .f32)
  (x3 : Vec Ideal S1x512x512 .bf16)
  (x4 : Vec Ideal S1x512x1024 .bf16)
  (x5 : Vec Ideal S1x512x1024 .bf16)
  (x6 : Vec Ideal S1x512x512 .bf16)
  (x7 : Vec Ideal S1x512x512 .bf16)
  (x8 : Vec Ideal S1x512x512 .bf16)
  (x9 : Vec Ideal S1x512x512 .bf16)
  (x10 : Vec Ideal S1x512x512 .bf16)
  (x11 : Vec Ideal S1x512x512 .bf16)
  (x12 : Vec Ideal S1x512x512 .bf16)
  (x13 : Vec Ideal S1x512x512 .bf16)
  (x14 : Vec Ideal S1x4x32x128 .f32)
  (x15 : Vec Ideal S1x4x32x128 .f32)
  (x16 : Vec Ideal S1x512 .f32)
  (x17 : Vec Ideal S512x1024 .bf16)
  (x18 : Vec Ideal S512x1024 .bf16)
  (x19 : Vec Ideal S1024x1024 .bf16)
  (x20 : Vec Ideal S1x1024 .f32)
  (x21 : Vec Ideal S1024x2816 .bf16)
  (x22 : Vec Ideal S1024x2816 .bf16)
  (x23 : Vec Ideal S2816x1024 .bf16)
  (x24 : Vec Ideal S1x512x1024 .f32)
  (x25 : Vec Ideal S4x128x256 .f32)
  (x26 : Vec Ideal S4x1x128 .f32)
  (x27 : Vec Ideal S2x512x512 .bf16)

section
variable {K : Call} {B : Fin 16} {I : Fin 8} {p : Fin 2} (hb : BlocksAre K B I x10 x11 x12 x13 x14 x15 x16)
  (hg : ∀ h r : Fin 4, gateOff i h r = ![0, h.val, (chunkOf I r).val, 0])
  (ho : ∀ r h : Fin 4, yOff i r h = ![p.val, 128 * r.val, 128 * h.val])
  (hs : ∀ h : Fin 4, StateIs (K.D.stateAt B h (4 * I.val)) (mIn (Scalar.cmpi .eq (BitVec.ofNat 32 (i 1)) 7#32) (mAt arg26 harg26 x26 h))
    (cIn (Scalar.cmpi .eq (BitVec.ofNat 32 (i 1)) 7#32) (cAt arg25 harg25 x25 h)))
include hb hg hs

theorem restHead_is (h : Fin 4) : HeadIs K.D B h I (restHead i arg10 harg10 arg11 harg11 arg12 harg12 arg14 harg14 arg15 harg15 arg25 harg25 arg26 harg26 x10 x11 x12 x14 x15 x25 x26 h) :=
  headIs hb arg10 harg10 arg11 harg11 arg12 harg12 arg14 harg14 arg15 harg15 (gateOff i h) (gateOff_inb i h) (hg h) _ _ (hs h)

theorem restItem_at (r h : Fin 4) (t c : Fin 512) (ht : t.val / 128 = r.val) (hc : c.val / 128 = h.val) :
    restItem i arg10 harg10 arg11 harg11 arg12 harg12 arg13 harg13 arg14 harg14 arg15 harg15 arg16 harg16 arg25 harg25 arg26 harg26 x10 x11 x12 x13 x14 x15 x16 x25 x26 h r (ix3 0 ⟨t.val % 128, by omega⟩ ⟨c.val % 128, by omega⟩) = K.y B I t c :=
  item_at hb arg13 harg13 arg16 harg16 (restHead_is i arg10 harg10 arg11 harg11 arg12 harg12 arg14 harg14 arg15 harg15 arg25 harg25 arg26 harg26 x10 x11 x12 x13 x14 x15 x16 x25 x26 hb hg hs h) r t c ht hc

include ho in
theorem rest_y (f : arg27.view.ty.Contents (Elt Ideal)) (t c' : Fin 512) :
    arg27.view.read (Elt Ideal) (arg27.view.writes (Elt Ideal) f (
    ⟨Rect.unit (s := S2x512x512) (k0_off22 i) S1x128x128.size (k0_off22_inb i), restItem i arg10 harg10 arg11 harg11 arg12 harg12 arg13 harg13 arg14 harg14 arg15 harg15 arg16 harg16 arg25 harg25 arg26 harg26 x10 x11 x12 x13 x14 x15 x16 x25 x26 3 3⟩ ::
     ⟨Rect.unit (s := S2x512x512) (k0_off21 i) S1x128x128.size (k0_off21_inb i), restItem i arg10 harg10 arg11 harg11 arg12 harg12 arg13 harg13 arg14 harg14 arg15 harg15 arg16 harg16 arg25 harg25 arg26 harg26 x10 x11 x12 x13 x14 x15 x16 x25 x26 2 3⟩ ::
     ⟨Rect.unit (s := S2x512x512) (k0_off20 i) S1x128x128.size (k0_off20_inb i), restItem i arg10 harg10 arg11 harg11 arg12 harg12 arg13 harg13 arg14 harg14 arg15 harg15 arg16 harg16 arg25 harg25 arg26 harg26 x10 x11 x12 x13 x14 x15 x16 x25 x26 1 3⟩ ::
     ⟨Rect.unit (s := S2x512x512) (k0_off19 i) S1x128x128.size (k0_off19_inb i), restItem i arg10 harg10 arg11 harg11 arg12 harg12 arg13 harg13 arg14 harg14 arg15 harg15 arg16 harg16 arg25 harg25 arg26 harg26 x10 x11 x12 x13 x14 x15 x16 x25 x26 0 3⟩ ::
      (run_rest.sl.H27_12 (F := Ideal) c i arg10 harg10 arg11 harg11 arg12 harg12 arg13 harg13 arg14 harg14 arg15 harg15 arg16 harg16 arg25 harg25 arg26 harg26 x10 x11 x12 x13 x14 x15 x16 x25 x26))) (ix3 p t c') = K.y B I t c' := by
  have hw (r h : Fin 4) (t c' : Fin 512) (ht : t.val / 128 = r.val) (hc : c'.val / 128 = h.val) := restItem_at i arg10 harg10 arg11 harg11 arg12 harg12 arg13 harg13 arg14 harg14 arg15 harg15 arg16 harg16 arg25 harg25 arg26 harg26 x10 x11 x12 x13 x14 x15 x16 x25 x26 hb hg hs r h t c' ht hc
  refine y_group arg27 f p 3 (K.y B I) _ (fun h => restItem i arg10 harg10 arg11 harg11 arg12 harg12 arg13 harg13 arg14 harg14 arg15 harg15 arg16 harg16 arg25 harg25 arg26 harg26 x10 x11 x12 x13 x14 x15 x16 x25 x26 h 3) (k0_off19 i) (k0_off20 i) (k0_off21 i) (k0_off22 i) (ho 3 0) (ho 3 1) (ho 3 2) (ho 3 3) _ _ _ _ (hw 3) (fun t c' ht => ?_) t c' (by show t.val / 128 < 4; omega)
  rw [rest_y2 (F := Ideal) c i arg10 harg10 arg11 harg11 arg12 harg12 arg13 harg13 arg14 harg14 arg15 harg15 arg16 harg16 arg25 harg25 arg26 harg26 x10 x11 x12 x13 x14 x15 x16 x25 x26]
  refine y_group arg27 f p 2 (K.y B I) _ (fun h => restItem i arg10 harg10 arg11 harg11 arg12 harg12 arg13 harg13 arg14 harg14 arg15 harg15 arg16 harg16 arg25 harg25 arg26 harg26 x10 x11 x12 x13 x14 x15 x16 x25 x26 h 2) (k0_off15 i) (k0_off16 i) (k0_off17 i) (k0_off18 i) (ho 2 0) (ho 2 1) (ho 2 2) (ho 2 3) _ _ _ _ (hw 2) (fun t c' ht => ?_) t c' ht
  rw [rest_y1 (F := Ideal) c i arg10 harg10 arg11 harg11 arg12 harg12 arg13 harg13 arg14 harg14 arg15 harg15 arg16 harg16 arg25 harg25 arg26 harg26 x10 x11 x12 x13 x14 x15 x16 x25 x26]
  refine y_group arg27 f p 1 (K.y B I) _ (fun h => restItem i arg10 harg10 arg11 harg11 arg12 harg12 arg13 harg13 arg14 harg14 arg15 harg15 arg16 harg16 arg25 harg25 arg26 harg26 x10 x11 x12 x13 x14 x15 x16 x25 x26 h 1) (k0_off11 i) (k0_off12 i) (k0_off13 i) (k0_off14 i) (ho 1 0) (ho 1 1) (ho 1 2) (ho 1 3) _ _ _ _ (hw 1) (fun t c' ht => ?_) t c' ht
  rw [rest_y0 (F := Ideal) c i arg10 harg10 arg11 harg11 arg12 harg12 arg13 harg13 arg14 harg14 arg15 harg15 arg16 harg16 arg25 harg25 arg26 harg26 x10 x11 x12 x13 x14 x15 x16 x25 x26]
  exact y_group arg27 f p 0 (K.y B I) _ (fun h => restItem i arg10 harg10 arg11 harg11 arg12 harg12 arg13 harg13 arg14 harg14 arg15 harg15 arg16 harg16 arg25 harg25 arg26 harg26 x10 x11 x12 x13 x14 x15 x16 x25 x26 h 0) (k0_off7 i) (k0_off8 i) (k0_off9 i) (k0_off10 i) (ho 0 0) (ho 0 1) (ho 0 2) (ho 0 3) _ _ _ _ (hw 0) (fun t c' ht => absurd ht (Nat.not_lt_zero _)) t c' ht

include ho in
/-- The scratch buffers after the point. -/
theorem rest_carry (hc : ¬ first i) : Carry K B I p (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.1 (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.1 (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.2 where
  m H s := by
    rw [rest_m (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc]
    exact (m_four arg26 _ [] (fun h => (restHead i arg10 harg10 arg11 harg11 arg12 harg12 arg14 harg14 arg15 harg15 arg25 harg25 arg26 harg26 x10 x11 x12 x14 x15 x25 x26 h).m4) H s).trans ((restHead_is i arg10 harg10 arg11 harg11 arg12 harg12 arg14 harg14 arg15 harg15 arg25 harg25 arg26 harg26 x10 x11 x12 x13 x14 x15 x16 x25 x26 hb hg hs H).s4.m s)
  C H d j := by
    rw [rest_c (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc]
    exact (c_four arg25 _ [] (fun h => (restHead i arg10 harg10 arg11 harg11 arg12 harg12 arg14 harg14 arg15 harg15 arg25 harg25 arg26 harg26 x10 x11 x12 x14 x15 x25 x26 h).c4) H j ⟨d.val, by omega⟩).trans ((restHead_is i arg10 harg10 arg11 harg11 arg12 harg12 arg14 harg14 arg15 harg15 arg25 harg25 arg26 harg26 x10 x11 x12 x13 x14 x15 x16 x25 x26 hb hg hs H).s4.C d j)
  n H d j := by
    rw [rest_c (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc]
    exact (c_four arg25 _ [] (fun h => (restHead i arg10 harg10 arg11 harg11 arg12 harg12 arg14 harg14 arg15 harg15 arg25 harg25 arg26 harg26 x10 x11 x12 x14 x15 x25 x26 h).c4) H j ⟨128 + d.val, by omega⟩).trans ((restHead_is i arg10 harg10 arg11 harg11 arg12 harg12 arg14 harg14 arg15 harg15 arg25 harg25 arg26 harg26 x10 x11 x12 x13 x14 x15 x16 x25 x26 hb hg hs H).s4.n d j)
  y t c' := by
    rw [rest_y3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc]
    exact rest_y c i arg10 harg10 arg11 harg11 arg12 harg12 arg13 harg13 arg14 harg14 arg15 harg15 arg16 harg16 arg25 harg25 arg26 harg26 arg27 x10 x11 x12 x13 x14 x15 x16 x25 x26 hb hg ho hs _ t c'
end

/-- The output block after the point: the rows of its own tile, from the half of the mixer's output that the point before left. -/
theorem rest_rows (hc : ¬ first i) (p : Fin 2) (h1 : k0_off1 i = ![p.val, 0, 0]) (y : Vec Ideal S1x512x512 .bf16) (hy : ∀ t c : Fin 512, x27 (ix3 p t c) = y (ix3 0 t c)) (t : Fin 512) (j : Fin 1024) :
    (run_rest c i hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.1 (ix3 0 t j) = (tileRow x2 x3 x4 x5 y t).out (tileWeights x17 x18 x19 x20 x21 x22 x23) j := by
  rw [rest_out (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc]
  have e : restY i arg27 harg27 x27 = y := by
    funext u
    unfold restY
    have hu : u = ix3 0 (u 1) (u 2) := (eq_ix3 u).trans (congrArg (fun z : Fin 1 => ix3 z (u 1) (u 2)) (Subsingleton.elim _ _))
    refine (unread_at arg27 harg27 x27 (k0_off1 i) S1x512x512.size (k0_off1_inb i) u (ix3 p (u 1) (u 2)) fun b => ?_).trans ((hy (u 1) (u 2)).trans (congrArg y hu.symm))
    refine Eq.trans ?_ (congrArg (· + (u b).val) (congrFun h1 b).symm)
    have h0 : (u 0).val = 0 := congrArg (fun z : S1x512x512.Idx => (z 0).val) hu
    match b with
    | 0 => show p.val = p.val + (u 0).val; omega
    | 1 | 2 => exact (Nat.zero_add _).symm
  unfold restAcc restX
  rw [e, xAt_eq, yAt_eq, xAt_eq, xAt_eq, wfAt_eq, wfAt_eq, woAt_eq, gfAt_eq]
  exact acc_out x2 x3 x4 x5 y x17 x18 x19 x20 x21 x22 x23 t _ _ _ (wgAt_at arg21 harg21 x21) (wgAt_at arg22 harg22 x22) (wdAt_at arg23 harg23 x23) j

end Cert.KernelIdeal.Body

end
-- ==== Proof.FirstPro.lean ====
/-
  The first point's prologue, in the words of `Tile`: the first tile's mLSTM from the empty state.
-/
module

public import proofs.«01_k».proof.Proof.Tile
public import proofs.«01_k».proof.Proof.IdealFirst

@[expose] public section

set_option maxRecDepth 65536

noncomputable section

namespace Cert.KernelIdeal.Body

open Cert.KernelIdeal.Gen
open Idealize.ShloMosaic Idealize.ShloMosaic.TcCoe Idealize.ShloMosaic.Tactic

variable {F : FTy → Type} [FloatOps F] [Named F] (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x2 : Vec F S1x512x1024 .f32)
  (x3 : Vec F S1x512x512 .bf16)
  (x4 : Vec F S1x512x1024 .bf16)
  (x5 : Vec F S1x512x1024 .bf16)
  (x6 : Vec F S1x512x512 .bf16)
  (x7 : Vec F S1x512x512 .bf16)
  (x8 : Vec F S1x512x512 .bf16)
  (x9 : Vec F S1x512x512 .bf16)
  (x10 : Vec F S1x512x512 .bf16)
  (x11 : Vec F S1x512x512 .bf16)
  (x12 : Vec F S1x512x512 .bf16)
  (x13 : Vec F S1x512x512 .bf16)
  (x14 : Vec F S1x4x32x128 .f32)
  (x15 : Vec F S1x4x32x128 .f32)
  (x16 : Vec F S1x512 .f32)
  (x17 : Vec F S512x1024 .bf16)
  (x18 : Vec F S512x1024 .bf16)
  (x19 : Vec F S1024x1024 .bf16)
  (x20 : Vec F S1x1024 .f32)
  (x21 : Vec F S1024x2816 .bf16)
  (x22 : Vec F S1024x2816 .bf16)
  (x23 : Vec F S2816x1024 .bf16)
  (x24 : Vec F S1x512x1024 .f32)
  (x25 : Vec F S4x128x256 .f32)
  (x26 : Vec F S4x1x128 .f32)
  (x27 : Vec F S2x512x512 .bf16)

/-- One head's inputs of the first tile. -/
def proHead (h : Fin 4) : Head F :=
  mkHead arg6 harg6 x6 arg7 harg7 x7 arg8 harg8 x8 arg14 harg14 x14 arg15 harg15 x15 (gateOff0 h) (gateOff0_inb h) h
    (mIn 1#1 (mAt arg26 harg26 x26 h)) (cIn 1#1 (cAt arg25 harg25 x25 h))

set_option maxHeartbeats 0 in
/-- The heads' stabilizers and states after chunk 1. -/
theorem pro_1 :
    (run_first.sl.r_90 (F := F) c arg14 harg14 arg15 harg15 arg26 harg26 x14 x15 x26) = (proHead arg6 harg6 arg7 harg7 arg8 harg8 arg14 harg14 arg15 harg15 arg25 harg25 arg26 harg26 x6 x7 x8 x14 x15 x25 x26 0).m1
    ∧ (run_first.sl.r_91 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 0).c1
    ∧ (run_first.sl.r_92 (F := F) c arg14 harg14 arg15 harg15 arg26 harg26 x14 x15 x26) = (proHead arg6 harg6 arg7 harg7 arg8 harg8 arg14 harg14 arg15 harg15 arg25 harg25 arg26 harg26 x6 x7 x8 x14 x15 x25 x26 1).m1
    ∧ (run_first.sl.r_95 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 1).c1
    ∧ (run_first.sl.r_96 (F := F) c arg14 harg14 arg15 harg15 arg26 harg26 x14 x15 x26) = (proHead arg6 harg6 arg7 harg7 arg8 harg8 arg14 harg14 arg15 harg15 arg25 harg25 arg26 harg26 x6 x7 x8 x14 x15 x25 x26 2).m1
    ∧ (run_first.sl.r_97 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 2).c1
    ∧ (run_first.sl.r_98 (F := F) c arg14 harg14 arg15 harg15 arg26 harg26 x14 x15 x26) = (proHead arg6 harg6 arg7 harg7 arg8 harg8 arg14 harg14 arg15 harg15 arg25 harg25 arg26 harg26 x6 x7 x8 x14 x15 x25 x26 3).m1
    ∧ (run_first.sl.r_99 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 3).c1 := by
  refine ⟨?_, ?_, ?_, ?_, ?_, ?_, ?_, ?_⟩ <;> rfl

set_option maxHeartbeats 0 in
/-- The heads' stabilizers and states after chunk 2. -/
theorem pro_2 :
    (run_first.sl.r_100 (F := F) c arg14 harg14 arg15 harg15 arg26 harg26 x14 x15 x26) = (proHead arg6 harg6 arg7 harg7 arg8 harg8 arg14 harg14 arg15 harg15 arg25 harg25 arg26 harg26 x6 x7 x8 x14 x15 x25 x26 0).m2
    ∧ (run_first.sl.r_102 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 0).c2
    ∧ (run_first.sl.r_103 (F := F) c arg14 harg14 arg15 harg15 arg26 harg26 x14 x15 x26) = (proHead arg6 harg6 arg7 harg7 arg8 harg8 arg14 harg14 arg15 harg15 arg25 harg25 arg26 harg26 x6 x7 x8 x14 x15 x25 x26 1).m2
    ∧ (run_first.sl.r_104 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 1).c2
    ∧ (run_first.sl.r_105 (F := F) c arg14 harg14 arg15 harg15 arg26 harg26 x14 x15 x26) = (proHead arg6 harg6 arg7 harg7 arg8 harg8 arg14 harg14 arg15 harg15 arg25 harg25 arg26 harg26 x6 x7 x8 x14 x15 x25 x26 2).m2
    ∧ (run_first.sl.r_108 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 2).c2
    ∧ (run_first.sl.r_109 (F := F) c arg14 harg14 arg15 harg15 arg26 harg26 x14 x15 x26) = (proHead arg6 harg6 arg7 harg7 arg8 harg8 arg14 harg14 arg15 harg15 arg25 harg25 arg26 harg26 x6 x7 x8 x14 x15 x25 x26 3).m2
    ∧ (run_first.sl.r_110 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 3).c2 := by
  obtain ⟨h1, h2, h3, h4, h5, h6, h7, h8⟩ := pro_1 (F := F) c arg6 harg6 arg7 harg7 arg8 harg8 arg14 harg14 arg15 harg15 arg25 harg25 arg26 harg26 x6 x7 x8 x14 x15 x25 x26
  rw [Head.m2, Head.c2, Head.m2, Head.c2, Head.m2, Head.c2, Head.m2, Head.c2, ← h1, ← h2, ← h3, ← h4, ← h5, ← h6, ← h7, ← h8]
  refine ⟨?_, ?_, ?_, ?_, ?_, ?_, ?_, ?_⟩ <;> rfl

set_option maxHeartbeats 0 in
/-- The heads' stabilizers and states after chunk 3. -/
theorem pro_3 :
    (run_first.sl.r_111 (F := F) c arg14 harg14 arg15 harg15 arg26 harg26 x14 x15 x26) = (proHead arg6 harg6 arg7 harg7 arg8 harg8 arg14 harg14 arg15 harg15 arg25 harg25 arg26 harg26 x6 x7 x8 x14 x15 x25 x26 0).m3
    ∧ (run_first.sl.r_112 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 0).c3
    ∧ (run_first.sl.r_113 (F := F) c arg14 harg14 arg15 harg15 arg26 harg26 x14 x15 x26) = (proHead arg6 harg6 arg7 harg7 arg8 harg8 arg14 harg14 arg15 harg15 arg25 harg25 arg26 harg26 x6 x7 x8 x14 x15 x25 x26 1).m3
    ∧ (run_first.sl.r_115 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 1).c3
    ∧ (run_first.sl.r_116 (F := F) c arg14 harg14 arg15 harg15 arg26 harg26 x14 x15 x26) = (proHead arg6 harg6 arg7 harg7 arg8 harg8 arg14 harg14 arg15 harg15 arg25 harg25 arg26 harg26 x6 x7 x8 x14 x15 x25 x26 2).m3
    ∧ (run_first.sl.r_117 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 2).c3
    ∧ (run_first.sl.r_118 (F := F) c arg14 harg14 arg15 harg15 arg26 harg26 x14 x15 x26) = (proHead arg6 harg6 arg7 harg7 arg8 harg8 arg14 harg14 arg15 harg15 arg25 harg25 arg26 harg26 x6 x7 x8 x14 x15 x25 x26 3).m3
    ∧ (run_first.sl.r_121 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 3).c3 := by
  obtain ⟨h1, h2, h3, h4, h5, h6, h7, h8⟩ := pro_2 (F := F) c arg6 harg6 arg7 harg7 arg8 harg8 arg14 harg14 arg15 harg15 arg25 harg25 arg26 harg26 x6 x7 x8 x14 x15 x25 x26
  rw [Head.m3, Head.c3, Head.m3, Head.c3, Head.m3, Head.c3, Head.m3, Head.c3, ← h1, ← h2, ← h3, ← h4, ← h5, ← h6, ← h7, ← h8]
  refine ⟨?_, ?_, ?_, ?_, ?_, ?_, ?_, ?_⟩ <;> rfl

set_option maxHeartbeats 0 in
/-- The heads' stabilizers and states after chunk 4. -/
theorem pro_4 :
    (run_first.sl.r_122 (F := F) c arg14 harg14 arg15 harg15 arg26 harg26 x14 x15 x26) = (proHead arg6 harg6 arg7 harg7 arg8 harg8 arg14 harg14 arg15 harg15 arg25 harg25 arg26 harg26 x6 x7 x8 x14 x15 x25 x26 0).m4
    ∧ (run_first.sl.r_123 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 0).c4
    ∧ (run_first.sl.r_124 (F := F) c arg14 harg14 arg15 harg15 arg26 harg26 x14 x15 x26) = (proHead arg6 harg6 arg7 harg7 arg8 harg8 arg14 harg14 arg15 harg15 arg25 harg25 arg26 harg26 x6 x7 x8 x14 x15 x25 x26 1).m4
    ∧ (run_first.sl.r_125 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 1).c4
    ∧ (run_first.sl.r_126 (F := F) c arg14 harg14 arg15 harg15 arg26 harg26 x14 x15 x26) = (proHead arg6 harg6 arg7 harg7 arg8 harg8 arg14 harg14 arg15 harg15 arg25 harg25 arg26 harg26 x6 x7 x8 x14 x15 x25 x26 2).m4
    ∧ (run_first.sl.r_128 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 2).c4
    ∧ (run_first.sl.r_129 (F := F) c arg14 harg14 arg15 harg15 arg26 harg26 x14 x15 x26) = (proHead arg6 harg6 arg7 harg7 arg8 harg8 arg14 harg14 arg15 harg15 arg25 harg25 arg26 harg26 x6 x7 x8 x14 x15 x25 x26 3).m4
    ∧ (run_first.sl.r_130 (F := F) c arg7 harg7 arg8 harg8 arg14 harg14 arg15 harg15 arg25 harg25 arg26 harg26 x7 x8 x14 x15 x25 x26) = (proHead arg6 harg6 arg7 harg7 arg8 harg8 arg14 harg14 arg15 harg15 arg25 harg25 arg26 harg26 x6 x7 x8 x14 x15 x25 x26 3).c4 := by
  obtain ⟨h1, h2, h3, h4, h5, h6, h7, h8⟩ := pro_3 (F := F) c arg6 harg6 arg7 harg7 arg8 harg8 arg14 harg14 arg15 harg15 arg25 harg25 arg26 harg26 x6 x7 x8 x14 x15 x25 x26
  rw [Head.m4, Head.c4, Head.m4, Head.c4, Head.m4, Head.c4, Head.m4, Head.c4, ← h1, ← h2, ← h3, ← h4, ← h5, ← h6, ← h7, ← h8]
  refine ⟨?_, ?_, ?_, ?_, ?_, ?_, ?_, ?_⟩ <;> rfl

/-- A chunk's gated output, as the scratch takes it. -/
def proItem (h r : Fin 4) : Vec F S1x128x128 .bf16 :=
  put (gated (![(proHead arg6 harg6 arg7 harg7 arg8 harg8 arg14 harg14 arg15 harg15 arg25 harg25 arg26 harg26 x6 x7 x8 x14 x15 x25 x26 h).h0, (proHead arg6 harg6 arg7 harg7 arg8 harg8 arg14 harg14 arg15 harg15 arg25 harg25 arg26 harg26 x6 x7 x8 x14 x15 x25 x26 h).h1, (proHead arg6 harg6 arg7 harg7 arg8 harg8 arg14 harg14 arg15 harg15 arg25 harg25 arg26 harg26 x6 x7 x8 x14 x15 x25 x26 h).h2, (proHead arg6 harg6 arg7 harg7 arg8 harg8 arg14 harg14 arg15 harg15 arg25 harg25 arg26 harg26 x6 x7 x8 x14 x15 x25 x26 h).h3] r) (ghAt arg16 harg16 x16 h) (sqAt arg9 harg9 x9 r h))

theorem inb_p (r h : Fin 4) : ∀ a, (![0, 128 * r.val, 128 * h.val] : Fin 3 → ℕ) a + S1x128x128.size a ≤ S2x512x512.size a := by
  revert r h; decide

set_option maxHeartbeats 0 in
/-- The chunks 0 of the four heads. -/
theorem pro_y0 : (run_first.sl.H27_4 (F := F) c arg6 harg6 arg7 harg7 arg8 harg8 arg9 harg9 arg14 harg14 arg15 harg15 arg16 harg16 arg25 harg25 arg26 harg26 x6 x7 x8 x9 x14 x15 x16 x25 x26) =
     ⟨Rect.unit (s := S2x512x512) ![0, 0, 384] S1x128x128.size (inb_p 0 3), proItem arg6 harg6 arg7 harg7 arg8 harg8 arg9 harg9 arg14 harg14 arg15 harg15 arg16 harg16 arg25 harg25 arg26 harg26 x6 x7 x8 x9 x14 x15 x16 x25 x26 3 0⟩ ::
     ⟨Rect.unit (s := S2x512x512) ![0, 0, 256] S1x128x128.size (inb_p 0 2), proItem arg6 harg6 arg7 harg7 arg8 harg8 arg9 harg9 arg14 harg14 arg15 harg15 arg16 harg16 arg25 harg25 arg26 harg26 x6 x7 x8 x9 x14 x15 x16 x25 x26 2 0⟩ ::
     ⟨Rect.unit (s := S2x512x512) ![0, 0, 128] S1x128x128.size (inb_p 0 1), proItem arg6 harg6 arg7 harg7 arg8 harg8 arg9 harg9 arg14 harg14 arg15 harg15 arg16 harg16 arg25 harg25 arg26 harg26 x6 x7 x8 x9 x14 x15 x16 x25 x26 1 0⟩ ::
     ⟨Rect.unit (s := S2x512x512) ![0, 0, 0] S1x128x128.size (inb_p 0 0), proItem arg6 harg6 arg7 harg7 arg8 harg8 arg9 harg9 arg14 harg14 arg15 harg15 arg16 harg16 arg25 harg25 arg26 harg26 x6 x7 x8 x9 x14 x15 x16 x25 x26 0 0⟩ :: [] := by
  simp only [proItem, Matrix.cons_val]
  rw [Head.h0, Head.h0, Head.h0, Head.h0]
  rfl

set_option maxHeartbeats 0 in
/-- The chunks 1 of the four heads. -/
theorem pro_y1 : (run_first.sl.H27_8 (F := F) c arg6 harg6 arg7 harg7 arg8 harg8 arg9 harg9 arg14 harg14 arg15 harg15 arg16 harg16 arg25 harg25 arg26 harg26 x6 x7 x8 x9 x14 x15 x16 x25 x26) =
     ⟨Rect.unit (s := S2x512x512) ![0, 128, 384] S1x128x128.size (inb_p 1 3), proItem arg6 harg6 arg7 harg7 arg8 harg8 arg9 harg9 arg14 harg14 arg15 harg15 arg16 harg16 arg25 harg25 arg26 harg26 x6 x7 x8 x9 x14 x15 x16 x25 x26 3 1⟩ ::
     ⟨Rect.unit (s := S2x512x512) ![0, 128, 256] S1x128x128.size (inb_p 1 2), proItem arg6 harg6 arg7 harg7 arg8 harg8 arg9 harg9 arg14 harg14 arg15 harg15 arg16 harg16 arg25 harg25 arg26 harg26 x6 x7 x8 x9 x14 x15 x16 x25 x26 2 1⟩ ::
     ⟨Rect.unit (s := S2x512x512) ![0, 128, 128] S1x128x128.size (inb_p 1 1), proItem arg6 harg6 arg7 harg7 arg8 harg8 arg9 harg9 arg14 harg14 arg15 harg15 arg16 harg16 arg25 harg25 arg26 harg26 x6 x7 x8 x9 x14 x15 x16 x25 x26 1 1⟩ ::
     ⟨Rect.unit (s := S2x512x512) ![0, 128, 0] S1x128x128.size (inb_p 1 0), proItem arg6 harg6 arg7 harg7 arg8 harg8 arg9 harg9 arg14 harg14 arg15 harg15 arg16 harg16 arg25 harg25 arg26 harg26 x6 x7 x8 x9 x14 x15 x16 x25 x26 0 1⟩ :: (run_first.sl.H27_4 (F := F) c arg6 harg6 arg7 harg7 arg8 harg8 arg9 harg9 arg14 harg14 arg15 harg15 arg16 harg16 arg25 harg25 arg26 harg26 x6 x7 x8 x9 x14 x15 x16 x25 x26) := by
  obtain ⟨h1, h2, h3, h4, h5, h6, h7, h8⟩ := pro_1 (F := F) c arg6 harg6 arg7 harg7 arg8 harg8 arg14 harg14 arg15 harg15 arg25 harg25 arg26 harg26 x6 x7 x8 x14 x15 x25 x26
  simp only [proItem, Matrix.cons_val]
  rw [Head.h1, Head.h1, Head.h1, Head.h1, ← h1, ← h2, ← h3, ← h4, ← h5, ← h6, ← h7, ← h8]
  rfl

set_option maxHeartbeats 0 in
/-- The chunks 2 of the four heads. -/
theorem pro_y2 : (run_first.sl.H27_12 (F := F) c arg6 harg6 arg7 harg7 arg8 harg8 arg9 harg9 arg14 harg14 arg15 harg15 arg16 harg16 arg25 harg25 arg26 harg26 x6 x7 x8 x9 x14 x15 x16 x25 x26) =
     ⟨Rect.unit (s := S2x512x512) ![0, 256, 384] S1x128x128.size (inb_p 2 3), proItem arg6 harg6 arg7 harg7 arg8 harg8 arg9 harg9 arg14 harg14 arg15 harg15 arg16 harg16 arg25 harg25 arg26 harg26 x6 x7 x8 x9 x14 x15 x16 x25 x26 3 2⟩ ::
     ⟨Rect.unit (s := S2x512x512) ![0, 256, 256] S1x128x128.size (inb_p 2 2), proItem arg6 harg6 arg7 harg7 arg8 harg8 arg9 harg9 arg14 harg14 arg15 harg15 arg16 harg16 arg25 harg25 arg26 harg26 x6 x7 x8 x9 x14 x15 x16 x25 x26 2 2⟩ ::
     ⟨Rect.unit (s := S2x512x512) ![0, 256, 128] S1x128x128.size (inb_p 2 1), proItem arg6 harg6 arg7 harg7 arg8 harg8 arg9 harg9 arg14 harg14 arg15 harg15 arg16 harg16 arg25 harg25 arg26 harg26 x6 x7 x8 x9 x14 x15 x16 x25 x26 1 2⟩ ::
     ⟨Rect.unit (s := S2x512x512) ![0, 256, 0] S1x128x128.size (inb_p 2 0), proItem arg6 harg6 arg7 harg7 arg8 harg8 arg9 harg9 arg14 harg14 arg15 harg15 arg16 harg16 arg25 harg25 arg26 harg26 x6 x7 x8 x9 x14 x15 x16 x25 x26 0 2⟩ :: (run_first.sl.H27_8 (F := F) c arg6 harg6 arg7 harg7 arg8 harg8 arg9 harg9 arg14 harg14 arg15 harg15 arg16 harg16 arg25 harg25 arg26 harg26 x6 x7 x8 x9 x14 x15 x16 x25 x26) := by
  obtain ⟨h1, h2, h3, h4, h5, h6, h7, h8⟩ := pro_2 (F := F) c arg6 harg6 arg7 harg7 arg8 harg8 arg14 harg14 arg15 harg15 arg25 harg25 arg26 harg26 x6 x7 x8 x14 x15 x25 x26
  simp only [proItem, Matrix.cons_val]
  rw [Head.h2, Head.h2, Head.h2, Head.h2, ← h1, ← h2, ← h3, ← h4, ← h5, ← h6, ← h7, ← h8]
  rfl

set_option maxHeartbeats 0 in
/-- The chunks 3 of the four heads. -/
theorem pro_y3 : (run_first.sl.H27_16 (F := F) c arg6 harg6 arg7 harg7 arg8 harg8 arg9 harg9 arg14 harg14 arg15 harg15 arg16 harg16 arg25 harg25 arg26 harg26 x6 x7 x8 x9 x14 x15 x16 x25 x26) =
     ⟨Rect.unit (s := S2x512x512) ![0, 384, 384] S1x128x128.size (inb_p 3 3), proItem arg6 harg6 arg7 harg7 arg8 harg8 arg9 harg9 arg14 harg14 arg15 harg15 arg16 harg16 arg25 harg25 arg26 harg26 x6 x7 x8 x9 x14 x15 x16 x25 x26 3 3⟩ ::
     ⟨Rect.unit (s := S2x512x512) ![0, 384, 256] S1x128x128.size (inb_p 3 2), proItem arg6 harg6 arg7 harg7 arg8 harg8 arg9 harg9 arg14 harg14 arg15 harg15 arg16 harg16 arg25 harg25 arg26 harg26 x6 x7 x8 x9 x14 x15 x16 x25 x26 2 3⟩ ::
     ⟨Rect.unit (s := S2x512x512) ![0, 384, 128] S1x128x128.size (inb_p 3 1), proItem arg6 harg6 arg7 harg7 arg8 harg8 arg9 harg9 arg14 harg14 arg15 harg15 arg16 harg16 arg25 harg25 arg26 harg26 x6 x7 x8 x9 x14 x15 x16 x25 x26 1 3⟩ ::
     ⟨Rect.unit (s := S2x512x512) ![0, 384, 0] S1x128x128.size (inb_p 3 0), proItem arg6 harg6 arg7 harg7 arg8 harg8 arg9 harg9 arg14 harg14 arg15 harg15 arg16 harg16 arg25 harg25 arg26 harg26 x6 x7 x8 x9 x14 x15 x16 x25 x26 0 3⟩ :: (run_first.sl.H27_12 (F := F) c arg6 harg6 arg7 harg7 arg8 harg8 arg9 harg9 arg14 harg14 arg15 harg15 arg16 harg16 arg25 harg25 arg26 harg26 x6 x7 x8 x9 x14 x15 x16 x25 x26) := by
  obtain ⟨h1, h2, h3, h4, h5, h6, h7, h8⟩ := pro_3 (F := F) c arg6 harg6 arg7 harg7 arg8 harg8 arg14 harg14 arg15 harg15 arg25 harg25 arg26 harg26 x6 x7 x8 x14 x15 x25 x26
  simp only [proItem, Matrix.cons_val]
  rw [Head.h3, Head.h3, Head.h3, Head.h3, ← h1, ← h2, ← h3, ← h4, ← h5, ← h6, ← h7, ← h8]
  rfl

set_option maxHeartbeats 0 in
theorem pro_c : (run_first.sl.H25_4 (F := F) c arg7 harg7 arg8 harg8 arg14 harg14 arg15 harg15 arg25 harg25 arg26 harg26 x7 x8 x14 x15 x25 x26) =
    [⟨Rect.unit (s := S4x128x256) ![3, 0, 0] S1x128x256.size (inb_c 3), putC (proHead arg6 harg6 arg7 harg7 arg8 harg8 arg14 harg14 arg15 harg15 arg25 harg25 arg26 harg26 x6 x7 x8 x14 x15 x25 x26 3).c4⟩,
     ⟨Rect.unit (s := S4x128x256) ![2, 0, 0] S1x128x256.size (inb_c 2), putC (proHead arg6 harg6 arg7 harg7 arg8 harg8 arg14 harg14 arg15 harg15 arg25 harg25 arg26 harg26 x6 x7 x8 x14 x15 x25 x26 2).c4⟩,
     ⟨Rect.unit (s := S4x128x256) ![1, 0, 0] S1x128x256.size (inb_c 1), putC (proHead arg6 harg6 arg7 harg7 arg8 harg8 arg14 harg14 arg15 harg15 arg25 harg25 arg26 harg26 x6 x7 x8 x14 x15 x25 x26 1).c4⟩,
     ⟨Rect.unit (s := S4x128x256) ![0, 0, 0] S1x128x256.size (inb_c 0), putC (proHead arg6 harg6 arg7 harg7 arg8 harg8 arg14 harg14 arg15 harg15 arg25 harg25 arg26 harg26 x6 x7 x8 x14 x15 x25 x26 0).c4⟩] := by
  obtain ⟨h1, h2, h3, h4, h5, h6, h7, h8⟩ := pro_4 (F := F) c arg6 harg6 arg7 harg7 arg8 harg8 arg14 harg14 arg15 harg15 arg25 harg25 arg26 harg26 x6 x7 x8 x14 x15 x25 x26
  rw [← h2, ← h4, ← h6, ← h8]; rfl

set_option maxHeartbeats 0 in
theorem pro_m : (run_first.sl.H26_4 (F := F) c arg14 harg14 arg15 harg15 arg26 harg26 x14 x15 x26) =
    [⟨Rect.unit (s := S4x1x128) ![3, 0, 0] S1x1x128.size (inb_m 3), putM (proHead arg6 harg6 arg7 harg7 arg8 harg8 arg14 harg14 arg15 harg15 arg25 harg25 arg26 harg26 x6 x7 x8 x14 x15 x25 x26 3).m4⟩,
     ⟨Rect.unit (s := S4x1x128) ![2, 0, 0] S1x1x128.size (inb_m 2), putM (proHead arg6 harg6 arg7 harg7 arg8 harg8 arg14 harg14 arg15 harg15 arg25 harg25 arg26 harg26 x6 x7 x8 x14 x15 x25 x26 2).m4⟩,
     ⟨Rect.unit (s := S4x1x128) ![1, 0, 0] S1x1x128.size (inb_m 1), putM (proHead arg6 harg6 arg7 harg7 arg8 harg8 arg14 harg14 arg15 harg15 arg25 harg25 arg26 harg26 x6 x7 x8 x14 x15 x25 x26 1).m4⟩,
     ⟨Rect.unit (s := S4x1x128) ![0, 0, 0] S1x1x128.size (inb_m 0), putM (proHead arg6 harg6 arg7 harg7 arg8 harg8 arg14 harg14 arg15 harg15 arg25 harg25 arg26 harg26 x6 x7 x8 x14 x15 x25 x26 0).m4⟩] := by
  obtain ⟨h1, h2, h3, h4, h5, h6, h7, h8⟩ := pro_4 (F := F) c arg6 harg6 arg7 harg7 arg8 harg8 arg14 harg14 arg15 harg15 arg25 harg25 arg26 harg26 x6 x7 x8 x14 x15 x25 x26
  rw [← h1, ← h3, ← h5, ← h7]; rfl

end Cert.KernelIdeal.Body

end
-- ==== Proof.FirstMain.lean ====
/-
  What the first point computes after its prologue, in the words of `Tile`: the second tile's mLSTM from the state the
  prologue left.
-/
module

public import proofs.«01_k».proof.Proof.FirstPro

@[expose] public section

set_option maxRecDepth 65536

noncomputable section

namespace Cert.KernelIdeal.Body

open Cert.KernelIdeal.Gen
open Idealize.ShloMosaic Idealize.ShloMosaic.TcCoe Idealize.ShloMosaic.Tactic

variable {F : FTy → Type} [FloatOps F] [Named F] (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x2 : Vec F S1x512x1024 .f32)
  (x3 : Vec F S1x512x512 .bf16)
  (x4 : Vec F S1x512x1024 .bf16)
  (x5 : Vec F S1x512x1024 .bf16)
  (x6 : Vec F S1x512x512 .bf16)
  (x7 : Vec F S1x512x512 .bf16)
  (x8 : Vec F S1x512x512 .bf16)
  (x9 : Vec F S1x512x512 .bf16)
  (x10 : Vec F S1x512x512 .bf16)
  (x11 : Vec F S1x512x512 .bf16)
  (x12 : Vec F S1x512x512 .bf16)
  (x13 : Vec F S1x512x512 .bf16)
  (x14 : Vec F S1x4x32x128 .f32)
  (x15 : Vec F S1x4x32x128 .f32)
  (x16 : Vec F S1x512 .f32)
  (x17 : Vec F S512x1024 .bf16)
  (x18 : Vec F S512x1024 .bf16)
  (x19 : Vec F S1024x1024 .bf16)
  (x20 : Vec F S1x1024 .f32)
  (x21 : Vec F S1024x2816 .bf16)
  (x22 : Vec F S1024x2816 .bf16)
  (x23 : Vec F S2816x1024 .bf16)
  (x24 : Vec F S1x512x1024 .f32)
  (x25 : Vec F S4x128x256 .f32)
  (x26 : Vec F S4x1x128 .f32)
  (x27 : Vec F S2x512x512 .bf16)

/-- One head's inputs of the second tile. -/
def nextHead (L25 : List (View.Piece (Elt F) S4x128x256 .f32)) (L26 : List (View.Piece (Elt F) S4x1x128 .f32)) (h : Fin 4) : Head F :=
  mkHead arg10 harg10 x10 arg11 harg11 x11 arg12 harg12 x12 arg14 harg14 x14 arg15 harg15 x15 (gateOff i h) (gateOff_inb i h) h
    (mIn (Scalar.cmpi .eq (BitVec.ofNat 32 (i 1)) 7#32) (arg26.view.readCov L26 (Rect.unit (s := S4x1x128) ![h.val, 0, 0] S1x1x128.size (inb_m h)).toLoadRect))
    (cIn (Scalar.cmpi .eq (BitVec.ofNat 32 (i 1)) 7#32) (arg25.view.readCov L25 (Rect.unit (s := S4x128x256) ![h.val, 0, 0] S1x128x256.size (inb_c h)).toLoadRect))

set_option maxHeartbeats 0 in
/-- The heads' stabilizers and states after chunk 1. -/
theorem next_1 :
    (run_first.sl.r_300 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).m1
    ∧ (run_first.sl.r_303 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).c1
    ∧ (run_first.sl.r_304 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).m1
    ∧ (run_first.sl.r_305 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).c1
    ∧ (run_first.sl.r_306 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).m1
    ∧ (run_first.sl.r_307 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).c1
    ∧ (run_first.sl.r_310 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).m1
    ∧ (run_first.sl.r_311 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).c1 := by
  refine ⟨?_, ?_, ?_, ?_, ?_, ?_, ?_, ?_⟩ <;> rfl

set_option maxHeartbeats 0 in
/-- The heads' stabilizers and states after chunk 2. -/
theorem next_2 :
    (run_first.sl.r_312 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).m2
    ∧ (run_first.sl.r_313 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).c2
    ∧ (run_first.sl.r_314 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).m2
    ∧ (run_first.sl.r_317 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).c2
    ∧ (run_first.sl.r_318 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).m2
    ∧ (run_first.sl.r_319 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).c2
    ∧ (run_first.sl.r_320 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).m2
    ∧ (run_first.sl.r_321 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).c2 := by
  obtain ⟨h1, h2, h3, h4, h5, h6, h7, h8⟩ := next_1 (F := F) c i arg7 harg7 arg8 harg8 arg10 harg10 arg11 harg11 arg12 harg12 arg14 harg14 arg15 harg15 arg25 harg25 arg26 harg26 x7 x8 x10 x11 x12 x14 x15 x25 x26
  rw [Head.m2, Head.c2, Head.m2, Head.c2, Head.m2, Head.c2, Head.m2, Head.c2, ← h1, ← h2, ← h3, ← h4, ← h5, ← h6, ← h7, ← h8]
  refine ⟨?_, ?_, ?_, ?_, ?_, ?_, ?_, ?_⟩ <;> rfl

set_option maxHeartbeats 0 in
/-- The heads' stabilizers and states after chunk 3. -/
theorem next_3 :
    (run_first.sl.r_324 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).m3
    ∧ (run_first.sl.r_325 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).c3
    ∧ (run_first.sl.r_326 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).m3
    ∧ (run_first.sl.r_327 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).c3
    ∧ (run_first.sl.r_328 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).m3
    ∧ (run_first.sl.r_331 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).c3
    ∧ (run_first.sl.r_332 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).m3
    ∧ (run_first.sl.r_333 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).c3 := by
  obtain ⟨h1, h2, h3, h4, h5, h6, h7, h8⟩ := next_2 (F := F) c i arg7 harg7 arg8 harg8 arg10 harg10 arg11 harg11 arg12 harg12 arg14 harg14 arg15 harg15 arg25 harg25 arg26 harg26 x7 x8 x10 x11 x12 x14 x15 x25 x26
  rw [Head.m3, Head.c3, Head.m3, Head.c3, Head.m3, Head.c3, Head.m3, Head.c3, ← h1, ← h2, ← h3, ← h4, ← h5, ← h6, ← h7, ← h8]
  refine ⟨?_, ?_, ?_, ?_, ?_, ?_, ?_, ?_⟩ <;> rfl

set_option maxHeartbeats 0 in
/-- The heads' stabilizers and states after chunk 4. -/
theorem next_4 :
    (run_first.sl.r_334 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).m4
    ∧ (run_first.sl.r_335 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).c4
    ∧ (run_first.sl.r_338 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).m4
    ∧ (run_first.sl.r_339 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).c4
    ∧ (run_first.sl.r_340 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).m4
    ∧ (run_first.sl.r_341 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).c4
    ∧ (run_first.sl.r_342 (F := F) c i arg14 harg14 arg15 harg15 arg26 harg26 x14 x15 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).m4
    ∧ (run_first.sl.v1450 (F := F) c i arg7 harg7 arg8 harg8 arg11 harg11 arg12 harg12 arg14 harg14 arg15 harg15 arg25 harg25 arg26 harg26 x7 x8 x11 x12 x14 x15 x25 x26) = (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).c4 := by
  obtain ⟨h1, h2, h3, h4, h5, h6, h7, h8⟩ := next_3 (F := F) c i arg7 harg7 arg8 harg8 arg10 harg10 arg11 harg11 arg12 harg12 arg14 harg14 arg15 harg15 arg25 harg25 arg26 harg26 x7 x8 x10 x11 x12 x14 x15 x25 x26
  rw [Head.m4, Head.c4, Head.m4, Head.c4, Head.m4, Head.c4, Head.m4, Head.c4, ← h1, ← h2, ← h3, ← h4, ← h5, ← h6, ← h7, ← h8]
  refine ⟨?_, ?_, ?_, ?_, ?_, ?_, ?_, ?_⟩ <;> rfl

/-- A chunk's gated output, as the scratch takes it. -/
def nextItem (L25 : List (View.Piece (Elt F) S4x128x256 .f32)) (L26 : List (View.Piece (Elt F) S4x1x128 .f32)) (h r : Fin 4) : Vec F S1x128x128 .bf16 :=
  put (gated (![(nextHead i arg10 harg10 arg11 harg11 arg12 harg12 arg14 harg14 arg15 harg15 arg25 arg26 x10 x11 x12 x14 x15 L25 L26 h).h0, (nextHead i arg10 harg10 arg11 harg11 arg12 harg12 arg14 harg14 arg15 harg15 arg25 arg26 x10 x11 x12 x14 x15 L25 L26 h).h1, (nextHead i arg10 harg10 arg11 harg11 arg12 harg12 arg14 harg14 arg15 harg15 arg25 arg26 x10 x11 x12 x14 x15 L25 L26 h).h2, (nextHead i arg10 harg10 arg11 harg11 arg12 harg12 arg14 harg14 arg15 harg15 arg25 arg26 x10 x11 x12 x14 x15 L25 L26 h).h3] r) (ghAt arg16 harg16 x16 h) (sqAt arg13 harg13 x13 r h))

set_option maxHeartbeats 0 in
/-- The chunks 0 of the four heads. -/
theorem next_y0 : (run_first.sl.H27_20 (F := F) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26) =
     ⟨Rect.unit (s := S2x512x512) (k0_off10 i) S1x128x128.size (k0_off10_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3 0⟩ ::
     ⟨Rect.unit (s := S2x512x512) (k0_off9 i) S1x128x128.size (k0_off9_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2 0⟩ ::
     ⟨Rect.unit (s := S2x512x512) (k0_off8 i) S1x128x128.size (k0_off8_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1 0⟩ ::
     ⟨Rect.unit (s := S2x512x512) (k0_off7 i) S1x128x128.size (k0_off7_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0 0⟩ :: (run_first.sl.H27_16 (F := F) c arg6 harg6 arg7 harg7 arg8 harg8 arg9 harg9 arg14 harg14 arg15 harg15 arg16 harg16 arg25 harg25 arg26 harg26 x6 x7 x8 x9 x14 x15 x16 x25 x26) := by
  simp only [nextItem, Matrix.cons_val]
  rw [Head.h0, Head.h0, Head.h0, Head.h0]
  rfl

set_option maxHeartbeats 0 in
/-- The chunks 1 of the four heads. -/
theorem next_y1 : (run_first.sl.H27_24 (F := F) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26) =
     ⟨Rect.unit (s := S2x512x512) (k0_off14 i) S1x128x128.size (k0_off14_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3 1⟩ ::
     ⟨Rect.unit (s := S2x512x512) (k0_off13 i) S1x128x128.size (k0_off13_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2 1⟩ ::
     ⟨Rect.unit (s := S2x512x512) (k0_off12 i) S1x128x128.size (k0_off12_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1 1⟩ ::
     ⟨Rect.unit (s := S2x512x512) (k0_off11 i) S1x128x128.size (k0_off11_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0 1⟩ :: (run_first.sl.H27_20 (F := F) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26) := by
  obtain ⟨h1, h2, h3, h4, h5, h6, h7, h8⟩ := next_1 (F := F) c i arg7 harg7 arg8 harg8 arg10 harg10 arg11 harg11 arg12 harg12 arg14 harg14 arg15 harg15 arg25 harg25 arg26 harg26 x7 x8 x10 x11 x12 x14 x15 x25 x26
  simp only [nextItem, Matrix.cons_val]
  rw [Head.h1, Head.h1, Head.h1, Head.h1, ← h1, ← h2, ← h3, ← h4, ← h5, ← h6, ← h7, ← h8]
  rfl

set_option maxHeartbeats 0 in
/-- The chunks 2 of the four heads. -/
theorem next_y2 : (run_first.sl.H27_28 (F := F) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26) =
     ⟨Rect.unit (s := S2x512x512) (k0_off18 i) S1x128x128.size (k0_off18_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3 2⟩ ::
     ⟨Rect.unit (s := S2x512x512) (k0_off17 i) S1x128x128.size (k0_off17_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2 2⟩ ::
     ⟨Rect.unit (s := S2x512x512) (k0_off16 i) S1x128x128.size (k0_off16_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1 2⟩ ::
     ⟨Rect.unit (s := S2x512x512) (k0_off15 i) S1x128x128.size (k0_off15_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0 2⟩ :: (run_first.sl.H27_24 (F := F) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26) := by
  obtain ⟨h1, h2, h3, h4, h5, h6, h7, h8⟩ := next_2 (F := F) c i arg7 harg7 arg8 harg8 arg10 harg10 arg11 harg11 arg12 harg12 arg14 harg14 arg15 harg15 arg25 harg25 arg26 harg26 x7 x8 x10 x11 x12 x14 x15 x25 x26
  simp only [nextItem, Matrix.cons_val]
  rw [Head.h2, Head.h2, Head.h2, Head.h2, ← h1, ← h2, ← h3, ← h4, ← h5, ← h6, ← h7, ← h8]
  rfl

set_option maxHeartbeats 0 in
/-- The chunks 3 of the four heads. -/
theorem next_y3 (hc : isFirst i) (hi : k0_off1 i = ![0, 0, 0]) : (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.2 = arg27.view.read (Elt F) (arg27.view.writes (Elt F) (harg27.unread x27) (
     ⟨Rect.unit (s := S2x512x512) (k0_off22 i) S1x128x128.size (k0_off22_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3 3⟩ ::
     ⟨Rect.unit (s := S2x512x512) (k0_off21 i) S1x128x128.size (k0_off21_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2 3⟩ ::
     ⟨Rect.unit (s := S2x512x512) (k0_off20 i) S1x128x128.size (k0_off20_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1 3⟩ ::
     ⟨Rect.unit (s := S2x512x512) (k0_off19 i) S1x128x128.size (k0_off19_inb i), nextItem i arg10 harg10 arg11 harg11 arg12 harg12 arg13 harg13 arg14 harg14 arg15 harg15 arg16 harg16 arg25 arg26 x10 x11 x12 x13 x14 x15 x16 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0 3⟩ :: (run_first.sl.H27_28 (F := F) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26))) := by
  obtain ⟨h1, h2, h3, h4, h5, h6, h7, h8⟩ := next_3 (F := F) c i arg7 harg7 arg8 harg8 arg10 harg10 arg11 harg11 arg12 harg12 arg14 harg14 arg15 harg15 arg25 harg25 arg26 harg26 x7 x8 x10 x11 x12 x14 x15 x25 x26
  simp only [nextItem, Matrix.cons_val]
  rw [Head.h3, Head.h3, Head.h3, Head.h3, ← h1, ← h2, ← h3, ← h4, ← h5, ← h6, ← h7, ← h8]
  rfl

set_option maxHeartbeats 0 in
theorem next_c (hc : isFirst i) (hi : k0_off1 i = ![0, 0, 0]) : (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.1 = arg25.view.read (Elt F) (arg25.view.writes (Elt F) (harg25.unread x25)
    (⟨Rect.unit (s := S4x128x256) ![3, 0, 0] S1x128x256.size (inb_c 3), putC (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).c4⟩ ::
     ⟨Rect.unit (s := S4x128x256) ![2, 0, 0] S1x128x256.size (inb_c 2), putC (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).c4⟩ ::
     ⟨Rect.unit (s := S4x128x256) ![1, 0, 0] S1x128x256.size (inb_c 1), putC (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).c4⟩ ::
     ⟨Rect.unit (s := S4x128x256) ![0, 0, 0] S1x128x256.size (inb_c 0), putC (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).c4⟩ :: (run_first.sl.H25_4 (F := F) c arg7 harg7 arg8 harg8 arg14 harg14 arg15 harg15 arg25 harg25 arg26 harg26 x7 x8 x14 x15 x25 x26))) := by
  obtain ⟨h1, h2, h3, h4, h5, h6, h7, h8⟩ := next_4 (F := F) c i arg7 harg7 arg8 harg8 arg10 harg10 arg11 harg11 arg12 harg12 arg14 harg14 arg15 harg15 arg25 harg25 arg26 harg26 x7 x8 x10 x11 x12 x14 x15 x25 x26
  rw [← h2, ← h4, ← h6, ← h8]; rfl

set_option maxHeartbeats 0 in
theorem next_m (hc : isFirst i) (hi : k0_off1 i = ![0, 0, 0]) : (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.1 = arg26.view.read (Elt F) (arg26.view.writes (Elt F) (harg26.unread x26)
    (⟨Rect.unit (s := S4x1x128) ![3, 0, 0] S1x1x128.size (inb_m 3), putM (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 3).m4⟩ ::
     ⟨Rect.unit (s := S4x1x128) ![2, 0, 0] S1x1x128.size (inb_m 2), putM (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 2).m4⟩ ::
     ⟨Rect.unit (s := S4x1x128) ![1, 0, 0] S1x1x128.size (inb_m 1), putM (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 1).m4⟩ ::
     ⟨Rect.unit (s := S4x1x128) ![0, 0, 0] S1x1x128.size (inb_m 0), putM (nextHead i arg10 harg10 arg11 harg11 arg12 harg12 arg14 harg14 arg15 harg15 arg25 arg26 x10 x11 x12 x14 x15 (run_first.sl.H25_4 (F := F) c arg7 harg7 arg8 harg8 arg14 harg14 arg15 harg15 arg25 harg25 arg26 harg26 x7 x8 x14 x15 x25 x26) (run_first.sl.H26_4 (F := F) c arg14 harg14 arg15 harg15 arg26 harg26 x14 x15 x26) 0).m4⟩ :: (run_first.sl.H26_4 (F := F) c arg14 harg14 arg15 harg15 arg26 harg26 x14 x15 x26))) := by
  obtain ⟨h1, h2, h3, h4, h5, h6, h7, h8⟩ := next_4 (F := F) c i arg7 harg7 arg8 harg8 arg10 harg10 arg11 harg11 arg12 harg12 arg14 harg14 arg15 harg15 arg25 harg25 arg26 harg26 x7 x8 x10 x11 x12 x14 x15 x25 x26
  rw [← h1, ← h3, ← h5, ← h7]; rfl

end Cert.KernelIdeal.Body

end
-- ==== Proof.FirstOut.lean ====
/-
  What the first point leaves in the output block: the merge and the channel mixer of the first tile, whose mLSTM output
  the prologue left.
-/
module

public import proofs.«01_k».proof.Proof.Tile
public import Idealize.ShloMosaic.Lib.VecWindow
public import proofs.«01_k».proof.Proof.IdealFirst

@[expose] public section

set_option maxRecDepth 65536

noncomputable section

namespace Cert.KernelIdeal.Body

open Cert.KernelIdeal.Gen
open Idealize.ShloMosaic Idealize.ShloMosaic.TcCoe Idealize.ShloMosaic.Tactic

variable {F : FTy → Type} [FloatOps F] [Named F] (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x2 : Vec F S1x512x1024 .f32)
  (x3 : Vec F S1x512x512 .bf16)
  (x4 : Vec F S1x512x1024 .bf16)
  (x5 : Vec F S1x512x1024 .bf16)
  (x6 : Vec F S1x512x512 .bf16)
  (x7 : Vec F S1x512x512 .bf16)
  (x8 : Vec F S1x512x512 .bf16)
  (x9 : Vec F S1x512x512 .bf16)
  (x10 : Vec F S1x512x512 .bf16)
  (x11 : Vec F S1x512x512 .bf16)
  (x12 : Vec F S1x512x512 .bf16)
  (x13 : Vec F S1x512x512 .bf16)
  (x14 : Vec F S1x4x32x128 .f32)
  (x15 : Vec F S1x4x32x128 .f32)
  (x16 : Vec F S1x512 .f32)
  (x17 : Vec F S512x1024 .bf16)
  (x18 : Vec F S512x1024 .bf16)
  (x19 : Vec F S1024x1024 .bf16)
  (x20 : Vec F S1x1024 .f32)
  (x21 : Vec F S1024x2816 .bf16)
  (x22 : Vec F S1024x2816 .bf16)
  (x23 : Vec F S2816x1024 .bf16)
  (x24 : Vec F S1x512x1024 .f32)
  (x25 : Vec F S4x128x256 .f32)
  (x26 : Vec F S4x1x128 .f32)
  (x27 : Vec F S2x512x512 .bf16)

def firstX (y : Vec F S1x512x512 .bf16) : FVec F S512x1024 .f32 :=
  x1 (xAt arg2 harg2 x2) (yAt arg3 harg3 x3) (xAt arg4 harg4 x4) (xAt arg5 harg5 x5) y (wfAt arg17 harg17 x17) (wfAt arg18 harg18 x18) (woAt arg19 harg19 x19)
/-- The output after the first `k` blocks of hidden lanes. -/
def firstAcc (y : Vec F S1x512x512 .bf16) (k : ℕ) (hk : k ≤ 11) : Vec F S1x512x1024 .f32 :=
  acc (firstX arg2 harg2 arg3 harg3 arg4 harg4 arg5 harg5 arg17 harg17 arg18 harg18 arg19 harg19 x2 x3 x4 x5 x17 x18 x19 y) (rms (firstX arg2 harg2 arg3 harg3 arg4 harg4 arg5 harg5 arg17 harg17 arg18 harg18 arg19 harg19 x2 x3 x4 x5 x17 x18 x19 y) (gfAt arg20 harg20 x20)) (wgAt arg21 harg21 x21) (wgAt arg22 harg22 x22) (wdAt arg23 harg23 x23) k hk

set_option maxHeartbeats 0 in
theorem first_acc0 : (run_first.sl.v993 (F := F) c i arg2 harg2 arg3 harg3 arg4 harg4 arg5 harg5 arg6 harg6 arg7 harg7 arg8 harg8 arg9 harg9 arg14 harg14 arg15 harg15 arg16 harg16 arg17 harg17 arg18 harg18 arg19 harg19 arg24 arg25 harg25 arg26 harg26 arg27 x2 x3 x4 x5 x6 x7 x8 x9 x14 x15 x16 x17 x18 x19 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 0 (by decide) := by
  refine (View.readCov_full _ _ _ _ _).trans ?_
  rfl

set_option maxHeartbeats 0 in
theorem first_acc1 : (run_first.sl.v1015 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 1 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 0 (by decide))
  rw [← first_acc0 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc2 : (run_first.sl.v1037 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 2 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 1 (by decide))
  rw [← first_acc1 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc3 : (run_first.sl.v1059 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 3 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 2 (by decide))
  rw [← first_acc2 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc4 : (run_first.sl.v1553 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 4 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 3 (by decide))
  rw [← first_acc3 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc5 : (run_first.sl.v1575 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 5 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 4 (by decide))
  rw [← first_acc4 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc6 : (run_first.sl.v1597 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 6 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 5 (by decide))
  rw [← first_acc5 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc7 : (run_first.sl.v1619 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 7 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 6 (by decide))
  rw [← first_acc6 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc8 : (run_first.sl.v1641 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 8 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 7 (by decide))
  rw [← first_acc7 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc9 : (run_first.sl.v2639 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 9 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 8 (by decide))
  rw [← first_acc8 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
theorem first_acc10 : (run_first.sl.v2661 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26) = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 10 (by decide) := by
  refine (View.readCov_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 9 (by decide))
  rw [← first_acc9 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

set_option maxHeartbeats 0 in
/-- What the output block holds at the end. -/
theorem first_out (hc : isFirst i) (hi : k0_off1 i = ![0, 0, 0]) : (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.1 = firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 11 (by decide) := by
  refine (View.read_writes_full _ _ _ _ _).trans ?_
  show _ = ffnStep _ _ _ _ (firstAcc arg2 harg2 arg3 harg3 arg4 harg4 arg5 harg5 arg17 harg17 arg18 harg18 arg19 harg19 arg20 harg20 arg21 harg21 arg22 harg22 arg23 harg23 x2 x3 x4 x5 x17 x18 x19 x20 x21 x22 x23 (run_first.sl.v111 (F := F) c i arg6 harg6 arg7 harg7 arg8 harg8 arg9 harg9 arg14 harg14 arg15 harg15 arg16 harg16 arg25 harg25 arg26 harg26 arg27 x6 x7 x8 x9 x14 x15 x16 x25 x26) 10 (by decide))
  rw [← first_acc10 (F := F) c i arg2 harg2 arg3 harg3 arg4 harg4 arg5 harg5 arg6 harg6 arg7 harg7 arg8 harg8 arg9 harg9 arg14 harg14 arg15 harg15 arg16 harg16 arg17 harg17 arg18 harg18 arg19 harg19 arg20 harg20 arg21 harg21 arg22 harg22 arg23 harg23 arg24 arg25 harg25 arg26 harg26 arg27 x2 x3 x4 x5 x6 x7 x8 x9 x14 x15 x16 x17 x18 x19 x20 x21 x22 x23 x25 x26]
  rfl

end Cert.KernelIdeal.Body

end
-- ==== Proof.FirstStep.lean ====
/-
  What the first point leaves: the first tile's mixer output in half 0 of the buffer, read back for the output block; the
  scratch buffers at the second tile's.
-/
module

public import proofs.«01_k».proof.Proof.RestStep
public import proofs.«01_k».proof.Proof.FirstPro
public import proofs.«01_k».proof.Proof.FirstMain
public import proofs.«01_k».proof.Proof.FirstOut

@[expose] public section

set_option maxRecDepth 65536

noncomputable section

namespace Cert.KernelIdeal.Body

open Cert.KernelIdeal.Gen Cert.Mlstm
open Idealize.ShloMosaic Idealize.ShloMosaic.TcCoe Idealize.ShloMosaic.Tactic

/-- A load of a written buffer, at an element. -/
theorem readCov_at {s : Shape} {e : EltTy} (a : Memref sig .tc .vmem s e) (L : List (View.Piece (Elt Ideal) s e)) (off size : Fin s.rank → Nat)
    (inb : ∀ b, off b + size b ≤ s.size b) (y : (Rect.unit off size inb).shape.Idx) (i : s.Idx) (hi : ∀ b, (i b : Nat) = off b + y b) :
    a.view.readCov L (Rect.unit (s := s) off size inb).toLoadRect y = a.view.read (Elt Ideal) (a.view.writes (Elt Ideal) a.view.junk L) i := by
  show View.readAt (Elt Ideal) a.view (Rect.unit (s := s) off size inb).toLoadRect (a.view.writes (Elt Ideal) a.view.junk L) y = _
  rw [View.readAt_eq_ld]
  exact congrArg (a.view.read (Elt Ideal) (a.view.writes (Elt Ideal) a.view.junk L)) (funext fun b => Fin.ext ((congrArg (off b + ·) (Nat.one_mul (y b).val)).trans (hi b).symm))

variable (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x2 : Vec Ideal S1x512x1024 .f32)
  (x3 : Vec Ideal S1x512x512 .bf16)
  (x4 : Vec Ideal S1x512x1024 .bf16)
  (x5 : Vec Ideal S1x512x1024 .bf16)
  (x6 : Vec Ideal S1x512x512 .bf16)
  (x7 : Vec Ideal S1x512x512 .bf16)
  (x8 : Vec Ideal S1x512x512 .bf16)
  (x9 : Vec Ideal S1x512x512 .bf16)
  (x10 : Vec Ideal S1x512x512 .bf16)
  (x11 : Vec Ideal S1x512x512 .bf16)
  (x12 : Vec Ideal S1x512x512 .bf16)
  (x13 : Vec Ideal S1x512x512 .bf16)
  (x14 : Vec Ideal S1x4x32x128 .f32)
  (x15 : Vec Ideal S1x4x32x128 .f32)
  (x16 : Vec Ideal S1x512 .f32)
  (x17 : Vec Ideal S512x1024 .bf16)
  (x18 : Vec Ideal S512x1024 .bf16)
  (x19 : Vec Ideal S1024x1024 .bf16)
  (x20 : Vec Ideal S1x1024 .f32)
  (x21 : Vec Ideal S1024x2816 .bf16)
  (x22 : Vec Ideal S1024x2816 .bf16)
  (x23 : Vec Ideal S2816x1024 .bf16)
  (x24 : Vec Ideal S1x512x1024 .f32)
  (x25 : Vec Ideal S4x128x256 .f32)
  (x26 : Vec Ideal S4x1x128 .f32)
  (x27 : Vec Ideal S2x512x512 .bf16)

section
variable {K : Call} {B : Fin 16}

section
variable (hb : BlocksAre K B 0 x6 x7 x8 x9 x14 x15 x16)
include hb

theorem proHead_is (h : Fin 4) : HeadIs K.D B h 0 (proHead arg6 harg6 arg7 harg7 arg8 harg8 arg14 harg14 arg15 harg15 arg25 harg25 arg26 harg26 x6 x7 x8 x14 x15 x25 x26 h) :=
  headIs hb arg6 harg6 arg7 harg7 arg8 harg8 arg14 harg14 arg15 harg15 (gateOff0 h) (gateOff0_inb h)
    (fun r => congrArg (fun z : ℕ => (![0, h.val, z, 0] : Fin 4 → ℕ)) (show r.val = 4 * 0 + r.val by omega)) _ _ (stateIs_zero _ _)

theorem proItem_at (r h : Fin 4) (t c : Fin 512) (ht : t.val / 128 = r.val) (hc : c.val / 128 = h.val) :
    proItem arg6 harg6 arg7 harg7 arg8 harg8 arg9 harg9 arg14 harg14 arg15 harg15 arg16 harg16 arg25 harg25 arg26 harg26 x6 x7 x8 x9 x14 x15 x16 x25 x26 h r (ix3 0 ⟨t.val % 128, by omega⟩ ⟨c.val % 128, by omega⟩) = K.y B 0 t c :=
  item_at hb arg9 harg9 arg16 harg16 (proHead_is arg6 harg6 arg7 harg7 arg8 harg8 arg14 harg14 arg15 harg15 arg25 harg25 arg26 harg26 x6 x7 x8 x9 x14 x15 x16 x25 x26 hb h) r t c ht hc

theorem pro_y (f : arg27.view.ty.Contents (Elt Ideal)) (t c' : Fin 512) :
    arg27.view.read (Elt Ideal) (arg27.view.writes (Elt Ideal) f (run_first.sl.H27_16 (F := Ideal) c arg6 harg6 arg7 harg7 arg8 harg8 arg9 harg9 arg14 harg14 arg15 harg15 arg16 harg16 arg25 harg25 arg26 harg26 x6 x7 x8 x9 x14 x15 x16 x25 x26)) (ix3 0 t c') = K.y B 0 t c' := by
  have hw (r h : Fin 4) (t c' : Fin 512) (ht : t.val / 128 = r.val) (hc : c'.val / 128 = h.val) := proItem_at arg6 harg6 arg7 harg7 arg8 harg8 arg9 harg9 arg14 harg14 arg15 harg15 arg16 harg16 arg25 harg25 arg26 harg26 x6 x7 x8 x9 x14 x15 x16 x25 x26 hb r h t c' ht hc
  rw [pro_y3 (F := Ideal) c arg6 harg6 arg7 harg7 arg8 harg8 arg9 harg9 arg14 harg14 arg15 harg15 arg16 harg16 arg25 harg25 arg26 harg26 x6 x7 x8 x9 x14 x15 x16 x25 x26]
  refine y_group arg27 f 0 3 (K.y B 0) _ (fun h => proItem arg6 harg6 arg7 harg7 arg8 harg8 arg9 harg9 arg14 harg14 arg15 harg15 arg16 harg16 arg25 harg25 arg26 harg26 x6 x7 x8 x9 x14 x15 x16 x25 x26 h 3) ![0, 384, 0] ![0, 384, 128] ![0, 384, 256] ![0, 384, 384] rfl rfl rfl rfl _ _ _ _ (hw 3) (fun t c' ht => ?_) t c' (by show t.val / 128 < 4; omega)
  rw [pro_y2 (F := Ideal) c arg6 harg6 arg7 harg7 arg8 harg8 arg9 harg9 arg14 harg14 arg15 harg15 arg16 harg16 arg25 harg25 arg26 harg26 x6 x7 x8 x9 x14 x15 x16 x25 x26]
  refine y_group arg27 f 0 2 (K.y B 0) _ (fun h => proItem arg6 harg6 arg7 harg7 arg8 harg8 arg9 harg9 arg14 harg14 arg15 harg15 arg16 harg16 arg25 harg25 arg26 harg26 x6 x7 x8 x9 x14 x15 x16 x25 x26 h 2) ![0, 256, 0] ![0, 256, 128] ![0, 256, 256] ![0, 256, 384] rfl rfl rfl rfl _ _ _ _ (hw 2) (fun t c' ht => ?_) t c' ht
  rw [pro_y1 (F := Ideal) c arg6 harg6 arg7 harg7 arg8 harg8 arg9 harg9 arg14 harg14 arg15 harg15 arg16 harg16 arg25 harg25 arg26 harg26 x6 x7 x8 x9 x14 x15 x16 x25 x26]
  refine y_group arg27 f 0 1 (K.y B 0) _ (fun h => proItem arg6 harg6 arg7 harg7 arg8 harg8 arg9 harg9 arg14 harg14 arg15 harg15 arg16 harg16 arg25 harg25 arg26 harg26 x6 x7 x8 x9 x14 x15 x16 x25 x26 h 1) ![0, 128, 0] ![0, 128, 128] ![0, 128, 256] ![0, 128, 384] rfl rfl rfl rfl _ _ _ _ (hw 1) (fun t c' ht => ?_) t c' ht
  rw [pro_y0 (F := Ideal) c arg6 harg6 arg7 harg7 arg8 harg8 arg9 harg9 arg14 harg14 arg15 harg15 arg16 harg16 arg25 harg25 arg26 harg26 x6 x7 x8 x9 x14 x15 x16 x25 x26]
  refine y_group arg27 f 0 0 (K.y B 0) _ (fun h => proItem arg6 harg6 arg7 harg7 arg8 harg8 arg9 harg9 arg14 harg14 arg15 harg15 arg16 harg16 arg25 harg25 arg26 harg26 x6 x7 x8 x9 x14 x15 x16 x25 x26 h 0) ![0, 0, 0] ![0, 0, 128] ![0, 0, 256] ![0, 0, 384] rfl rfl rfl rfl _ _ _ _ (hw 0) (fun t c' ht => ?_) t c' ht
  exact absurd ht (Nat.not_lt_zero _)

/-- The first tile's mixer output, as the output block's rows read it back. -/
theorem pro_v111 (h1 : k0_off1 i = ![0, 0, 0]) (t c' : Fin 512) : (run_first.sl.v111 (F := Ideal) c i arg6 harg6 arg7 harg7 arg8 harg8 arg9 harg9 arg14 harg14 arg15 harg15 arg16 harg16 arg25 harg25 arg26 harg26 arg27 x6 x7 x8 x9 x14 x15 x16 x25 x26) (ix3 0 t c') = K.y B 0 t c' :=
  (readCov_at arg27 (run_first.sl.H27_16 (F := Ideal) c arg6 harg6 arg7 harg7 arg8 harg8 arg9 harg9 arg14 harg14 arg15 harg15 arg16 harg16 arg25 harg25 arg26 harg26 x6 x7 x8 x9 x14 x15 x16 x25 x26) (k0_off1 i) S1x512x512.size (k0_off1_inb i) (ix3 0 t c') (ix3 0 t c') fun b => by
    refine Eq.trans ?_ (congrArg (· + ((ix3 (n0 := 1) (n1 := 512) (n2 := 512) 0 t c') b).val) (congrFun h1 b).symm)
    match b with
    | 0 | 1 | 2 => exact (Nat.zero_add _).symm).trans (pro_y c arg6 harg6 arg7 harg7 arg8 harg8 arg9 harg9 arg14 harg14 arg15 harg15 arg16 harg16 arg25 harg25 arg26 harg26 arg27 x6 x7 x8 x9 x14 x15 x16 x25 x26 hb _ t c')

include arg6 harg6 in
/-- The state the first tile leaves, as the second tile reads it. -/
theorem pro_state (h : Fin 4) : StateIs (K.D.stateAt B h 4)
    (mIn 0#1 (arg26.view.readCov (run_first.sl.H26_4 (F := Ideal) c arg14 harg14 arg15 harg15 arg26 harg26 x14 x15 x26) (Rect.unit (s := S4x1x128) ![h.val, 0, 0] S1x1x128.size (inb_m h)).toLoadRect))
    (cIn 0#1 (arg25.view.readCov (run_first.sl.H25_4 (F := Ideal) c arg7 harg7 arg8 harg8 arg14 harg14 arg15 harg15 arg25 harg25 arg26 harg26 x7 x8 x14 x15 x25 x26) (Rect.unit (s := S4x128x256) ![h.val, 0, 0] S1x128x256.size (inb_c h)).toLoadRect)) := by
  have hst := (proHead_is arg6 harg6 arg7 harg7 arg8 harg8 arg14 harg14 arg15 harg15 arg25 harg25 arg26 harg26 x6 x7 x8 x9 x14 x15 x16 x25 x26 hb h).s4
  have hcv (j : Fin 128) (e : Fin 256) : arg25.view.readCov (run_first.sl.H25_4 (F := Ideal) c arg7 harg7 arg8 harg8 arg14 harg14 arg15 harg15 arg25 harg25 arg26 harg26 x7 x8 x14 x15 x25 x26) (Rect.unit (s := S4x128x256) ![h.val, 0, 0] S1x128x256.size (inb_c h)).toLoadRect (ix3 0 j e) = (proHead arg6 harg6 arg7 harg7 arg8 harg8 arg14 harg14 arg15 harg15 arg25 harg25 arg26 harg26 x6 x7 x8 x14 x15 x25 x26 h).c4 (ix2 j e) := by
    rw [pro_c (F := Ideal) c arg6 harg6 arg7 harg7 arg8 harg8 arg14 harg14 arg15 harg15 arg25 harg25 arg26 harg26 x6 x7 x8 x14 x15 x25 x26]
    refine (readCov_at arg25 _ ![h.val, 0, 0] S1x128x256.size (inb_c h) (ix3 0 j e) (ix3 h j e) fun b => ?_).trans (c_four arg25 _ [] (fun h => (proHead arg6 harg6 arg7 harg7 arg8 harg8 arg14 harg14 arg15 harg15 arg25 harg25 arg26 harg26 x6 x7 x8 x14 x15 x25 x26 h).c4) h j e)
    match b with
    | 0 => rfl
    | 1 | 2 => exact (Nat.zero_add _).symm
  refine stateIs_carried _ _ (fun s => ?_) (fun d j => (hcv j _).trans (hst.C d j)) (fun d j => (hcv j _).trans (hst.n d j))
  rw [pro_m (F := Ideal) c arg6 harg6 arg7 harg7 arg8 harg8 arg14 harg14 arg15 harg15 arg25 harg25 arg26 harg26 x6 x7 x8 x14 x15 x25 x26]
  refine (readCov_at arg26 _ ![h.val, 0, 0] S1x1x128.size (inb_m h) (ix3 0 0 s) (ix3 h 0 s) fun b => ?_).trans ((m_four arg26 _ [] (fun h => (proHead arg6 harg6 arg7 harg7 arg8 harg8 arg14 harg14 arg15 harg15 arg25 harg25 arg26 harg26 x6 x7 x8 x14 x15 x25 x26 h).m4) h s).trans (hst.m s))
  match b with
  | 0 => rfl
  | 1 | 2 => exact (Nat.zero_add _).symm

/-- The output block after the first point: the rows of the first tile. -/
theorem first_rows (hc : isFirst i) (hi : k0_off1 i = ![0, 0, 0]) (y : Vec Ideal S1x512x512 .bf16) (hy : ∀ t c : Fin 512, y (ix3 0 t c) = K.y B 0 t c) (t : Fin 512) (j : Fin 1024) :
    (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.1 (ix3 0 t j) = (tileRow x2 x3 x4 x5 y t).out (tileWeights x17 x18 x19 x20 x21 x22 x23) j := by
  rw [first_out (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc hi]
  have e : (run_first.sl.v111 (F := Ideal) c i arg6 harg6 arg7 harg7 arg8 harg8 arg9 harg9 arg14 harg14 arg15 harg15 arg16 harg16 arg25 harg25 arg26 harg26 arg27 x6 x7 x8 x9 x14 x15 x16 x25 x26) = y := by
    funext u
    have hu : u = ix3 0 (u 1) (u 2) := (eq_ix3 u).trans (congrArg (fun z : Fin 1 => ix3 z (u 1 : Fin 512) (u 2 : Fin 512)) (Subsingleton.elim _ _))
    exact (congrArg _ hu).trans ((pro_v111 c i arg6 harg6 arg7 harg7 arg8 harg8 arg9 harg9 arg14 harg14 arg15 harg15 arg16 harg16 arg25 harg25 arg26 harg26 arg27 x6 x7 x8 x9 x14 x15 x16 x25 x26 hb hi (u 1) (u 2)).trans ((hy (u 1) (u 2)).symm.trans (congrArg y hu.symm)))
  unfold firstAcc firstX
  rw [e, xAt_eq, yAt_eq, xAt_eq, xAt_eq, wfAt_eq, wfAt_eq, woAt_eq, gfAt_eq]
  exact acc_out x2 x3 x4 x5 y x17 x18 x19 x20 x21 x22 x23 t _ _ _ (wgAt_at arg21 harg21 x21) (wgAt_at arg22 harg22 x22) (wdAt_at arg23 harg23 x23) j
end

section
variable (hp : BlocksAre K B 0 x6 x7 x8 x9 x14 x15 x16) (hb : BlocksAre K B 1 x10 x11 x12 x13 x14 x15 x16)
  (hg : ∀ h r : Fin 4, gateOff i h r = ![0, h.val, (chunkOf 1 r).val, 0])
  (ho : ∀ r h : Fin 4, yOff i r h = ![1, 128 * r.val, 128 * h.val])
  (hz : Scalar.cmpi .eq (BitVec.ofNat 32 (i 1)) 7#32 = 0#1)
include arg6 harg6 hp hb hg hz

theorem nextHead_is (h : Fin 4) : HeadIs K.D B h 1 (nextHead i arg10 harg10 arg11 harg11 arg12 harg12 arg14 harg14 arg15 harg15 arg25 arg26 x10 x11 x12 x14 x15  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h) :=
  headIs hb arg10 harg10 arg11 harg11 arg12 harg12 arg14 harg14 arg15 harg15 (gateOff i h) (gateOff_inb i h) (hg h) _ _
    (hz ▸ pro_state c arg6 harg6 arg7 harg7 arg8 harg8 arg14 harg14 arg15 harg15 arg25 harg25 arg26 harg26 x6 x7 x8 x9 x14 x15 x16 x25 x26 hp h)

theorem nextItem_at (r h : Fin 4) (t c' : Fin 512) (ht : t.val / 128 = r.val) (hc : c'.val / 128 = h.val) :
    nextItem i arg10 harg10 arg11 harg11 arg12 harg12 arg13 harg13 arg14 harg14 arg15 harg15 arg16 harg16 arg25 arg26 x10 x11 x12 x13 x14 x15 x16  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h r (ix3 0 ⟨t.val % 128, by omega⟩ ⟨c'.val % 128, by omega⟩) = K.y B 1 t c' :=
  item_at hb arg13 harg13 arg16 harg16 (nextHead_is c i arg6 harg6 arg7 harg7 arg8 harg8 arg10 harg10 arg11 harg11 arg12 harg12 arg14 harg14 arg15 harg15 arg25 harg25 arg26 harg26 x6 x7 x8 x9 x10 x11 x12 x13 x14 x15 x16 x25 x26 hp hb hg hz h) r t c' ht hc

include ho in
/-- The scratch buffers after the first point. -/
theorem first_carry (hc : isFirst i) (hi : k0_off1 i = ![0, 0, 0]) : Carry K B 1 1 (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.1 (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.1 (run_first c i hc hi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27).1.2.2.2 where
  m H s := by
    rw [next_m (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc hi]
    exact (m_four arg26 _ _ (fun h => (nextHead i arg10 harg10 arg11 harg11 arg12 harg12 arg14 harg14 arg15 harg15 arg25 arg26 x10 x11 x12 x14 x15  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h).m4) H s).trans ((nextHead_is c i arg6 harg6 arg7 harg7 arg8 harg8 arg10 harg10 arg11 harg11 arg12 harg12 arg14 harg14 arg15 harg15 arg25 harg25 arg26 harg26 x6 x7 x8 x9 x10 x11 x12 x13 x14 x15 x16 x25 x26 hp hb hg hz H).s4.m s)
  C H d j := by
    rw [next_c (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc hi]
    exact (c_four arg25 _ _ (fun h => (nextHead i arg10 harg10 arg11 harg11 arg12 harg12 arg14 harg14 arg15 harg15 arg25 arg26 x10 x11 x12 x14 x15  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h).c4) H j ⟨d.val, by omega⟩).trans ((nextHead_is c i arg6 harg6 arg7 harg7 arg8 harg8 arg10 harg10 arg11 harg11 arg12 harg12 arg14 harg14 arg15 harg15 arg25 harg25 arg26 harg26 x6 x7 x8 x9 x10 x11 x12 x13 x14 x15 x16 x25 x26 hp hb hg hz H).s4.C d j)
  n H d j := by
    rw [next_c (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc hi]
    exact (c_four arg25 _ _ (fun h => (nextHead i arg10 harg10 arg11 harg11 arg12 harg12 arg14 harg14 arg15 harg15 arg25 arg26 x10 x11 x12 x14 x15  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h).c4) H j ⟨128 + d.val, by omega⟩).trans ((nextHead_is c i arg6 harg6 arg7 harg7 arg8 harg8 arg10 harg10 arg11 harg11 arg12 harg12 arg14 harg14 arg15 harg15 arg25 harg25 arg26 harg26 x6 x7 x8 x9 x10 x11 x12 x13 x14 x15 x16 x25 x26 hp hb hg hz H).s4.n d j)
  y t c' := by
    have hw (r h : Fin 4) (t c' : Fin 512) (ht : t.val / 128 = r.val) (hc : c'.val / 128 = h.val) := nextItem_at c i arg6 harg6 arg7 harg7 arg8 harg8 arg10 harg10 arg11 harg11 arg12 harg12 arg13 harg13 arg14 harg14 arg15 harg15 arg16 harg16 arg25 harg25 arg26 harg26 x6 x7 x8 x9 x10 x11 x12 x13 x14 x15 x16 x25 x26 hp hb hg hz r h t c' ht hc
    rw [next_y3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x2 x3 x4 x5 x6 x7 x8 x9 x10 x11 x12 x13 x14 x15 x16 x17 x18 x19 x20 x21 x22 x23 x24 x25 x26 x27 hc hi]
    refine y_group arg27 _ 1 3 (K.y B 1) _ (fun h => nextItem i arg10 harg10 arg11 harg11 arg12 harg12 arg13 harg13 arg14 harg14 arg15 harg15 arg16 harg16 arg25 arg26 x10 x11 x12 x13 x14 x15 x16  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h 3) (k0_off19 i) (k0_off20 i) (k0_off21 i) (k0_off22 i) (ho 3 0) (ho 3 1) (ho 3 2) (ho 3 3) _ _ _ _ (hw 3) (fun t c' ht => ?_) t c' (by show t.val / 128 < 4; omega)
    rw [next_y2 (F := Ideal) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26]
    refine y_group arg27 _ 1 2 (K.y B 1) _ (fun h => nextItem i arg10 harg10 arg11 harg11 arg12 harg12 arg13 harg13 arg14 harg14 arg15 harg15 arg16 harg16 arg25 arg26 x10 x11 x12 x13 x14 x15 x16  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h 2) (k0_off15 i) (k0_off16 i) (k0_off17 i) (k0_off18 i) (ho 2 0) (ho 2 1) (ho 2 2) (ho 2 3) _ _ _ _ (hw 2) (fun t c' ht => ?_) t c' ht
    rw [next_y1 (F := Ideal) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26]
    refine y_group arg27 _ 1 1 (K.y B 1) _ (fun h => nextItem i arg10 harg10 arg11 harg11 arg12 harg12 arg13 harg13 arg14 harg14 arg15 harg15 arg16 harg16 arg25 arg26 x10 x11 x12 x13 x14 x15 x16  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h 1) (k0_off11 i) (k0_off12 i) (k0_off13 i) (k0_off14 i) (ho 1 0) (ho 1 1) (ho 1 2) (ho 1 3) _ _ _ _ (hw 1) (fun t c' ht => ?_) t c' ht
    rw [next_y0 (F := Ideal) c i arg6 harg6 arg7 harg7 arg8 harg8 arg9 harg9 arg10 harg10 arg11 harg11 arg12 harg12 arg13 harg13 arg14 harg14 arg15 harg15 arg16 harg16 arg25 harg25 arg26 harg26 x6 x7 x8 x9 x10 x11 x12 x13 x14 x15 x16 x25 x26]
    refine y_group arg27 _ 1 0 (K.y B 1) _ (fun h => nextItem i arg10 harg10 arg11 harg11 arg12 harg12 arg13 harg13 arg14 harg14 arg15 harg15 arg16 harg16 arg25 arg26 x10 x11 x12 x13 x14 x15 x16  (run_first.sl.H25_4 (F := Ideal) c arg7 harg7 arg8 harg8 arg14 harg14 arg15 harg15 arg25 harg25 arg26 harg26 x7 x8 x14 x15 x25 x26) (run_first.sl.H26_4 (F := Ideal) c arg14 harg14 arg15 harg15 arg26 harg26 x14 x15 x26) h 0) (k0_off7 i) (k0_off8 i) (k0_off9 i) (k0_off10 i) (ho 0 0) (ho 0 1) (ho 0 2) (ho 0 3) _ _ _ _ (hw 0) (fun t c' ht => ?_) t c' ht
    exact absurd ht (Nat.not_lt_zero _)
end
end

end Cert.KernelIdeal.Body

end
-- ==== Proof.Blocks.lean ====
/-
  The blocks a point is given, at their elements: each is the argument array at the tile's place, and the grid's tables (which
  half of the mixer's buffer, which gate rows, whether the next tile starts a sequence) at every point.
-/
module

public import proofs.«01_k».proof.Proof.RestStep
public import proofs.«01_k».proof.Proof.IdealFirst
public import proofs.«01_k».proof.Proof.Gen.KernelIdeal.Frame
public import Idealize.ShloMosaic.Lib.Pipeline.ValueKit

@[expose] public section

set_option maxRecDepth 16384

noncomputable section

namespace Cert.KernelIdeal.Body

open Cert.KernelIdeal Cert.KernelIdeal.Gen Cert.Mlstm
open Idealize.ShloMosaic Idealize.ShloMosaic.TcCoe Idealize.ShloMosaic.Tactic Idealize.SL.Sem
open Idealize.ShloMosaic.Pipeline (Dat)

theorem first_iff : ∀ t : Fin grid0.N, isFirst (grid0.coords t) ↔ t.val = 0 := by decide +kernel
theorem off1_at : ∀ t : Fin grid0.N, k0_off1 (grid0.coords t) = ![t.val % 2, 0, 0] := by decide +kernel
theorem yOff_at : ∀ t : Fin grid0.N, ∀ r h : Fin 4, yOff (grid0.coords t) r h = ![(t.val + 1) % 2, 128 * r.val, 128 * h.val] := by decide +kernel
theorem gateOff_at : ∀ t : Fin grid0.N, ∀ h r : Fin 4, gateOff (grid0.coords t) h r = ![0, h.val, 4 * ((t.val + 1) % 8) + r.val, 0] := by decide +kernel
theorem fresh_at : ∀ t : Fin grid0.N, Scalar.cmpi .eq (BitVec.ofNat 32 (grid0.coords t 1)) 7#32 = if (t.val + 1) % 8 = 0 then 1#1 else 0#1 := by decide +kernel

theorem idx0 : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_22.index t = ![t.val / 8, t.val % 8, 0] :=
  (by decide +kernel : ∀ t : Fin grid0.N, _)
theorem idx1 : ∀ t : Fin cfg0.N, win0_4.index t = ![0, 0, 0] ∧ win0_5.index t = ![0, 0, 0] ∧ win0_6.index t = ![0, 0, 0] ∧ win0_7.index t = ![0, 0, 0] ∧ win0_14.index t = ![0, 0] :=
  (by decide +kernel : ∀ t : Fin grid0.N, _)
theorem idx2 : ∀ t : Fin cfg0.N, t.val + 1 < 128 → win0_8.index t = ![(t.val + 1) / 8, (t.val + 1) % 8, 0] ∧ win0_9.index t = ![(t.val + 1) / 8, 0, (t.val + 1) % 8]
    ∧ win0_10.index t = ![(t.val + 1) / 8, (t.val + 1) % 8, 0] ∧ win0_11.index t = ![(t.val + 1) / 8, (t.val + 1) % 8, 0]
    ∧ win0_12.index t = ![(t.val + 1) / 8, 0, 0, 0] ∧ win0_13.index t = ![(t.val + 1) / 8, 0, 0, 0] :=
  (by decide +kernel : ∀ t : Fin grid0.N, _)
theorem idx3 : ∀ t : Fin cfg0.N, win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] :=
  (by decide +kernel : ∀ t : Fin grid0.N, _)

variable (m : (ℓ : Loc nD τ sig) → Buf (Elt Ideal) ℓ) (c : Dev nD)

/-- The argument arrays. -/
abbrev aX : FVec Ideal S16x4096x1024 .f32 := m ((c : Thread nD τ).loc main_arg0)
abbrev aYa : FVec Ideal S16x4096x512 .bf16 := m ((c : Thread nD τ).loc main_arg1)
abbrev aMga : FVec Ideal S16x4096x1024 .bf16 := m ((c : Thread nD τ).loc main_arg2)
abbrev aMgb : FVec Ideal S16x4096x1024 .bf16 := m ((c : Thread nD τ).loc main_arg3)
abbrev aQ : FVec Ideal S16x4096x512 .bf16 := m ((c : Thread nD τ).loc main_arg4)
abbrev aK : FVec Ideal S16x512x4096 .bf16 := m ((c : Thread nD τ).loc main_arg5)
abbrev aV : FVec Ideal S16x4096x512 .bf16 := m ((c : Thread nD τ).loc main_arg6)
abbrev aOg : FVec Ideal S16x4096x512 .bf16 := m ((c : Thread nD τ).loc main_arg7)
abbrev aB : FVec Ideal S16x4x32x128 .f32 := m ((c : Thread nD τ).loc main_arg8)
abbrev aLi : FVec Ideal S16x4x32x128 .f32 := m ((c : Thread nD τ).loc main_arg9)
abbrev aGh : FVec Ideal S1x512 .f32 := m ((c : Thread nD τ).loc main_arg10)

theorem lt_N (t : Fin cfg0.N) : t.val < 128 := t.isLt

/-- The sequence and the tile of the `n`-th point. -/
def seqOf (n : ℕ) (h : n < 128) : Fin 16 := ⟨n / 8, by omega⟩
def tileOf (n : ℕ) : Fin 8 := ⟨n % 8, by omega⟩

/-- The call's recurrence inputs hold the numbers `D`. -/
def Given (D : Data) : Prop := D.Of (fun a b d => aQ m c (ix3 a b d)) (fun a b d => aK m c (ix3 a b d)) (fun a b d => aV m c (ix3 a b d))
  (fun a b d e => aB m c (ix4 a b d e)) (fun a b d e => aLi m c (ix4 a b d e))

/-- The call. -/
def callOf (D : Data) : Call := ⟨D, fun j => aGh m c (ix2 0 j), fun B s j => aOg m c (ix3 B s j)⟩

variable (t : Fin cfg0.N)

section
variable {D : Data} (hR : Given m c D)
include hR

/-- The blocks of the next tile. -/
theorem blocks_next (hn : t.val + 1 < 128) :
    BlocksAre (callOf m c D) (seqOf (t.val + 1) hn) (tileOf (t.val + 1)) (iblk m c 8 t) (iblk m c 9 t) (iblk m c 10 t) (iblk m c 11 t) (iblk m c 12 t) (iblk m c 13 t) (iblk m c 14 t) where
  q r H u j := by
    refine Eq.trans ?_ (hR.q (seqOf (t.val + 1) hn) H (chunkOf (tileOf (t.val + 1)) r) u j)
    unfold chunkOf tileOf seqOf
    blk_point [iblk, V, idx2 t hn]
  k r H u j := by
    refine Eq.trans ?_ (hR.k (seqOf (t.val + 1) hn) H (chunkOf (tileOf (t.val + 1)) r) u j)
    unfold chunkOf tileOf seqOf
    blk_point [iblk, V, idx2 t hn]
  v r H u j := by
    refine Eq.trans ?_ (hR.v (seqOf (t.val + 1) hn) H (chunkOf (tileOf (t.val + 1)) r) u j)
    unfold chunkOf tileOf seqOf
    blk_point [iblk, V, idx2 t hn]
  b H g s := by
    refine Eq.trans ?_ (hR.b (seqOf (t.val + 1) hn) H g s)
    unfold seqOf
    blk_point [iblk, V, idx2 t hn]
  li H g s := by
    refine Eq.trans ?_ (hR.li (seqOf (t.val + 1) hn) H g s)
    unfold seqOf
    blk_point [iblk, V, idx2 t hn]
  gh j := by
    show _ = aGh m c (ix2 0 j)
    blk_point [iblk, V, idx1 t]
  og s j := by
    show _ = aOg m c (ix3 (seqOf (t.val + 1) hn) ⟨512 * (tileOf (t.val + 1)).val + s.val, _⟩ j)
    unfold tileOf seqOf
    blk_point [iblk, V, idx2 t hn]

/-- The blocks of the first tile, at the first point. -/
theorem blocks_first (h0 : t.val = 0) : BlocksAre (callOf m c D) 0 0 (iblk m c 4 t) (iblk m c 5 t) (iblk m c 6 t) (iblk m c 7 t) (iblk m c 12 t) (iblk m c 13 t) (iblk m c 14 t) where
  q r H u j := by
    refine Eq.trans ?_ (hR.q 0 H (chunkOf 0 r) u j)
    unfold chunkOf
    blk_point [iblk, V, idx1 t]
  k r H u j := by
    refine Eq.trans ?_ (hR.k 0 H (chunkOf 0 r) u j)
    unfold chunkOf
    blk_point [iblk, V, idx1 t]
  v r H u j := by
    refine Eq.trans ?_ (hR.v 0 H (chunkOf 0 r) u j)
    unfold chunkOf
    blk_point [iblk, V, idx1 t]
  b H g s := by
    refine Eq.trans ?_ (hR.b 0 H g s)
    blk_point [iblk, V, idx2 t (by omega), h0]
  li H g s := by
    refine Eq.trans ?_ (hR.li 0 H g s)
    blk_point [iblk, V, idx2 t (by omega), h0]
  gh j := by
    show _ = aGh m c (ix2 0 j)
    blk_point [iblk, V, idx1 t]
  og s j := by
    show _ = aOg m c (ix3 0 ⟨512 * (0 : Fin 8).val + s.val, _⟩ j)
    blk_point [iblk, V, idx1 t]
end

end Cert.KernelIdeal.Body

end
-- ==== Proof.Step.lean ====
/-
  A grid point: its run leaves its tile's rows in the output block and, for the next point, the state and the mixer's output
  of the next tile in the scratch buffers.
-/
module

public import proofs.«01_k».proof.Proof.FirstStep
public import proofs.«01_k».proof.Proof.Blocks

@[expose] public section

set_option maxRecDepth 65536

noncomputable section

namespace Cert.KernelIdeal.Body

open Cert.KernelIdeal Cert.KernelIdeal.Gen Cert.Mlstm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (c : Dev nD) (D : Data)

/-- What the scratch buffers hold before point `n`: nothing is asked before the first point and after the last. -/
def Inv (n : ℕ) (x25 : Vec Ideal S4x128x256 .f32) (x26 : Vec Ideal S4x1x128 .f32) (x27 : Vec Ideal S2x512x512 .bf16) : Prop :=
  0 < n → ∀ h : n < 128, Carry (callOf m c D) (seqOf n h) (tileOf n) ⟨n % 2, Nat.mod_lt _ (by decide)⟩ x25 x26 x27

/-- The mixer's output of point `t`'s tile. -/
def yBlk (t : Fin cfg0.N) : Vec Ideal S1x512x512 .bf16 := fun y => (callOf m c D).y (seqOf t.val (lt_N t)) (tileOf t.val) (y 1) (y 2)

/-- The rows point `t` leaves in the output block. -/
def outBlk (t : Fin cfg0.N) : Vec Ideal S1x512x1024 .f32 := fun y =>
  (tileRow (iblk m c 0 t) (iblk m c 1 t) (iblk m c 2 t) (iblk m c 3 t) (yBlk m c D t) (y 1)).out
    (tileWeights (iblk m c 15 t) (iblk m c 16 t) (iblk m c 17 t) (iblk m c 18 t) (iblk m c 19 t) (iblk m c 20 t) (iblk m c 21 t)) (y 2)

theorem outBlk_of (t : Fin cfg0.N) (W : Vec Ideal S1x512x1024 .f32)
    (h : ∀ (s : Fin 512) (j : Fin 1024), W (ix3 0 s j) = (tileRow (iblk m c 0 t) (iblk m c 1 t) (iblk m c 2 t) (iblk m c 3 t) (yBlk m c D t) s).out
      (tileWeights (iblk m c 15 t) (iblk m c 16 t) (iblk m c 17 t) (iblk m c 18 t) (iblk m c 19 t) (iblk m c 20 t) (iblk m c 21 t)) j) : W = outBlk m c D t := by
  funext u
  have hu : u = ix3 0 (u 1) (u 2) := (eq_ix3 u).trans (congrArg (fun z : Fin 1 => ix3 z (u 1 : Fin 512) (u 2 : Fin 1024)) (Subsingleton.elim _ _))
  exact (congrArg W hu).trans (h (u 1) (u 2))

theorem off1_zero (t : Fin cfg0.N) (hc : isFirst (grid0.coords t)) : k0_off1 (grid0.coords t) = ![0, 0, 0] :=
  (off1_at t).trans (by rw [(first_iff t).mp hc])

variable {m c D} (hR : Given m c D) (t : Fin cfg0.N)
  (arg2 : Memref sig .tc .vmem S1x512x1024 .f32) (harg2 : arg2.IsWhole)
  (arg3 : Memref sig .tc .vmem S1x512x512 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S1x512x512 .bf16) (harg6 : arg6.IsWhole)
  (arg7 : Memref sig .tc .vmem S1x512x512 .bf16) (harg7 : arg7.IsWhole)
  (arg8 : Memref sig .tc .vmem S1x512x512 .bf16) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .bf16) (harg11 : arg11.IsWhole)
  (arg12 : Memref sig .tc .vmem S1x512x512 .bf16) (harg12 : arg12.IsWhole)
  (arg13 : Memref sig .tc .vmem S1x512x512 .bf16) (harg13 : arg13.IsWhole)
  (arg14 : Memref sig .tc .vmem S1x4x32x128 .f32) (harg14 : arg14.IsWhole)
  (arg15 : Memref sig .tc .vmem S1x4x32x128 .f32) (harg15 : arg15.IsWhole)
  (arg16 : Memref sig .tc .vmem S1x512 .f32) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S1024x2816 .bf16) (harg21 : arg21.IsWhole)
  (arg22 : Memref sig .tc .vmem S1024x2816 .bf16) (harg22 : arg22.IsWhole)
  (arg23 : Memref sig .tc .vmem S2816x1024 .bf16) (harg23 : arg23.IsWhole)
  (arg24 : Memref sig .tc .vmem S1x512x1024 .f32) (harg24 : arg24.IsWhole)
  (arg25 : Memref sig .tc .vmem S4x128x256 .f32) (harg25 : arg25.IsWhole)
  (arg26 : Memref sig .tc .vmem S4x1x128 .f32) (harg26 : arg26.IsWhole)
  (arg27 : Memref sig .tc .vmem S2x512x512 .bf16) (harg27 : arg27.IsWhole)
  (x24 : Vec Ideal S1x512x1024 .f32) (x25 : Vec Ideal S4x128x256 .f32) (x26 : Vec Ideal S4x1x128 .f32) (x27 : Vec Ideal S2x512x512 .bf16)
include hR

theorem first_step (hc : isFirst (grid0.coords t)) :
    (run_first c (grid0.coords t) hc (off1_zero t hc) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.1 = outBlk m c D t
    ∧ Inv m c D (t.val + 1) (run_first c (grid0.coords t) hc (off1_zero t hc) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.2.1 (run_first c (grid0.coords t) hc (off1_zero t hc) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.2.2.1 (run_first c (grid0.coords t) hc (off1_zero t hc) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.2.2.2 := by
  have h0 : t.val = 0 := (first_iff t).mp hc
  have hn : t.val + 1 < 128 := by omega
  have hi := off1_zero t hc
  have e0 : seqOf t.val (lt_N t) = 0 := Fin.ext (by show t.val / 8 = 0; omega)
  have e1 : tileOf t.val = 0 := Fin.ext (by show t.val % 8 = 0; omega)
  have f0 : seqOf (t.val + 1) hn = 0 := Fin.ext (by show (t.val + 1) / 8 = 0; omega)
  have f1 : tileOf (t.val + 1) = 1 := Fin.ext (by show (t.val + 1) % 8 = 1; omega)
  have f2 : (⟨(t.val + 1) % 2, Nat.mod_lt _ (by decide)⟩ : Fin 2) = 1 := Fin.ext (by show (t.val + 1) % 2 = 1; omega)
  have hp := blocks_first m c t hR h0
  have hb := blocks_next m c t hR hn
  rw [f0, f1] at hb
  refine ⟨outBlk_of m c D t _ fun s j => first_rows c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27 hp hc hi (yBlk m c D t) (fun t' c' => ?_) s j, fun _ _ => ?_⟩
  · show (callOf m c D).y (seqOf t.val (lt_N t)) (tileOf t.val) t' c' = _
    rw [e0, e1]
  · rw [f0, f1, f2]
    refine first_carry c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27 hp hb (fun h r => (gateOff_at t h r).trans ?_) (fun r h => (yOff_at t r h).trans ?_) ((fresh_at t).trans (if_neg (by omega))) hc hi
    · rw [show (t.val + 1) % 8 = 1 by omega]; rfl
    · rw [show (t.val + 1) % 2 = 1 by omega]

theorem rest_step (hc : ¬ isFirst (grid0.coords t)) (hI : Inv m c D t.val x25 x26 x27) :
    (run_rest c (grid0.coords t) hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.1 = outBlk m c D t
    ∧ Inv m c D (t.val + 1) (run_rest c (grid0.coords t) hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.2.1 (run_rest c (grid0.coords t) hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.2.2.1 (run_rest c (grid0.coords t) hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1.2.2.2 := by
  have h0 : 0 < t.val := Nat.pos_of_ne_zero fun h => hc ((first_iff t).mpr h)
  have hC := hI h0 (lt_N t)
  refine ⟨outBlk_of m c D t _ fun s j => rest_rows c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27 hc _ (off1_at t) (yBlk m c D t) hC.y s j, fun _ hn => ?_⟩
  refine rest_carry c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27 (blocks_next m c t hR hn) (gateOff_at t) (yOff_at t) (fun h => ?_) hc
  by_cases hz : (t.val + 1) % 8 = 0
  · rw [fresh_at t, if_pos hz, show 4 * (tileOf (t.val + 1)).val = 0 by show 4 * ((t.val + 1) % 8) = 0; omega]
    exact stateIs_zero _ _
  · rw [fresh_at t, if_neg hz, show seqOf (t.val + 1) hn = seqOf t.val (lt_N t) from Fin.ext (by show (t.val + 1) / 8 = t.val / 8; omega),
      show 4 * (tileOf (t.val + 1)).val = 4 * (tileOf t.val).val + 4 by show 4 * ((t.val + 1) % 8) = 4 * (t.val % 8) + 4; omega]
    exact stateIs_carried _ _ (fun s => (mAt_at arg26 harg26 x26 h s).trans (hC.m h s)) (fun d j => (cAt_at arg25 harg25 x25 h j _).trans (hC.C h d j)) (fun d j => (cAt_at arg25 harg25 x25 h j _).trans (hC.n h d j))

/-- A point's run. -/
theorem step (hI : Inv m c D t.val x25 x26 x27) : ∃ W : Vec Ideal S1x512x1024 .f32 × Vec Ideal S4x128x256 .f32 × Vec Ideal S4x1x128 .f32 × Vec Ideal S2x512x512 .bf16,
    W.1 = outBlk m c D t ∧ Inv m c D (t.val + 1) W.2.1 W.2.2.1 W.2.2.2 ∧ ∀ (E : Set ℕ) (K : PUnit → sProp 𝕄),
      iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare (iblk m c 5 t) ∗ owns (c : Thread nD τ) arg8 fullShare (iblk m c 6 t) ∗ owns (c : Thread nD τ) arg9 fullShare (iblk m c 7 t) ∗ owns (c : Thread nD τ) arg10 fullShare (iblk m c 8 t) ∗ owns (c : Thread nD τ) arg11 fullShare (iblk m c 9 t) ∗ owns (c : Thread nD τ) arg12 fullShare (iblk m c 10 t) ∗ owns (c : Thread nD τ) arg13 fullShare (iblk m c 11 t) ∗ owns (c : Thread nD τ) arg14 fullShare (iblk m c 12 t) ∗ owns (c : Thread nD τ) arg15 fullShare (iblk m c 13 t) ∗ owns (c : Thread nD τ) arg16 fullShare (iblk m c 14 t) ∗ owns (c : Thread nD τ) arg17 fullShare (iblk m c 15 t) ∗ owns (c : Thread nD τ) arg18 fullShare (iblk m c 16 t) ∗ owns (c : Thread nD τ) arg19 fullShare (iblk m c 17 t) ∗ owns (c : Thread nD τ) arg20 fullShare (iblk m c 18 t) ∗ owns (c : Thread nD τ) arg21 fullShare (iblk m c 19 t) ∗ owns (c : Thread nD τ) arg22 fullShare (iblk m c 20 t) ∗ owns (c : Thread nD τ) arg23 fullShare (iblk m c 21 t)
        ∗ owns (c : Thread nD τ) arg24 fullShare x24 ∗ owns (c : Thread nD τ) arg25 fullShare x25 ∗ owns (c : Thread nD τ) arg26 fullShare x26 ∗ owns (c : Thread nD τ) arg27 fullShare x27
        ∗ ((owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare (iblk m c 5 t) ∗ owns (c : Thread nD τ) arg8 fullShare (iblk m c 6 t) ∗ owns (c : Thread nD τ) arg9 fullShare (iblk m c 7 t) ∗ owns (c : Thread nD τ) arg10 fullShare (iblk m c 8 t) ∗ owns (c : Thread nD τ) arg11 fullShare (iblk m c 9 t) ∗ owns (c : Thread nD τ) arg12 fullShare (iblk m c 10 t) ∗ owns (c : Thread nD τ) arg13 fullShare (iblk m c 11 t) ∗ owns (c : Thread nD τ) arg14 fullShare (iblk m c 12 t) ∗ owns (c : Thread nD τ) arg15 fullShare (iblk m c 13 t) ∗ owns (c : Thread nD τ) arg16 fullShare (iblk m c 14 t) ∗ owns (c : Thread nD τ) arg17 fullShare (iblk m c 15 t) ∗ owns (c : Thread nD τ) arg18 fullShare (iblk m c 16 t) ∗ owns (c : Thread nD τ) arg19 fullShare (iblk m c 17 t) ∗ owns (c : Thread nD τ) arg20 fullShare (iblk m c 18 t) ∗ owns (c : Thread nD τ) arg21 fullShare (iblk m c 19 t) ∗ owns (c : Thread nD τ) arg22 fullShare (iblk m c 20 t) ∗ owns (c : Thread nD τ) arg23 fullShare (iblk m c 21 t)
          ∗ owns (c : Thread nD τ) arg24 fullShare W.1 ∗ owns (c : Thread nD τ) arg25 fullShare W.2.1 ∗ owns (c : Thread nD τ) arg26 fullShare W.2.2.1 ∗ owns (c : Thread nD τ) arg27 fullShare W.2.2.2) -∗ K ⟨⟩))
      ⊢ wp frame (wpE (defs₀ (F := Ideal)) Variants.none c none) E (cc0_tail (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  by_cases hc : isFirst (grid0.coords t)
  · exact ⟨(run_first c (grid0.coords t) hc (off1_zero t hc) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1, (first_step hR t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x24 x25 x26 x27 hc).1, (first_step hR t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x24 x25 x26 x27 hc).2, (run_first c (grid0.coords t) hc (off1_zero t hc) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).2⟩
  · exact ⟨(run_rest c (grid0.coords t) hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).1, (rest_step hR t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x24 x25 x26 x27 hc hI).1, (rest_step hR t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x24 x25 x26 x27 hc hI).2, (run_rest c (grid0.coords t) hc arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) x24 x25 x26 x27).2⟩

end Cert.KernelIdeal.Body

end
-- ==== Proof.Track.lean ====
/-
  The idealized kernel's run, tracked: at each grid point the output block holds the tile's rows and the scratch buffers
  what the next point needs; so the launch ends with every row of the result array at its value.
-/
module

public import proofs.«01_k».proof.Proof.Step
public import Idealize.ShloMosaic.Lib.Claim

@[expose] public section

set_option maxRecDepth 16384

noncomputable section

namespace Cert.KernelIdeal.Track

open Cert.KernelIdeal Cert.KernelIdeal.Gen Cert.KernelIdeal.Body Cert.Mlstm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (D : Dev nD → Data) (ρ : Dev nD → PrngReg)

/-- The three scratch buffers. -/
abbrev sc0 : Memref sig .tc .vmem S4x128x256 .f32 := Memref.whole cc0_scratch0
abbrev sc1 : Memref sig .tc .vmem S4x1x128 .f32 := Memref.whole cc0_scratch1
abbrev sc2 : Memref sig .tc .vmem S2x512x512 .bf16 := Memref.whole cc0_scratch2

/-- What is kept from point to point: the scratch buffers at contents fit for the next point. -/
def keep (c : Dev nD) (n : ℕ) : sProp 𝕄 :=
  iprop(∃ d0, ∃ d1, ∃ d2, ⌜Inv m c (D c) n d0 d1 d2⌝ ∗ owns (c : Thread nD τ) sc0 fullShare d0 ∗ owns (c : Thread nD τ) sc1 fullShare d1 ∗ owns (c : Thread nD τ) sc2 fullShare d2 ∗ (∃ r, prngReg c r))

/-- The launch's proof data: every input's block is left in place, the output block gets its tile's rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => outBlk m c (D c) t
    | ⟨n + 23, h⟩ => absurd h (Nat.not_lt.mpr (Nat.le_add_left 23 n))
  Φ t := keep m D c t.val
  q w := Pipeline.shareOf spec0 w
  owed _ := 0

theorem A_eq (c : Dev nD) (w : Fin cfg0.W) : (dats m D 0 c).A w = V m c (Pipeline.arrRef spec0 w) := by
  dsimp only [dats]

/-- Each input's staging buffer holds its block at every point. -/
theorem after_0 (c : Dev nD) (t : Fin cfg0.N) : (dats m D 0 c).after 0 t = iblk m c 0 t := by dsimp only [dats]
theorem before_0 (c : Dev nD) (t : Fin cfg0.N) (d) : (dats m D 0 c).before 0 t d = iblk m c 0 t :=
  before0_0_of m (dats m D 0 c) (A_eq m D c 0) (after_0 m D c) t d
theorem after_1 (c : Dev nD) (t : Fin cfg0.N) : (dats m D 0 c).after 1 t = iblk m c 1 t := by dsimp only [dats]
theorem before_1 (c : Dev nD) (t : Fin cfg0.N) (d) : (dats m D 0 c).before 1 t d = iblk m c 1 t :=
  before0_1_of m (dats m D 0 c) (A_eq m D c 1) (after_1 m D c) t d
theorem after_2 (c : Dev nD) (t : Fin cfg0.N) : (dats m D 0 c).after 2 t = iblk m c 2 t := by dsimp only [dats]
theorem before_2 (c : Dev nD) (t : Fin cfg0.N) (d) : (dats m D 0 c).before 2 t d = iblk m c 2 t :=
  before0_2_of m (dats m D 0 c) (A_eq m D c 2) (after_2 m D c) t d
theorem after_3 (c : Dev nD) (t : Fin cfg0.N) : (dats m D 0 c).after 3 t = iblk m c 3 t := by dsimp only [dats]
theorem before_3 (c : Dev nD) (t : Fin cfg0.N) (d) : (dats m D 0 c).before 3 t d = iblk m c 3 t :=
  before0_3_of m (dats m D 0 c) (A_eq m D c 3) (after_3 m D c) t d
theorem after_4 (c : Dev nD) (t : Fin cfg0.N) : (dats m D 0 c).after 4 t = iblk m c 4 t := by dsimp only [dats]
theorem before_4 (c : Dev nD) (t : Fin cfg0.N) (d) : (dats m D 0 c).before 4 t d = iblk m c 4 t :=
  before0_4_of m (dats m D 0 c) (A_eq m D c 4) (after_4 m D c) t d
theorem after_5 (c : Dev nD) (t : Fin cfg0.N) : (dats m D 0 c).after 5 t = iblk m c 5 t := by dsimp only [dats]
theorem before_5 (c : Dev nD) (t : Fin cfg0.N) (d) : (dats m D 0 c).before 5 t d = iblk m c 5 t :=
  before0_5_of m (dats m D 0 c) (A_eq m D c 5) (after_5 m D c) t d
theorem after_6 (c : Dev nD) (t : Fin cfg0.N) : (dats m D 0 c).after 6 t = iblk m c 6 t := by dsimp only [dats]
theorem before_6 (c : Dev nD) (t : Fin cfg0.N) (d) : (dats m D 0 c).before 6 t d = iblk m c 6 t :=
  before0_6_of m (dats m D 0 c) (A_eq m D c 6) (after_6 m D c) t d
theorem after_7 (c : Dev nD) (t : Fin cfg0.N) : (dats m D 0 c).after 7 t = iblk m c 7 t := by dsimp only [dats]
theorem before_7 (c : Dev nD) (t : Fin cfg0.N) (d) : (dats m D 0 c).before 7 t d = iblk m c 7 t :=
  before0_7_of m (dats m D 0 c) (A_eq m D c 7) (after_7 m D c) t d
theorem after_8 (c : Dev nD) (t : Fin cfg0.N) : (dats m D 0 c).after 8 t = iblk m c 8 t := by dsimp only [dats]
theorem before_8 (c : Dev nD) (t : Fin cfg0.N) (d) : (dats m D 0 c).before 8 t d = iblk m c 8 t :=
  before0_8_of m (dats m D 0 c) (A_eq m D c 8) (after_8 m D c) t d
theorem after_9 (c : Dev nD) (t : Fin cfg0.N) : (dats m D 0 c).after 9 t = iblk m c 9 t := by dsimp only [dats]
theorem before_9 (c : Dev nD) (t : Fin cfg0.N) (d) : (dats m D 0 c).before 9 t d = iblk m c 9 t :=
  before0_9_of m (dats m D 0 c) (A_eq m D c 9) (after_9 m D c) t d
theorem after_10 (c : Dev nD) (t : Fin cfg0.N) : (dats m D 0 c).after 10 t = iblk m c 10 t := by dsimp only [dats]
theorem before_10 (c : Dev nD) (t : Fin cfg0.N) (d) : (dats m D 0 c).before 10 t d = iblk m c 10 t :=
  before0_10_of m (dats m D 0 c) (A_eq m D c 10) (after_10 m D c) t d
theorem after_11 (c : Dev nD) (t : Fin cfg0.N) : (dats m D 0 c).after 11 t = iblk m c 11 t := by dsimp only [dats]
theorem before_11 (c : Dev nD) (t : Fin cfg0.N) (d) : (dats m D 0 c).before 11 t d = iblk m c 11 t :=
  before0_11_of m (dats m D 0 c) (A_eq m D c 11) (after_11 m D c) t d
theorem after_12 (c : Dev nD) (t : Fin cfg0.N) : (dats m D 0 c).after 12 t = iblk m c 12 t := by dsimp only [dats]
theorem before_12 (c : Dev nD) (t : Fin cfg0.N) (d) : (dats m D 0 c).before 12 t d = iblk m c 12 t :=
  before0_12_of m (dats m D 0 c) (A_eq m D c 12) (after_12 m D c) t d
theorem after_13 (c : Dev nD) (t : Fin cfg0.N) : (dats m D 0 c).after 13 t = iblk m c 13 t := by dsimp only [dats]
theorem before_13 (c : Dev nD) (t : Fin cfg0.N) (d) : (dats m D 0 c).before 13 t d = iblk m c 13 t :=
  before0_13_of m (dats m D 0 c) (A_eq m D c 13) (after_13 m D c) t d
theorem after_14 (c : Dev nD) (t : Fin cfg0.N) : (dats m D 0 c).after 14 t = iblk m c 14 t := by dsimp only [dats]
theorem before_14 (c : Dev nD) (t : Fin cfg0.N) (d) : (dats m D 0 c).before 14 t d = iblk m c 14 t :=
  before0_14_of m (dats m D 0 c) (A_eq m D c 14) (after_14 m D c) t d
theorem after_15 (c : Dev nD) (t : Fin cfg0.N) : (dats m D 0 c).after 15 t = iblk m c 15 t := by dsimp only [dats]
theorem before_15 (c : Dev nD) (t : Fin cfg0.N) (d) : (dats m D 0 c).before 15 t d = iblk m c 15 t :=
  before0_15_of m (dats m D 0 c) (A_eq m D c 15) (after_15 m D c) t d
theorem after_16 (c : Dev nD) (t : Fin cfg0.N) : (dats m D 0 c).after 16 t = iblk m c 16 t := by dsimp only [dats]
theorem before_16 (c : Dev nD) (t : Fin cfg0.N) (d) : (dats m D 0 c).before 16 t d = iblk m c 16 t :=
  before0_16_of m (dats m D 0 c) (A_eq m D c 16) (after_16 m D c) t d
theorem after_17 (c : Dev nD) (t : Fin cfg0.N) : (dats m D 0 c).after 17 t = iblk m c 17 t := by dsimp only [dats]
theorem before_17 (c : Dev nD) (t : Fin cfg0.N) (d) : (dats m D 0 c).before 17 t d = iblk m c 17 t :=
  before0_17_of m (dats m D 0 c) (A_eq m D c 17) (after_17 m D c) t d
theorem after_18 (c : Dev nD) (t : Fin cfg0.N) : (dats m D 0 c).after 18 t = iblk m c 18 t := by dsimp only [dats]
theorem before_18 (c : Dev nD) (t : Fin cfg0.N) (d) : (dats m D 0 c).before 18 t d = iblk m c 18 t :=
  before0_18_of m (dats m D 0 c) (A_eq m D c 18) (after_18 m D c) t d
theorem after_19 (c : Dev nD) (t : Fin cfg0.N) : (dats m D 0 c).after 19 t = iblk m c 19 t := by dsimp only [dats]
theorem before_19 (c : Dev nD) (t : Fin cfg0.N) (d) : (dats m D 0 c).before 19 t d = iblk m c 19 t :=
  before0_19_of m (dats m D 0 c) (A_eq m D c 19) (after_19 m D c) t d
theorem after_20 (c : Dev nD) (t : Fin cfg0.N) : (dats m D 0 c).after 20 t = iblk m c 20 t := by dsimp only [dats]
theorem before_20 (c : Dev nD) (t : Fin cfg0.N) (d) : (dats m D 0 c).before 20 t d = iblk m c 20 t :=
  before0_20_of m (dats m D 0 c) (A_eq m D c 20) (after_20 m D c) t d
theorem after_21 (c : Dev nD) (t : Fin cfg0.N) : (dats m D 0 c).after 21 t = iblk m c 21 t := by dsimp only [dats]
theorem before_21 (c : Dev nD) (t : Fin cfg0.N) (d) : (dats m D 0 c).before 21 t d = iblk m c 21 t :=
  before0_21_of m (dats m D 0 c) (A_eq m D c 21) (after_21 m D c) t d
theorem after_22 (c : Dev nD) (t : Fin cfg0.N) : (dats m D 0 c).after 22 t = outBlk m c (D c) t := by dsimp only [dats]

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

def bodyPre (c : Dev nD) (t : Fin cfg0.N) : sProp 𝕄 :=
  iprop((dats m D 0 c).Φ t.castSucc ∗ (dats m D 0 c).owesAt () t.castSucc
    ∗ (∃ d, owns (c : Thread nD τ) (win0_0.stage (cfg0.slots t 0)) fullShare ((dats m D 0 c).before 0 t d))
    ∗ (∃ d, owns (c : Thread nD τ) (win0_1.stage (cfg0.slots t 1)) fullShare ((dats m D 0 c).before 1 t d))
    ∗ (∃ d, owns (c : Thread nD τ) (win0_2.stage (cfg0.slots t 2)) fullShare ((dats m D 0 c).before 2 t d))
    ∗ (∃ d, owns (c : Thread nD τ) (win0_3.stage (cfg0.slots t 3)) fullShare ((dats m D 0 c).before 3 t d))
    ∗ (∃ d, owns (c : Thread nD τ) (win0_4.stage (cfg0.slots t 4)) fullShare ((dats m D 0 c).before 4 t d))
    ∗ (∃ d, owns (c : Thread nD τ) (win0_5.stage (cfg0.slots t 5)) fullShare ((dats m D 0 c).before 5 t d))
    ∗ (∃ d, owns (c : Thread nD τ) (win0_6.stage (cfg0.slots t 6)) fullShare ((dats m D 0 c).before 6 t d))
    ∗ (∃ d, owns (c : Thread nD τ) (win0_7.stage (cfg0.slots t 7)) fullShare ((dats m D 0 c).before 7 t d))
    ∗ (∃ d, owns (c : Thread nD τ) (win0_8.stage (cfg0.slots t 8)) fullShare ((dats m D 0 c).before 8 t d))
    ∗ (∃ d, owns (c : Thread nD τ) (win0_9.stage (cfg0.slots t 9)) fullShare ((dats m D 0 c).before 9 t d))
    ∗ (∃ d, owns (c : Thread nD τ) (win0_10.stage (cfg0.slots t 10)) fullShare ((dats m D 0 c).before 10 t d))
    ∗ (∃ d, owns (c : Thread nD τ) (win0_11.stage (cfg0.slots t 11)) fullShare ((dats m D 0 c).before 11 t d))
    ∗ (∃ d, owns (c : Thread nD τ) (win0_12.stage (cfg0.slots t 12)) fullShare ((dats m D 0 c).before 12 t d))
    ∗ (∃ d, owns (c : Thread nD τ) (win0_13.stage (cfg0.slots t 13)) fullShare ((dats m D 0 c).before 13 t d))
    ∗ (∃ d, owns (c : Thread nD τ) (win0_14.stage (cfg0.slots t 14)) fullShare ((dats m D 0 c).before 14 t d))
    ∗ (∃ d, owns (c : Thread nD τ) (win0_15.stage (cfg0.slots t 15)) fullShare ((dats m D 0 c).before 15 t d))
    ∗ (∃ d, owns (c : Thread nD τ) (win0_16.stage (cfg0.slots t 16)) fullShare ((dats m D 0 c).before 16 t d))
    ∗ (∃ d, owns (c : Thread nD τ) (win0_17.stage (cfg0.slots t 17)) fullShare ((dats m D 0 c).before 17 t d))
    ∗ (∃ d, owns (c : Thread nD τ) (win0_18.stage (cfg0.slots t 18)) fullShare ((dats m D 0 c).before 18 t d))
    ∗ (∃ d, owns (c : Thread nD τ) (win0_19.stage (cfg0.slots t 19)) fullShare ((dats m D 0 c).before 19 t d))
    ∗ (∃ d, owns (c : Thread nD τ) (win0_20.stage (cfg0.slots t 20)) fullShare ((dats m D 0 c).before 20 t d))
    ∗ (∃ d, owns (c : Thread nD τ) (win0_21.stage (cfg0.slots t 21)) fullShare ((dats m D 0 c).before 21 t d))
    ∗ (∃ d, owns (c : Thread nD τ) (win0_22.stage (cfg0.slots t 22)) fullShare ((dats m D 0 c).before 22 t d)))

def bodyPost (c : Dev nD) (t : Fin cfg0.N) : sProp 𝕄 :=
  iprop((dats m D 0 c).Φ t.succ ∗ (dats m D 0 c).owesAt () t.succ
    ∗ owns (c : Thread nD τ) (win0_0.stage (cfg0.slots t 0)) fullShare ((dats m D 0 c).after 0 t)
    ∗ owns (c : Thread nD τ) (win0_1.stage (cfg0.slots t 1)) fullShare ((dats m D 0 c).after 1 t)
    ∗ owns (c : Thread nD τ) (win0_2.stage (cfg0.slots t 2)) fullShare ((dats m D 0 c).after 2 t)
    ∗ owns (c : Thread nD τ) (win0_3.stage (cfg0.slots t 3)) fullShare ((dats m D 0 c).after 3 t)
    ∗ owns (c : Thread nD τ) (win0_4.stage (cfg0.slots t 4)) fullShare ((dats m D 0 c).after 4 t)
    ∗ owns (c : Thread nD τ) (win0_5.stage (cfg0.slots t 5)) fullShare ((dats m D 0 c).after 5 t)
    ∗ owns (c : Thread nD τ) (win0_6.stage (cfg0.slots t 6)) fullShare ((dats m D 0 c).after 6 t)
    ∗ owns (c : Thread nD τ) (win0_7.stage (cfg0.slots t 7)) fullShare ((dats m D 0 c).after 7 t)
    ∗ owns (c : Thread nD τ) (win0_8.stage (cfg0.slots t 8)) fullShare ((dats m D 0 c).after 8 t)
    ∗ owns (c : Thread nD τ) (win0_9.stage (cfg0.slots t 9)) fullShare ((dats m D 0 c).after 9 t)
    ∗ owns (c : Thread nD τ) (win0_10.stage (cfg0.slots t 10)) fullShare ((dats m D 0 c).after 10 t)
    ∗ owns (c : Thread nD τ) (win0_11.stage (cfg0.slots t 11)) fullShare ((dats m D 0 c).after 11 t)
    ∗ owns (c : Thread nD τ) (win0_12.stage (cfg0.slots t 12)) fullShare ((dats m D 0 c).after 12 t)
    ∗ owns (c : Thread nD τ) (win0_13.stage (cfg0.slots t 13)) fullShare ((dats m D 0 c).after 13 t)
    ∗ owns (c : Thread nD τ) (win0_14.stage (cfg0.slots t 14)) fullShare ((dats m D 0 c).after 14 t)
    ∗ owns (c : Thread nD τ) (win0_15.stage (cfg0.slots t 15)) fullShare ((dats m D 0 c).after 15 t)
    ∗ owns (c : Thread nD τ) (win0_16.stage (cfg0.slots t 16)) fullShare ((dats m D 0 c).after 16 t)
    ∗ owns (c : Thread nD τ) (win0_17.stage (cfg0.slots t 17)) fullShare ((dats m D 0 c).after 17 t)
    ∗ owns (c : Thread nD τ) (win0_18.stage (cfg0.slots t 18)) fullShare ((dats m D 0 c).after 18 t)
    ∗ owns (c : Thread nD τ) (win0_19.stage (cfg0.slots t 19)) fullShare ((dats m D 0 c).after 19 t)
    ∗ owns (c : Thread nD τ) (win0_20.stage (cfg0.slots t 20)) fullShare ((dats m D 0 c).after 20 t)
    ∗ owns (c : Thread nD τ) (win0_21.stage (cfg0.slots t 21)) fullShare ((dats m D 0 c).after 21 t)
    ∗ owns (c : Thread nD τ) (win0_22.stage (cfg0.slots t 22)) fullShare ((dats m D 0 c).after 22 t))

set_option maxHeartbeats 4000000 in
/-- The body at any point. -/
theorem sound_body (hR : ∀ c, Given m c (D c)) (c : Dev nD) (t : Fin cfg0.N) :
    bodyPre m D c t ⊢ wp frame (wpE (defs₀ (F := Ideal)) Variants.none c none) Set.univ (bodyAt0 t) (fun _ => bodyPost m D c t) := by
  unfold bodyPre bodyPost bodyAt0
  simp only [before_0, before_1, before_2, before_3, before_4, before_5, before_6, before_7, before_8, before_9, before_10, before_11, before_12, before_13, before_14, before_15, before_16, before_17, before_18, before_19, before_20, before_21, after_0, after_1, after_2, after_3, after_4, after_5, after_6, after_7, after_8, after_9, after_10, after_11, after_12, after_13, after_14, after_15, after_16, after_17, after_18, after_19, after_20, after_21, after_22]
  rw [show (dats m D 0 c).Φ t.succ = keep m D c (t.val + 1) from rfl, show (dats m D 0 c).Φ t.castSucc = keep m D c t.val from rfl,
    show (dats m D 0 c).owesAt () t.succ = (dats m D 0 c).owesAt () t.castSucc from rfl]
  unfold keep
  iintro ⟨⟨%e0, %e1, %e2, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  obtain ⟨W, hW, hI', h⟩ := step (hR c) t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) sc0 (Memref.isWhole_whole _) sc1 (Memref.isWhole_whole _) sc2 (Memref.isWhole_whole _) ((dats m D 0 c).before 22 t d22) e0 e1 e2 hI
  rw [← hW]
  iapply (h Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [HS0]
  · iexact HS0
  isplitl [HS1]
  · iexact HS1
  isplitl [HS2]
  · iexact HS2
  iintro ⟨H0, H1, H2, H3, H4, H5, H6, H7, H8, H9, H10, H11, H12, H13, H14, H15, H16, H17, H18, H19, H20, H21, H22, HS0, HS1, HS2⟩
  isplitl [HS0 HS1 HS2 Hg]
  · iexists _
    iexists _
    iexists _
    isplitr
    · ipureintro
      exact hI'
    isplitl [HS0]
    · iexact HS0
    isplitl [HS1]
    · iexact HS1
    isplitl [HS2]
    · iexact HS2
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  iexact H22
theorem defs₀_row (t : Fin cfg0.N) :
    defs₀ (F := Ideal) .tc cfg0.body (cfg0.bodyArgs t (cfg0.slots t)) = bodyAt0 t := by
  unfold defs₀; rw [Defs.onTc_tc]

theorem body_obligation (hR : ∀ c, Given m c (D c)) (c : Dev nD) : BodyObligation (dats m D 0 c) (defs₀ (F := Ideal)) Variants.none () Set.univ := fun t => by
  rw [bigSep_W0, bigSep_W0, defs₀_row]
  exact triple_restated (sound_body m D hR c t) rfl .rfl fun _ => .rfl

theorem keep_in (c : Dev nD) : (Pipeline.ΦA spec0 c : sProp 𝕄) ⊢ (dats m D 0 c).Φ 0 := by
  rw [PhiA_eq, show (dats m D 0 c).Φ 0 = keep m D c 0 from rfl]; unfold keep
  iintro ⟨⟨⟨%e0, HS0⟩, ⟨%e1, HS1⟩, ⟨%e2, HS2⟩⟩, Hg⟩
  iexists e0
  iexists e1
  iexists e2
  isplitr
  · ipureintro
    exact fun h => absurd h (lt_irrefl 0)
  isplitl [HS0]
  · iexact HS0
  isplitl [HS1]
  · iexact HS1
  isplitl [HS2]
  · iexact HS2
  iexact Hg

theorem keep_out (c : Dev nD) : (dats m D 0 c).Φ (Fin.last cfg0.N) ⊢ (Pipeline.ΦA spec0 c : sProp 𝕄) := by
  rw [PhiA_eq, show (dats m D 0 c).Φ (Fin.last cfg0.N) = keep m D c cfg0.N from rfl]; unfold keep
  iintro ⟨%e0, %e1, %e2, %hI, HS0, HS1, HS2, Hg⟩
  isplitl [HS0 HS1 HS2]
  · isplitl [HS0]
    · iexists e0; iexact HS0
    isplitl [HS1]
    · iexists e1; iexact HS1
    iexists e2; iexact HS2
  iexact Hg

set_option backward.isDefEq.respectTransparency.types false in
/-- The launch ends, its arrays as the tracked data say and every semaphore at zero. -/
theorem run_main (hR : ∀ c, Given m c (D c)) : θ_run defs (onTc (τ := τ) (main (F := Ideal))) (s₀ m ρ) (fun r => Pipeline.FramePost cfgs (dats m D) 0 (V m) r ∧ r.2.sem = fun _ => 0) :=
  Pipeline.θ_run_frame_track_shared (Q' := _) cfgs (dats m D) (0 : Fin 1) launch₀0 defs₀ Variants.none m ρ main
    (hbody := fun c => (body_obligation m D hR c).loose) (hq := fun _ _ _ => rfl)
    (howed := fun _ _ => rfl) (V := V m) (hmain := hmain m Variants.none) (hA := A_eq m D) (hin := keep_in m D) (hout := keep_out m D)

end Cert.KernelIdeal.Track

end
-- ==== Proof.Out.lean ====
/-
  The idealized kernel's result array, row by row, as a function of the argument arrays.
-/
module

public import proofs.«01_k».proof.Proof.Track

@[expose] public section

set_option maxRecDepth 65536

noncomputable section

namespace Cert.KernelIdeal.Track

open Cert.KernelIdeal Cert.KernelIdeal.Gen Cert.KernelIdeal.Body Cert.Mlstm Cert.Tail
open Idealize.ShloMosaic Idealize.ShloMosaic.TcCoe Idealize.ShloMosaic.Tactic
open Idealize.SL.Sem

variable (m : (ℓ : Loc nD τ sig) → Buf (Elt Ideal) ℓ) (c : Dev nD) (D : Data)

/-- The weight arrays. -/
def weightsAt : Weights where
  wfo k j := (m ((c : Thread nD τ).loc main_arg11) : FVec Ideal S512x1024 .bf16) (ix2 k j)
  wmo k j := (m ((c : Thread nD τ).loc main_arg12) : FVec Ideal S512x1024 .bf16) (ix2 k j)
  wo k j := (m ((c : Thread nD τ).loc main_arg13) : FVec Ideal S1024x1024 .bf16) (ix2 k j)
  g j := (m ((c : Thread nD τ).loc main_arg14) : FVec Ideal S1x1024 .f32) (ix2 0 j)
  wg k j := (m ((c : Thread nD τ).loc main_arg15) : FVec Ideal S1024x2816 .bf16) (ix2 k j)
  wu k j := (m ((c : Thread nD τ).loc main_arg16) : FVec Ideal S1024x2816 .bf16) (ix2 k j)
  wd k j := (m ((c : Thread nD τ).loc main_arg17) : FVec Ideal S2816x1024 .bf16) (ix2 k j)

/-- A row's inputs. -/
def rowAt (B : Fin 16) (s : Fin 4096) : Row where
  x j := aX m c (ix3 B s j)
  mga j := aMga m c (ix3 B s j)
  mgb j := aMgb m c (ix3 B s j)
  ya j := aYa m c (ix3 B s j)
  y := gated (fun H d => (D.answer B H ⟨s.val / 128, by omega⟩ ⟨s.val % 128, by omega⟩ d : EReal)) (fun j => aGh m c (ix2 0 j)) (fun j => aOg m c (ix3 B s j))

/-- The call's result. -/
def result : FVec Ideal S16x4096x1024 .f32 := fun u => (rowAt m c D (u 0) (u 1)).out (weightsAt m c) (u 2)

variable (t : Fin cfg0.N)

theorem tileWeights_eq : tileWeights (iblk m c 15 t) (iblk m c 16 t) (iblk m c 17 t) (iblk m c 18 t) (iblk m c 19 t) (iblk m c 20 t) (iblk m c 21 t) = weightsAt m c := by
  unfold tileWeights weightsAt
  rw [Weights.mk.injEq]
  refine ⟨funext fun k => funext fun j => ?_, funext fun k => funext fun j => ?_, funext fun k => funext fun j => ?_, funext fun j => ?_,
    funext fun k => funext fun j => ?_, funext fun k => funext fun j => ?_, funext fun k => funext fun j => ?_⟩
  all_goals blk_point [iblk, V, idx3 t]

theorem tileRow_eq (s : Fin 512) : tileRow (iblk m c 0 t) (iblk m c 1 t) (iblk m c 2 t) (iblk m c 3 t) (yBlk m c D t) s
    = rowAt m c D (seqOf t.val (lt_N t)) ⟨512 * (t.val % 8) + s.val, by omega⟩ := by
  unfold tileRow rowAt
  rw [Row.mk.injEq]
  refine ⟨funext fun j => ?_, funext fun j => ?_, funext fun j => ?_, funext fun j => ?_, funext fun j => ?_⟩
  · unfold seqOf; blk_point [iblk, V, idx0 t]
  · unfold seqOf; blk_point [iblk, V, idx0 t]
  · unfold seqOf; blk_point [iblk, V, idx0 t]
  · unfold seqOf; blk_point [iblk, V, idx0 t]
  · have e1 : (⟨(512 * (t.val % 8) + s.val) / 128, by omega⟩ : Fin 32) = ⟨4 * (tileOf t.val).val + s.val / 128, by show 4 * (t.val % 8) + s.val / 128 < 32; omega⟩ :=
      Fin.ext (by show (512 * (t.val % 8) + s.val) / 128 = 4 * (t.val % 8) + s.val / 128; omega)
    have e2 : (⟨(512 * (t.val % 8) + s.val) % 128, by omega⟩ : Fin 128) = ⟨s.val % 128, by omega⟩ :=
      Fin.ext (by show (512 * (t.val % 8) + s.val) % 128 = s.val % 128; omega)
    rw [e1, e2]; rfl

theorem point (s : Fin 512) (j : Fin 1024) : outBlk m c D t (ix3 0 s j) = result m c D (ix3 (seqOf t.val (lt_N t)) ⟨512 * (t.val % 8) + s.val, by omega⟩ j) := by
  show (tileRow (iblk m c 0 t) (iblk m c 1 t) (iblk m c 2 t) (iblk m c 3 t) (yBlk m c D t) s).out
    (tileWeights (iblk m c 15 t) (iblk m c 16 t) (iblk m c 17 t) (iblk m c 18 t) (iblk m c 19 t) (iblk m c 20 t) (iblk m c 21 t)) j = _
  rw [tileRow_eq, tileWeights_eq]; rfl

theorem final (D : Dev nD → Data) : (dats m D 0 c).arrAt 22 cfg0.N = result m c (D c) := by
  refine (dats m D 0 c).arrAt_eq_of_covers 22 (result m c (D c)) (by decide +kernel) fun t hf y => ?_
  have h1 : (y 1).val < 512 := (y 1).isLt
  have h2 : (y 2).val < 1024 := (y 2).isLt
  have e : ((cfg0.win 22).blk t).view.emb y = ix3 (seqOf t.val (lt_N t)) ⟨512 * (t.val % 8) + (y 1).val, by omega⟩ ⟨(y 2).val, h2⟩ := by
    unfold seqOf
    blk_ext [idx0 t]
  blk_simp
  rw [after_22]
  exact (point m c (D c) t ⟨(y 1).val, h1⟩ ⟨(y 2).val, h2⟩).trans (congrArg (result m c (D c)) e.symm)

end Cert.KernelIdeal.Track

end
-- ==== Proof.RefTrip.lean ====
/-
  One trip of the reference's loop over the chunks, at the extended reals: where the carried arrays hold a state
  and the trip's slices hold a chunk, the trip leaves the chunk's next state and writes the chunk's
  answer into its rows (Mlstm.lean).
-/
module

public import proofs.«01_k».proof.Proof.Gen.ReferenceIdeal.Run
public import proofs.«01_k».proof.Proof.ItemValue

@[expose] public section

noncomputable section

namespace Cert.ReferenceIdeal.Value

open Cert.ReferenceIdeal.Gen Cert.Mlstm
open Idealize.ShloMosaic Idealize.ShloMosaic.TcCoe Idealize.SL.Sem

variable {V : Valuation τ sig (Elt Ideal)}

/-- The trip's slices hold the chunk `x` of head `H` of sequence `B`, and the carried arrays hold the state `S`. -/
structure Holds (V : Valuation τ sig (Elt Ideal)) (B : Fin 16) (H : Fin 4) (x : Chunk) (S : State) : Prop where
  q (t j : Fin 128) : res_main_while0b_v79 V (ix4 B H t j) = x.q t j
  k (t j : Fin 128) : res_main_while0b_v80 V (ix4 B H t j) = x.k t j
  v (t j : Fin 128) : res_main_while0b_v81 V (ix4 B H t j) = x.v t j
  li (t : Fin 128) : res_main_while0b_v82 V (ix3 B H t) = x.li t
  b (t : Fin 128) : res_main_while0b_v83 V (ix3 B H t) = x.b t
  C (d j : Fin 128) : V (Proc.devRef .tc main_v17_7) (ix4 B H d j) = S.C d j
  n (j : Fin 128) : V (Proc.devRef .tc main_v17_8) (ix3 B H j) = S.n j
  m : V (Proc.devRef .tc main_v17_9) (ix2 B H) = S.m
  tril (t s : Fin 128) : V (Proc.devRef .tc main_v17_5) (ix2 t s) = if s ≤ t then 1#1 else 0#1

variable {B : Fin 16} {H : Fin 4} {x : Chunk} {S : State}

theorem Holds.v86 (h : Holds V B H x S) (t : Fin 128) : res_main_while0b_v86 V (ix3 B H t) = x.b t + S.m := by
  unfold res_main_while0b_v86; pointwise; rw [h.b, ← h.m]

theorem Holds.v95 (h : Holds V B H x S) (t s : Fin 128) : res_main_while0b_v95 V (ix4 B H t s) = x.E t s := by
  unfold res_main_while0b_v95; pointwise
  have ht := h.tril t s
  rw [Chunk.E]
  split at ht <;> rename_i hs
  · refine (congrArg (fun z => Scalar.select z _ _) ht).trans ?_
    rw [if_pos hs, h.b, h.b, h.li]; rfl
  · refine (congrArg (fun z => Scalar.select z _ _) ht).trans ?_
    rw [if_neg hs]; rfl

theorem rowMax (w : FVec Ideal S16x4x128x128 .f32) (hr : S16x4x128x128.ReducesTo [3] S16x4x128) (B : Fin 16) (H : Fin 4) (t : Fin 128) :
    Host.reduce (FloatOps.maximumf (F := Ideal)) w (constant S_ .f32 0xFF800000#32) hr h_S_ (ix3 B H t)
      = (Finset.univ : Finset (Fin 128)).fold max (⊥ : EReal) fun s => w (ix4 B H t s) := by
  have hr' : S16x4x128x128.Reduces [3] S16x4x128 := by decide
  refine (Host.reduce_eq_fold_single (FloatOps.maximumf (F := Ideal) (φ := .f32)) w _ hr hr' h_S_ (ix3 B H t)).trans ?_
  have : (w ∘ hr'.lift (ix3 B H t)) = fun s : Fin 128 => w (ix4 B H t s) := funext fun s => congrArg w (by
    funext a
    match a with
    | 0 => rfl
    | 1 => rfl
    | 2 => rfl
    | 3 => rfl)
  rw [this]; rfl

theorem Holds.v97 (h : Holds V B H x S) (t : Fin 128) : res_main_while0b_v97 V (ix3 B H t) = x.mT S t := by
  unfold res_main_while0b_v97
  refine (congrArg (max (α := EReal) (res_main_while0b_v86 V (ix3 B H t))) (rowMax _ _ B H t)).trans ?_
  rw [h.v86, Chunk.mT, Chunk.mD, largest]
  exact congrArg (fun f : Fin 128 → EReal => max (x.b t + S.m) (Finset.univ.fold max ⊥ f)) (funext fun s => h.v95 t s)

theorem Holds.v99 (h : Holds V B H x S) (t : Fin 128) : res_main_while0b_v99 V (ix3 B H t) = x.wC S t := by
  unfold res_main_while0b_v99; pointwise
  rw [h.v86, h.v97]; rfl

theorem Holds.v105 (h : Holds V B H x S) (t s : Fin 128) : res_main_while0b_v105 V (ix4 B H t s) = x.s S t s := by
  unfold res_main_while0b_v105; pointwise
  rw [h.v95, h.v97, Finset.sum_congr rfl fun (j : Fin 128) _ => (congrArg₂ (fun y z : EReal => y * z) (h.q t j) (h.k s j))]
  rfl

theorem Holds.v124 (h : Holds V B H x S) : res_main_while0b_v124 V (ix2 B H) = x.mN S := by
  unfold res_main_while0b_v124; pointwise; exact h.v97 127

theorem Holds.v132 (h : Holds V B H x S) (s : Fin 128) : res_main_while0b_v132 V (ix3 B H s) = x.wN S s := by
  unfold res_main_while0b_v132; pointwise
  rw [h.v124, h.b s, h.li]
  exact congrArg (fun z => Ideal.exp (z - _ + _ - _)) (h.b 127)

theorem Holds.v137 (h : Holds V B H x S) : res_main_while0b_v137 V (ix2 B H) = x.decay S := by
  unfold res_main_while0b_v137; pointwise
  rw [h.v124]
  refine (congrArg (fun z => Ideal.exp (z + _ - _)) (h.b 127)).trans ?_
  exact congrArg (fun z => Ideal.exp (_ + z - _)) h.m

/-- The state the trip leaves. -/
theorem Holds.step_C (h : Holds V B H x S) (d j : Fin 128) : step_main_v17_7 V (ix4 B H d j) = (x.next S).C d j := by
  unfold step_main_v17_7 id; pointwise
  rw [h.v137, Finset.sum_congr rfl fun (s : Fin 128) _ => show _ = x.wN S s * x.v s d * x.k s j by rw [h.v132, h.v, h.k]]
  exact congrArg (fun z => _ * z + _) (h.C d j)

theorem Holds.step_n (h : Holds V B H x S) (j : Fin 128) : step_main_v17_8 V (ix3 B H j) = (x.next S).n j := by
  unfold step_main_v17_8 id; pointwise
  rw [h.v137, Finset.sum_congr rfl fun (s : Fin 128) _ => show _ = x.wN S s * x.k s j by rw [h.v132, h.k]]
  exact congrArg (fun z => _ * z + _) (h.n j)

theorem Holds.step_m (h : Holds V B H x S) : step_main_v17_9 V (ix2 B H) = (x.next S).m := h.v124

theorem sum_of {n : Nat} (f g : Fin n → EReal) (h : ∀ k, f k = g k) : ∑ k, f k = ∑ k, g k := Finset.sum_congr rfl fun k _ => h k

/-- The rows a trip's update covers. -/
theorem update_at (X : FVec Ideal S32x16x4x128x128 .f32) (U : FVec Ideal S1x16x4x128x128 .f32) (st : Fin 5 → Int) (k : Nat) (hk : k < 32)
    (hst : ∀ a, st a = ((![k, 0, 0, 0, 0] a : Nat) : Int)) (hu) (g : Fin 32) (B : Fin 16) (H : Fin 4) (t d : Fin 128) :
    Host.dynamicUpdateSlice X U st hu (ix5 g B H t d) = if g.val = k then U (ix5 0 B H t d) else X (ix5 g B H t d) := by
  have hc (a : Fin 5) : Host.clampedStart S32x16x4x128x128 S1x16x4x128x128 hu.1 st a = ![k, 0, 0, 0, 0] a :=
    Host.clampedStart_of_le (s := S32x16x4x128x128) (t := S1x16x4x128x128) hu.1 st a (![k, 0, 0, 0, 0] a) (hst a) (by
      match a with
      | 0 => exact (show k + 1 ≤ 32 by omega)
      | 1 | 2 | 3 | 4 => exact Nat.le_refl _)
  rw [Host.dynamicUpdateSlice_apply]
  split <;> rename_i hin
  · have h0 := hin 0
    rw [hc] at h0
    have hg : g.val = k := by
      have h1 : k ≤ g.val ∧ g.val < k + 1 := h0
      omega
    rw [if_pos hg]
    refine congrArg U (funext fun a => Fin.ext ?_)
    show (ix5 g B H t d a).val - Host.clampedStart S32x16x4x128x128 S1x16x4x128x128 hu.1 st a = _
    rw [hc]
    match a with
    | 0 => exact (show g.val - k = 0 by omega)
    | 1 | 2 | 3 | 4 => exact Nat.sub_zero _
  · rw [if_neg]
    intro hg
    apply hin
    intro a
    rw [hc]
    match a with
    | 0 => exact ⟨hg.ge, by show g.val < k + 1; omega⟩
    | 1 => exact ⟨Nat.zero_le _, (by show B.val < 0 + 16; omega)⟩
    | 2 => exact ⟨Nat.zero_le _, (by show H.val < 0 + 4; omega)⟩
    | 3 => exact ⟨Nat.zero_le _, (by show t.val < 0 + 128; omega)⟩
    | 4 => exact ⟨Nat.zero_le _, (by show d.val < 0 + 128; omega)⟩

/-- What the trip writes: the chunk's answer in its own rows. -/
theorem Holds.step_h (h : Holds V B H x S) (k : Nat) (hk : k < 32) (hctr : V (Proc.devRef .tc main_v17_6) = fun _ => BitVec.ofNat 32 k)
    (g : Fin 32) (t d : Fin 128) :
    step_main_v17_10 V (ix5 g B H t d) = if g.val = k then x.h S t d else V (Proc.devRef .tc main_v17_10) (ix5 g B H t d) := by
  unfold step_main_v17_10 id
  refine (update_at _ _ _ k hk (fun a => ?_) _ g B H t d).trans ?_
  · match a with
    | 0 =>
      show (V (Proc.devRef .tc main_v17_6) (Shape.Idx.first h_S_)).toInt = (k : Int)
      rw [hctr]; show (BitVec.ofNat 32 k).toInt = k
      rw [BitVec.toInt_ofNat', Int.bmod_eq_of_le] <;> omega
    | 1 | 2 | 3 | 4 => rfl
  split
  · pointwise
    rw [h.v99, h.v97,
      sum_of _ (fun j => S.C d j * x.q t j) fun j => (congrArg₂ (fun y z : EReal => y * z) (h.q t j) (h.C d j)).trans (mul_comm _ _),
      sum_of _ (fun s => x.s S t s * x.v s d) fun s => congrArg₂ (fun y z : EReal => y * z) (h.v105 t s) (h.v s d),
      sum_of _ (fun j => S.n j * x.q t j) fun j => congrArg₂ (fun y z : EReal => y * z) (h.n j) (h.q t j),
      sum_of _ (fun s => x.s S t s) fun s => h.v105 t s]
    rfl
  · rfl

end Cert.ReferenceIdeal.Value

end
-- ==== Proof.RefEntry.lean ====
/-
  The reference's loop at its entry: the carried arrays are the arguments regrouped by chunk, the mask below the diagonal,
  the counter at zero and the state at zero.
-/
module

public import proofs.«01_k».proof.Proof.RefTrip

@[expose] public section

noncomputable section

namespace Cert.ReferenceIdeal.Value

open Cert.ReferenceIdeal.Gen Cert.Mlstm
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable (m : (ℓ : Loc nD τ sig) → Buf (Elt Ideal) ℓ) (c : Dev nD)

theorem entry_q : entryContents preI m c (Proc.devRef .tc main_v17_0)
    = transpose S32x16x4x128x128 [1, 0, 3, 2, 4] (shapeCast S16x32x128x4x128 (m ((c.tc : Thread nD τ).loc main_arg4)) shapeCasts_S16x4096x512_S16x32x128x4x128) transposes_S16x32x128x4x128_S32x16x4x128x128_1_0_3_2_4 := by
  simp only [entryContents, afterL_cons, afterL_nil]
  after_reads_simp
  rfl

theorem entry_k : entryContents preI m c (Proc.devRef .tc main_v17_1)
    = transpose S32x16x4x128x128 [3, 0, 1, 4, 2] (shapeCast S16x4x128x32x128 (m ((c.tc : Thread nD τ).loc main_arg5)) shapeCasts_S16x512x4096_S16x4x128x32x128) transposes_S16x4x128x32x128_S32x16x4x128x128_3_0_1_4_2 := by
  simp only [entryContents, afterL_cons, afterL_nil]
  after_reads_simp
  rfl

theorem entry_v : entryContents preI m c (Proc.devRef .tc main_v17_2)
    = transpose S32x16x4x128x128 [1, 0, 3, 2, 4] (shapeCast S16x32x128x4x128 (m ((c.tc : Thread nD τ).loc main_arg6)) shapeCasts_S16x4096x512_S16x32x128x4x128) transposes_S16x32x128x4x128_S32x16x4x128x128_1_0_3_2_4 := by
  simp only [entryContents, afterL_cons, afterL_nil]
  after_reads_simp
  rfl

theorem entry_li : entryContents preI m c (Proc.devRef .tc main_v17_3)
    = transpose S32x16x4x128 [2, 0, 1, 3] (m ((c.tc : Thread nD τ).loc main_arg9)) transposes_S16x4x32x128_S32x16x4x128_2_0_1_3 := by
  simp only [entryContents, afterL_cons, afterL_nil]
  after_reads_simp
  rfl

theorem entry_b : entryContents preI m c (Proc.devRef .tc main_v17_4)
    = transpose S32x16x4x128 [2, 0, 1, 3] (m ((c.tc : Thread nD τ).loc main_arg8)) transposes_S16x4x32x128_S32x16x4x128_2_0_1_3 := by
  simp only [entryContents, afterL_cons, afterL_nil]
  after_reads_simp
  rfl

theorem tril_at : ∀ t s : Fin 128, Scalar.select (IntOp.cmpi .sge (IntOp.addi (BitVec.ofNat 32 t.val) 0#32) (BitVec.ofNat 32 s.val)) 1#1 0#1
    = if s ≤ t then 1#1 else 0#1 := by decide +kernel

theorem entry_tril (t s : Fin 128) : entryContents preI m c (Proc.devRef .tc main_v17_5) (ix2 t s) = if s ≤ t then 1#1 else 0#1 := by
  have h : entryContents preI m c (Proc.devRef .tc main_v17_5)
      = select (cmpi .sge (addi (iotaInDim S128x128 32 0) (broadcastInDim S128x128 ![] bcast_S_S128x128 (constantI S_ 32 0#32))) (iotaInDim S128x128 32 1))
          (broadcastInDim S128x128 ![] bcast_S_S128x128 (constantI S_ 1 1#1)) (broadcastInDim S128x128 ![] bcast_S_S128x128 (constantI S_ 1 0#1)) := by
    simp only [entryContents, afterL_cons, afterL_nil]
    after_reads_simp
    rfl
  rw [h]; pointwise
  exact tril_at t s

theorem entry_C (B : Fin 16) (H : Fin 4) (d j : Fin 128) : entryContents preI m c (Proc.devRef .tc main_v17_7) (ix4 B H d j) = (0 : EReal) := by
  have h : entryContents preI m c (Proc.devRef .tc main_v17_7) = broadcastInDim S16x4x128x128 ![] bcast_S_S16x4x128x128 (constant (F := Ideal) S_ .f32 0x00000000#32) := by
    simp only [entryContents, afterL_cons, afterL_nil]
    after_reads_simp
    rfl
  rw [h]; exact Ideal.ofBits_zero .f32

theorem entry_n (B : Fin 16) (H : Fin 4) (j : Fin 128) : entryContents preI m c (Proc.devRef .tc main_v17_8) (ix3 B H j) = (0 : EReal) := by
  have h : entryContents preI m c (Proc.devRef .tc main_v17_8) = broadcastInDim S16x4x128 ![] bcast_S_S16x4x128 (constant (F := Ideal) S_ .f32 0x00000000#32) := by
    simp only [entryContents, afterL_cons, afterL_nil]
    after_reads_simp
    rfl
  rw [h]; exact Ideal.ofBits_zero .f32

theorem entry_m (B : Fin 16) (H : Fin 4) : entryContents preI m c (Proc.devRef .tc main_v17_9) (ix2 B H) = (0 : EReal) := by
  have h : entryContents preI m c (Proc.devRef .tc main_v17_9) = broadcastInDim S16x4 ![] bcast_S_S16x4 (constant (F := Ideal) S_ .f32 0x00000000#32) := by
    simp only [entryContents, afterL_cons, afterL_nil]
    after_reads_simp
    rfl
  rw [h]; exact Ideal.ofBits_zero .f32

end Cert.ReferenceIdeal.Value

end
-- ==== Proof.RefLoop.lean ====
/-
  The reference's loop over the 32 chunks: after `k` trips the carried arrays hold every head's state before chunk `k`, and
  the answers' array holds every earlier chunk's answer.
-/
module

public import proofs.«01_k».proof.Proof.RefEntry
public import proofs.«01_k».proof.Proof.Rows

@[expose] public section

noncomputable section

namespace Cert.ReferenceIdeal.Value

open Cert.ReferenceIdeal.Gen Cert.Mlstm
open Cert.ReferenceIdeal Cert.ReferenceIdeal.Gen
open Idealize.ShloMosaic Idealize.ShloMosaic.TcCoe Idealize.ShloMosaic.Tactic
open Idealize.SL Idealize.SL.Sem
open Idealize.ShloMosaic.StableHlo

/-- A trip's slice of a five-dimensional array. -/
theorem slice5_at {α : Type} (X : S32x16x4x128x128.Idx → α) (st : Fin 5 → Int) (k : Fin 32) (hst : ∀ a, st a = ((![k.val, 0, 0, 0, 0] a : Nat) : Int))
    (hs : S32x16x4x128x128.Slices (fun _ => 0) S1x16x4x128x128) (B : Fin 16) (H : Fin 4) (t d : Fin 128) :
    Host.dynamicSlice S1x16x4x128x128 X st hs (ix5 0 B H t d) = X (ix5 k B H t d) := by
  have hc (a : Fin 5) : Host.clampedStart S32x16x4x128x128 S1x16x4x128x128 hs.1 st a = ![k.val, 0, 0, 0, 0] a :=
    Host.clampedStart_of_le (s := S32x16x4x128x128) (t := S1x16x4x128x128) hs.1 st a (![k.val, 0, 0, 0, 0] a) (hst a) (by
      match a with
      | 0 => exact (show k.val + 1 ≤ 32 by omega)
      | 1 | 2 | 3 | 4 => exact Nat.le_refl _)
  rw [Host.dynamicSlice_apply]
  refine congrArg X (funext fun a => Fin.ext ?_)
  show Host.clampedStart S32x16x4x128x128 S1x16x4x128x128 hs.1 st a + _ = _
  rw [hc]
  match a with
  | 0 => exact Nat.add_zero _
  | 1 | 2 | 3 | 4 => exact Nat.zero_add _

/-- A trip's slice of a four-dimensional array. -/
theorem slice4_at {α : Type} (X : S32x16x4x128.Idx → α) (st : Fin 4 → Int) (k : Fin 32) (hst : ∀ a, st a = ((![k.val, 0, 0, 0] a : Nat) : Int))
    (hs : S32x16x4x128.Slices (fun _ => 0) S1x16x4x128) (B : Fin 16) (H : Fin 4) (t : Fin 128) :
    Host.dynamicSlice S1x16x4x128 X st hs (ix4 0 B H t) = X (ix4 k B H t) := by
  have hc (a : Fin 4) : Host.clampedStart S32x16x4x128 S1x16x4x128 hs.1 st a = ![k.val, 0, 0, 0] a :=
    Host.clampedStart_of_le (s := S32x16x4x128) (t := S1x16x4x128) hs.1 st a (![k.val, 0, 0, 0] a) (hst a) (by
      match a with
      | 0 => exact (show k.val + 1 ≤ 32 by omega)
      | 1 | 2 | 3 => exact Nat.le_refl _)
  rw [Host.dynamicSlice_apply]
  refine congrArg X (funext fun a => Fin.ext ?_)
  show Host.clampedStart S32x16x4x128 S1x16x4x128 hs.1 st a + _ = _
  rw [hc]
  match a with
  | 0 => exact Nat.add_zero _
  | 1 | 2 | 3 => exact Nat.zero_add _

theorem toInt_ofNat (k : Nat) (hk : k < 32) : (BitVec.ofNat 32 k).toInt = k := by
  rw [BitVec.toInt_ofNat', Int.bmod_eq_of_le] <;> omega

theorem cast5_at {α : Type} (X : S1x16x4x128x128.Idx → α) (hs) (B : Fin 16) (H : Fin 4) (t d : Fin 128) :
    shapeCast S16x4x128x128 X hs (ix4 B H t d) = X (ix5 0 B H t d) := by pointwise

theorem cast4_at {α : Type} (X : S1x16x4x128.Idx → α) (hs) (B : Fin 16) (H : Fin 4) (t : Fin 128) :
    shapeCast S16x4x128 X hs (ix3 B H t) = X (ix4 0 B H t) := by pointwise

section
variable {V : Valuation τ sig (Elt Ideal)} (k : Fin 32) (hctr : V (Proc.devRef .tc main_v17_6) = fun _ => BitVec.ofNat 32 k.val)
  (B : Fin 16) (H : Fin 4) (t j : Fin 128)
include hctr

theorem start5 (a : Fin 5) : (((![V (Proc.devRef .tc main_v17_6), constantI S_ 32 0#32, constantI S_ 32 0#32, constantI S_ 32 0#32, constantI S_ 32 0#32] : Fin 5 → (⟨S_, .i32⟩ : BufTy).Contents (Elt Ideal))) a (Shape.Idx.first h_S_)).toInt
    = ((![k.val, 0, 0, 0, 0] a : Nat) : Int) := by
  match a with
  | 0 =>
    show (V (Proc.devRef .tc main_v17_6) (Shape.Idx.first h_S_)).toInt = (k.val : Int)
    rw [hctr]; exact toInt_ofNat k.val k.isLt
  | 1 | 2 | 3 | 4 => rfl

theorem start4 (a : Fin 4) : (((![V (Proc.devRef .tc main_v17_6), constantI S_ 32 0#32, constantI S_ 32 0#32, constantI S_ 32 0#32] : Fin 4 → (⟨S_, .i32⟩ : BufTy).Contents (Elt Ideal))) a (Shape.Idx.first h_S_)).toInt
    = ((![k.val, 0, 0, 0] a : Nat) : Int) := by
  match a with
  | 0 =>
    show (V (Proc.devRef .tc main_v17_6) (Shape.Idx.first h_S_)).toInt = (k.val : Int)
    rw [hctr]; exact toInt_ofNat k.val k.isLt
  | 1 | 2 | 3 => rfl

theorem v79_at : res_main_while0b_v79 V (ix4 B H t j) = V (Proc.devRef .tc main_v17_0) (ix5 k B H t j) :=
  (cast5_at _ _ B H t j).trans (slice5_at _ _ k (start5 k hctr) _ B H t j)
theorem v80_at : res_main_while0b_v80 V (ix4 B H t j) = V (Proc.devRef .tc main_v17_1) (ix5 k B H t j) :=
  (cast5_at _ _ B H t j).trans (slice5_at _ _ k (start5 k hctr) _ B H t j)
theorem v81_at : res_main_while0b_v81 V (ix4 B H t j) = V (Proc.devRef .tc main_v17_2) (ix5 k B H t j) :=
  (cast5_at _ _ B H t j).trans (slice5_at _ _ k (start5 k hctr) _ B H t j)
theorem v82_at : res_main_while0b_v82 V (ix3 B H t) = V (Proc.devRef .tc main_v17_3) (ix4 k B H t) :=
  (cast4_at _ _ B H t).trans (slice4_at _ _ k (start4 k hctr) _ B H t)
theorem v83_at : res_main_while0b_v83 V (ix3 B H t) = V (Proc.devRef .tc main_v17_4) (ix4 k B H t) :=
  (cast4_at _ _ B H t).trans (slice4_at _ _ k (start4 k hctr) _ B H t)
end

/-- The loop's invariant before trip `k`. -/
structure Inv (D : Data) (p : Nat) (V : Valuation τ sig (Elt Ideal)) : Prop where
  ctr : V (Proc.devRef .tc main_v17_6) = fun _ => BitVec.ofNat 32 p
  q (g : Fin 32) (B : Fin 16) (H : Fin 4) (t j : Fin 128) : V (Proc.devRef .tc main_v17_0) (ix5 g B H t j) = (D.q B H g t j : EReal)
  k (g : Fin 32) (B : Fin 16) (H : Fin 4) (t j : Fin 128) : V (Proc.devRef .tc main_v17_1) (ix5 g B H t j) = (D.k B H g t j : EReal)
  v (g : Fin 32) (B : Fin 16) (H : Fin 4) (t j : Fin 128) : V (Proc.devRef .tc main_v17_2) (ix5 g B H t j) = (D.v B H g t j : EReal)
  li (g : Fin 32) (B : Fin 16) (H : Fin 4) (t : Fin 128) : V (Proc.devRef .tc main_v17_3) (ix4 g B H t) = (D.li B H g t : EReal)
  b (g : Fin 32) (B : Fin 16) (H : Fin 4) (t : Fin 128) : V (Proc.devRef .tc main_v17_4) (ix4 g B H t) = (D.b B H g t : EReal)
  tril (t s : Fin 128) : V (Proc.devRef .tc main_v17_5) (ix2 t s) = if s ≤ t then 1#1 else 0#1
  C (B : Fin 16) (H : Fin 4) (d j : Fin 128) : V (Proc.devRef .tc main_v17_7) (ix4 B H d j) = ((D.stateAt B H p).C d j : EReal)
  n (B : Fin 16) (H : Fin 4) (j : Fin 128) : V (Proc.devRef .tc main_v17_8) (ix3 B H j) = ((D.stateAt B H p).n j : EReal)
  m (B : Fin 16) (H : Fin 4) : V (Proc.devRef .tc main_v17_9) (ix2 B H) = ((D.stateAt B H p).m : EReal)
  h (g : Fin 32) (hg : g.val < p) (B : Fin 16) (H : Fin 4) (t d : Fin 128) : V (Proc.devRef .tc main_v17_10) (ix5 g B H t d) = (D.answer B H g t d : EReal)

variable {D : Data} {V : Valuation τ sig (Elt Ideal)}

theorem Inv.holds {k : Fin 32} (I : Inv D k.val V) (B : Fin 16) (H : Fin 4) : Holds V B H (D.chunk B H k) (D.stateAt B H k.val) where
  q t j := (v79_at k I.ctr B H t j).trans (I.q k B H t j)
  k t j := (v80_at k I.ctr B H t j).trans (I.k k B H t j)
  v t j := (v81_at k I.ctr B H t j).trans (I.v k B H t j)
  li t := (v82_at k I.ctr B H t).trans (I.li k B H t)
  b t := (v83_at k I.ctr B H t).trans (I.b k B H t)
  C d j := I.C B H d j
  n j := I.n B H j
  m := I.m B H
  tril := I.tril

theorem Inv.next {k : Fin 32} (I : Inv D k.val V) : Inv D (k.val + 1) (STEP V) where
  ctr := by
    rw [STEP_main_v17_6]; unfold step_main_v17_6; rw [I.ctr]
    funext _
    show BitVec.ofNat 32 k.val + 1#32 = _
    rw [show (1#32 : BitVec 32) = BitVec.ofNat 32 1 from rfl, ← BitVec.ofNat_add]
  q := by rw [STEP_main_v17_0]; exact I.q
  k := by rw [STEP_main_v17_1]; exact I.k
  v := by rw [STEP_main_v17_2]; exact I.v
  li := by rw [STEP_main_v17_3]; exact I.li
  b := by rw [STEP_main_v17_4]; exact I.b
  tril := by rw [STEP_main_v17_5]; exact I.tril
  C B H d j := by rw [STEP_main_v17_7, D.stateAt_succ]; exact (I.holds B H).step_C d j
  n B H j := by rw [STEP_main_v17_8, D.stateAt_succ]; exact (I.holds B H).step_n j
  m B H := by rw [STEP_main_v17_9, D.stateAt_succ]; exact (I.holds B H).step_m
  h g hg B H t d := by
    rw [STEP_main_v17_10]
    refine ((I.holds B H).step_h k.val k.isLt I.ctr g t d).trans ?_
    split
    · rename_i e; rw [show k = g from (Fin.ext e).symm]; rfl
    · exact I.h g (by omega) B H t d

theorem Inv.iterate (I : Inv D 0 V) : ∀ k : Nat, k ≤ 32 → Inv D k (STEP^[k] V)
  | 0, _ => I
  | k + 1, hk => by
    rw [Function.iterate_succ_apply']
    exact Inv.next (k := ⟨k, hk⟩) (I.iterate k (by omega))

theorem heads_at {α : Type} (X : S16x4096x512.Idx → α) (hs ht) (g : Fin 32) (B : Fin 16) (H : Fin 4) (t j : Fin 128) :
    transpose S32x16x4x128x128 [1, 0, 3, 2, 4] (shapeCast S16x32x128x4x128 X hs) ht (ix5 g B H t j)
      = X (ix3 B ⟨g.val * 128 + t.val, by omega⟩ ⟨H.val * 128 + j.val, by omega⟩) := by
  pointwise

theorem keys_at {α : Type} (X : S16x512x4096.Idx → α) (hs ht) (g : Fin 32) (B : Fin 16) (H : Fin 4) (t j : Fin 128) :
    transpose S32x16x4x128x128 [3, 0, 1, 4, 2] (shapeCast S16x4x128x32x128 X hs) ht (ix5 g B H t j)
      = X (ix3 B ⟨H.val * 128 + j.val, by omega⟩ ⟨g.val * 128 + t.val, by omega⟩) := by
  pointwise

theorem gates_at {α : Type} (X : S16x4x32x128.Idx → α) (ht) (g : Fin 32) (B : Fin 16) (H : Fin 4) (t : Fin 128) :
    transpose S32x16x4x128 [2, 0, 1, 3] X ht (ix4 g B H t) = X (ix4 B H g t) := by
  pointwise

variable (m : (ℓ : Loc nD τ sig) → Buf (Elt Ideal) ℓ) (c : Dev nD)

/-- The call's recurrence inputs hold the numbers `D`. -/
def Given (D : Data) : Prop := D.Of (fun a b d => m ((c.tc : Thread nD τ).loc main_arg4) (ix3 a b d)) (fun a b d => m ((c.tc : Thread nD τ).loc main_arg5) (ix3 a b d))
  (fun a b d => m ((c.tc : Thread nD τ).loc main_arg6) (ix3 a b d)) (fun a b d e => m ((c.tc : Thread nD τ).loc main_arg8) (ix4 a b d e))
  (fun a b d e => m ((c.tc : Thread nD τ).loc main_arg9) (ix4 a b d e))

theorem inv_entry (h : Given m c D) : Inv D 0 (entryContents preI m c) where
  ctr := ctr_entry m c
  q g B H t j := by rw [entry_q]; exact (heads_at _ _ _ g B H t j).trans (h.q B H g t j)
  k g B H t j := by rw [entry_k]; exact (keys_at _ _ _ g B H t j).trans (h.k B H g t j)
  v g B H t j := by rw [entry_v]; exact (heads_at _ _ _ g B H t j).trans (h.v B H g t j)
  li g B H t := by rw [entry_li]; exact (gates_at _ _ g B H t).trans (h.li B H g t)
  b g B H t := by rw [entry_b]; exact (gates_at _ _ g B H t).trans (h.b B H g t)
  tril := entry_tril m c
  C := entry_C m c
  n := entry_n m c
  m := entry_m m c
  h g hg := absurd hg (Nat.not_lt_zero _)

/-- After the loop the answers' array holds every chunk's answer. -/
theorem answers (h : Given m c D) (g : Fin 32) (B : Fin 16) (H : Fin 4) (t d : Fin 128) :
    (STEP^[32] (entryContents preI m c)) (Proc.devRef .tc main_v17_10) (ix5 g B H t d) = (D.answer B H g t d : EReal) :=
  ((inv_entry m c h).iterate 32 le_rfl).h g g.isLt B H t d

end Cert.ReferenceIdeal.Value

end
-- ==== Proof.RefOut.lean ====
/-
  The reference's result, row by row, from the answers the loop leaves.
-/
module

public import proofs.«01_k».proof.Proof.RefLoop
public import proofs.«01_k».proof.Proof.Spec

@[expose] public section

noncomputable section

namespace Cert.ReferenceIdeal.Value

open Cert.ReferenceIdeal.Gen Cert.Tail
open Cert.ReferenceIdeal Cert.ReferenceIdeal.Gen
open Idealize.ShloMosaic Idealize.ShloMosaic.TcCoe Idealize.ShloMosaic.Tactic
open Idealize.SL Idealize.SL.Sem
open Idealize.ShloMosaic.StableHlo

/-- The answers by sequence, row, head and coordinate. -/
def rowsOf (a : FVec Ideal S32x16x4x128x128 .f32) : FVec Ideal S16x4096x4x128 .f32 :=
  shapeCast _ (transpose S16x32x128x4x128 [1, 0, 3, 2, 4] a transposes_S32x16x4x128x128_S16x32x128x4x128_1_0_3_2_4) shapeCasts_S16x32x128x4x128_S16x4096x4x128
def cen (h : FVec Ideal S16x4096x4x128 .f32) : FVec Ideal S16x4096x4x128 .f32 :=
  subf h (broadcastInDim S16x4096x4x128 ![0, 1, 2, 3] bcast_S16x4096x4x1_S16x4096x4x128_0_1_2_3 (Host.divf (broadcastInDim S16x4096x4x1 ![0, 1, 2] bcast_S16x4096x4_S16x4096x4x1_0_1_2 (Host.reduceAdd h (constant S_ .f32 0x00000000#32) reducesTo_S16x4096x4x128_S16x4096x4_d3 h_S_)) (broadcastInDim S16x4096x4x1 ![] bcast_S_S16x4096x4x1 (constant S_ .f32 0x43000000#32))))
def nrm (h : FVec Ideal S16x4096x4x128 .f32) : FVec Ideal S16x4096x4x128 .f32 :=
  mulf (cen h) (broadcastInDim S16x4096x4x128 ![0, 1, 2, 3] bcast_S16x4096x4x1_S16x4096x4x128_0_1_2_3 (Host.rsqrt (addf (Host.divf (broadcastInDim S16x4096x4x1 ![0, 1, 2] bcast_S16x4096x4_S16x4096x4x1_0_1_2 (Host.reduceAdd (mulf (cen h) (cen h)) (constant S_ .f32 0x00000000#32) reducesTo_S16x4096x4x128_S16x4096x4_d3 h_S_)) (broadcastInDim S16x4096x4x1 ![] bcast_S_S16x4096x4x1 (constant S_ .f32 0x43000000#32))) (broadcastInDim S16x4096x4x1 ![] bcast_S_S16x4096x4x1 (constant S_ .f32 0x358637BD#32)))))
def yOf (n : FVec Ideal S16x4096x4x128 .f32) (gh : FVec Ideal S1x512 .f32) (og : FVec Ideal S16x4096x512 .bf16) : FVec Ideal S16x4096x512 .f32 :=
  mulf (mulf (shapeCast _ n shapeCasts_S16x4096x4x128_S16x4096x512) (broadcastInDim S16x4096x512 ![0, 1, 2] bcast_S1x1x512_S16x4096x512_0_1_2 (broadcastInDim S1x1x512 ![2] bcast_S512_S1x1x512_2 (shapeCast _ gh shapeCasts_S1x512_S512)))) (extf .f32 og bitsLt_bf16_f32)
def mrg (mga mgb : FVec Ideal S16x4096x1024 .bf16) (ya : FVec Ideal S16x4096x512 .bf16) (wfo wmo : FVec Ideal S512x1024 .bf16) (y : FVec Ideal S16x4096x512 .f32) : FVec Ideal S16x4096x1024 .f32 :=
  addf (mulf (extf .f32 mga bitsLt_bf16_f32) (Host.dotGeneral dot_S16x4096x512_S512x1024_S16x4096x1024_2_0_01_1_n_n none (extf .f32 ya bitsLt_bf16_f32) (extf .f32 wfo bitsLt_bf16_f32))) (mulf (extf .f32 mgb bitsLt_bf16_f32) (Host.dotGeneral dot_S16x4096x512_S512x1024_S16x4096x1024_2_0_01_1_n_n none y (extf .f32 wmo bitsLt_bf16_f32)))
def res (x : FVec Ideal S16x4096x1024 .f32) (m : FVec Ideal S16x4096x1024 .f32) (wo : FVec Ideal S1024x1024 .bf16) : FVec Ideal S16x4096x1024 .f32 :=
  addf x (Host.dotGeneral dot_S16x4096x1024_S1024x1024_S16x4096x1024_2_0_01_1_n_n none m (extf .f32 wo bitsLt_bf16_f32))
def rmsOf (x : FVec Ideal S16x4096x1024 .f32) (g : FVec Ideal S1x1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ g shapeCasts_S1x1024_S1024)))
def up (h : FVec Ideal S16x4096x1024 .f32) (w : FVec Ideal S1024x2816 .bf16) : FVec Ideal S16x4096x2816 .f32 :=
  Host.dotGeneral dot_S16x4096x1024_S1024x2816_S16x4096x2816_2_0_01_1_n_n none h (extf .f32 w bitsLt_bf16_f32)
def hid (z u : FVec Ideal S16x4096x2816 .f32) : FVec Ideal S16x4096x2816 .f32 :=
  mulf (mulf z (Host.divf (broadcastInDim S16x4096x2816 ![] bcast_S_S16x4096x2816 (constant S_ .f32 0x3F800000#32)) (addf (broadcastInDim S16x4096x2816 ![] bcast_S_S16x4096x2816 (constant S_ .f32 0x3F800000#32)) (Host.exp (Host.negf z))))) u
def down (x : FVec Ideal S16x4096x1024 .f32) (a : FVec Ideal S16x4096x2816 .f32) (w : FVec Ideal S2816x1024 .bf16) : FVec Ideal S16x4096x1024 .f32 :=
  addf x (Host.dotGeneral dot_S16x4096x2816_S2816x1024_S16x4096x1024_2_0_01_1_n_n none a (extf .f32 w bitsLt_bf16_f32))

section
variable (V : Valuation τ sig (Elt Ideal))
def refY : FVec Ideal S16x4096x512 .f32 := yOf (nrm (rowsOf (V (Proc.devRef .tc main_v17_10)))) (V (Proc.devRef .tc main_arg10)) (V (Proc.devRef .tc main_arg7))
def refX1 : FVec Ideal S16x4096x1024 .f32 :=
  res (V (Proc.devRef .tc main_arg0)) (mrg (V (Proc.devRef .tc main_arg2)) (V (Proc.devRef .tc main_arg3)) (V (Proc.devRef .tc main_arg1)) (V (Proc.devRef .tc main_arg11)) (V (Proc.devRef .tc main_arg12)) (refY V)) (V (Proc.devRef .tc main_arg13))
def refRms : FVec Ideal S16x4096x1024 .f32 := rmsOf (refX1 V) (V (Proc.devRef .tc main_arg14))

/-- The result in these steps. -/
theorem out_steps : out_main_v78 V = down (refX1 V) (hid (up (refRms V) (V (Proc.devRef .tc main_arg15))) (up (refRms V) (V (Proc.devRef .tc main_arg16)))) (V (Proc.devRef .tc main_arg17)) := by
  unfold out_main_v78 refRms refX1 refY down hid up rmsOf res mrg yOf nrm cen rowsOf
  rfl
end

theorem rowsOf_at (a : FVec Ideal S32x16x4x128x128 .f32) (B : Fin 16) (s : Fin 4096) (H : Fin 4) (d : Fin 128) :
    rowsOf a (ix4 B s H d) = a (ix5 ⟨s.val / 128, by omega⟩ B H ⟨s.val % 128, by omega⟩ d) := by
  unfold rowsOf; pointwise

theorem cen_at (h : FVec Ideal S16x4096x4x128 .f32) (B : Fin 16) (s : Fin 4096) (H : Fin 4) (d : Fin 128) :
    cen h (ix4 B s H d) = centred (fun d => h (ix4 B s H d)) d := by
  unfold cen; pointwise; rfl

theorem nrm_at (h : FVec Ideal S16x4096x4x128 .f32) (B : Fin 16) (s : Fin 4096) (H : Fin 4) (d : Fin 128) :
    nrm h (ix4 B s H d) = normed (fun d => h (ix4 B s H d)) d := by
  unfold nrm; pointwise; simp only [cen_at]; rfl

theorem yOf_at (n : FVec Ideal S16x4096x4x128 .f32) (gh : FVec Ideal S1x512 .f32) (og : FVec Ideal S16x4096x512 .bf16) (B : Fin 16) (s : Fin 4096) (c : Fin 512) :
    yOf n gh og (ix3 B s c) = n (ix4 B s ⟨c.val / 128, by omega⟩ ⟨c.val % 128, by omega⟩) * gh (ix2 0 c) * og (ix3 B s c) := by
  unfold yOf; pointwise

theorem mrg_at (mga mgb : FVec Ideal S16x4096x1024 .bf16) (ya : FVec Ideal S16x4096x512 .bf16) (wfo wmo : FVec Ideal S512x1024 .bf16) (y : FVec Ideal S16x4096x512 .f32) (B : Fin 16) (s : Fin 4096) (l : Fin 1024) :
    mrg mga mgb ya wfo wmo y (ix3 B s l) = mga (ix3 B s l) * (∑ c : Fin 512, ya (ix3 B s c) * wfo (ix2 c l)) + mgb (ix3 B s l) * ∑ c : Fin 512, y (ix3 B s c) * wmo (ix2 c l) := by
  unfold mrg; pointwise

theorem res_at (x m : FVec Ideal S16x4096x1024 .f32) (wo : FVec Ideal S1024x1024 .bf16) (B : Fin 16) (s : Fin 4096) (j : Fin 1024) :
    res x m wo (ix3 B s j) = x (ix3 B s j) + ∑ l : Fin 1024, m (ix3 B s l) * wo (ix2 l j) := by
  unfold res; pointwise

theorem rmsOf_at (x : FVec Ideal S16x4096x1024 .f32) (g : FVec Ideal S1x1024 .f32) (B : Fin 16) (s : Fin 4096) (j : Fin 1024) :
    rmsOf x g (ix3 B s j) = x (ix3 B s j) * Ideal.rsqrt (Ideal.div (∑ l : Fin 1024, x (ix3 B s l) * x (ix3 B s l)) (Ideal.ofBits .f32 0x44800000#32) + Ideal.ofBits .f32 0x358637BD#32) * g (ix2 0 j) := by
  unfold rmsOf; pointwise

theorem up_at (h : FVec Ideal S16x4096x1024 .f32) (w : FVec Ideal S1024x2816 .bf16) (B : Fin 16) (s : Fin 4096) (f : Fin 2816) :
    up h w (ix3 B s f) = ∑ l : Fin 1024, h (ix3 B s l) * w (ix2 l f) := by
  unfold up; pointwise

theorem hid_at (z u : FVec Ideal S16x4096x2816 .f32) (B : Fin 16) (s : Fin 4096) (f : Fin 2816) :
    hid z u (ix3 B s f) = z (ix3 B s f) * logi (z (ix3 B s f)) * u (ix3 B s f) := by
  unfold hid; pointwise; rfl

theorem down_at (x : FVec Ideal S16x4096x1024 .f32) (a : FVec Ideal S16x4096x2816 .f32) (w : FVec Ideal S2816x1024 .bf16) (B : Fin 16) (s : Fin 4096) (j : Fin 1024) :
    down x a w (ix3 B s j) = x (ix3 B s j) + ∑ f : Fin 2816, a (ix3 B s f) * w (ix2 f j) := by
  unfold down; pointwise

/-- The weights in an assignment of the arguments. -/
def weights (V : Valuation τ sig (Elt Ideal)) : Weights where
  wfo c j := V (Proc.devRef .tc main_arg11) (ix2 c j)
  wmo c j := V (Proc.devRef .tc main_arg12) (ix2 c j)
  wo l j := V (Proc.devRef .tc main_arg13) (ix2 l j)
  g j := V (Proc.devRef .tc main_arg14) (ix2 0 j)
  wg l f := V (Proc.devRef .tc main_arg15) (ix2 l f)
  wu l f := V (Proc.devRef .tc main_arg16) (ix2 l f)
  wd f j := V (Proc.devRef .tc main_arg17) (ix2 f j)

/-- A row's inputs, with its gated answers `a`. -/
def rowOf (V : Valuation τ sig (Elt Ideal)) (a : Fin 4 → Fin 128 → EReal) (B : Fin 16) (s : Fin 4096) : Row where
  x j := V (Proc.devRef .tc main_arg0) (ix3 B s j)
  mga j := V (Proc.devRef .tc main_arg2) (ix3 B s j)
  mgb j := V (Proc.devRef .tc main_arg3) (ix3 B s j)
  ya c := V (Proc.devRef .tc main_arg1) (ix3 B s c)
  y := gated a (fun c => V (Proc.devRef .tc main_arg10) (ix2 0 c)) (fun c => V (Proc.devRef .tc main_arg7) (ix3 B s c))

variable {V : Valuation τ sig (Elt Ideal)} {a : Fin 4 → Fin 128 → EReal} {B : Fin 16} {s : Fin 4096}

section
variable (ha : ∀ H d, V (Proc.devRef .tc main_v17_10) (ix5 ⟨s.val / 128, by omega⟩ B H ⟨s.val % 128, by omega⟩ d) = a H d)
include ha

theorem refY_at (c : Fin 512) : refY V (ix3 B s c) = (rowOf V a B s).y c := by
  unfold refY
  rw [yOf_at, nrm_at]
  simp only [rowsOf_at]
  rw [show (fun d => V (Proc.devRef .tc main_v17_10) (ix5 ⟨s.val / 128, by omega⟩ B ⟨c.val / 128, by omega⟩ ⟨s.val % 128, by omega⟩ d)) = a ⟨c.val / 128, by omega⟩ from funext fun d => ha _ d]
  rfl

theorem refX1_at (j : Fin 1024) : refX1 V (ix3 B s j) = (rowOf V a B s).x1 (weights V) j := by
  unfold refX1
  rw [res_at]
  simp only [mrg_at, refY_at ha]
  rfl

theorem refRms_at (j : Fin 1024) : refRms V (ix3 B s j) = (rowOf V a B s).rms (weights V) j := by
  unfold refRms
  rw [rmsOf_at]
  simp only [refX1_at ha]
  rfl

/-- A row of the reference's result. -/
theorem out_at (j : Fin 1024) : out_main_v78 V (ix3 B s j) = (rowOf V a B s).out (weights V) j := by
  rw [out_steps, down_at]
  simp only [hid_at, up_at, refX1_at ha, refRms_at ha]
  rfl
end

end Cert.ReferenceIdeal.Value

end
-- ==== Proof.Equal.lean ====
/-
  The two programs' results are the same rows: the kernel's result array (from its tracked run) and the reference's, from
  the same arguments.
-/
module

public import proofs.«01_k».proof.Defs
public import proofs.«01_k».proof.Proof.Out
public import proofs.«01_k».proof.Proof.RefOut
public import proofs.«01_k».proof.Proof.RefLoop

@[expose] public section

set_option maxRecDepth 65536

noncomputable section

namespace Cert.Equal

open Idealize.ShloMosaic Idealize.ShloMosaic.TcCoe Idealize.ShloMosaic.StableHlo Idealize.ShloMosaic.Tactic
open Idealize.SL.Sem Cert.Mlstm Cert.Tail

variable (m : (ℓ : Loc Cert.KernelIdeal.nD Cert.KernelIdeal.τ Cert.KernelIdeal.sig) → Buf (Elt Ideal) ℓ)

/-- The numbers that the recurrence's inputs hold. -/
def dataOf (c : Dev Cert.KernelIdeal.nD) : Data where
  q B H g t j := Cert.KernelIdeal.Body.aQ m c (ix3 B ⟨g.val * 128 + t.val, by omega⟩ ⟨H.val * 128 + j.val, by omega⟩)
  k B H g t j := Cert.KernelIdeal.Body.aK m c (ix3 B ⟨H.val * 128 + j.val, by omega⟩ ⟨g.val * 128 + t.val, by omega⟩)
  v B H g t j := Cert.KernelIdeal.Body.aV m c (ix3 B ⟨g.val * 128 + t.val, by omega⟩ ⟨H.val * 128 + j.val, by omega⟩)
  b B H g t := Cert.KernelIdeal.Body.aB m c (ix4 B H g t)
  li B H g t := Cert.KernelIdeal.Body.aLi m c (ix4 B H g t)

/-- The arrays hold them. -/
theorem given_kernel (c : Dev Cert.KernelIdeal.nD) : Cert.KernelIdeal.Body.Given m c (dataOf m c) :=
  ⟨fun _ _ _ _ _ => rfl, fun _ _ _ _ _ => rfl, fun _ _ _ _ _ => rfl, fun _ _ _ _ => rfl, fun _ _ _ _ => rfl⟩

variable (m' : (ℓ : Loc Cert.ReferenceIdeal.nD Cert.ReferenceIdeal.τ Cert.ReferenceIdeal.sig) → Buf (Elt Ideal) ℓ) (c : Dev Cert.KernelIdeal.nD) (D : Data)

/-- The two programs' arguments agree. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable {m m' c D} (ha : Agree m m' c)
include ha

theorem given_reference (h : Cert.KernelIdeal.Body.Given m c D) : Cert.ReferenceIdeal.Value.Given m' c D := by
  unfold Cert.ReferenceIdeal.Value.Given
  obtain ⟨h0, h1, h2, h3, h4, h5, h6, h7, h8, h9, h10, h11, h12, h13, h14, h15, h16, h17⟩ := ha
  rw [h4, h5, h6, h8, h9]
  exact h

theorem weights_eq : Cert.ReferenceIdeal.Value.weights (Cert.ReferenceIdeal.Value.STEP^[32] (entryContents Cert.ReferenceIdeal.Value.preI m' c)) = Cert.KernelIdeal.Track.weightsAt m c := by
  obtain ⟨h0, h1, h2, h3, h4, h5, h6, h7, h8, h9, h10, h11, h12, h13, h14, h15, h16, h17⟩ := ha
  unfold Cert.ReferenceIdeal.Value.weights
  rw [Cert.ReferenceIdeal.Value.iter_main_arg11, Cert.ReferenceIdeal.Value.iter_main_arg12, Cert.ReferenceIdeal.Value.iter_main_arg13, Cert.ReferenceIdeal.Value.iter_main_arg14, Cert.ReferenceIdeal.Value.iter_main_arg15, Cert.ReferenceIdeal.Value.iter_main_arg16, Cert.ReferenceIdeal.Value.iter_main_arg17]
  rw [h11, h12, h13, h14, h15, h16, h17]
  rfl

theorem row_eq (B : Fin 16) (s : Fin 4096) :
    Cert.ReferenceIdeal.Value.rowOf (Cert.ReferenceIdeal.Value.STEP^[32] (entryContents Cert.ReferenceIdeal.Value.preI m' c)) (fun H d => (D.answer B H ⟨s.val / 128, by omega⟩ ⟨s.val % 128, by omega⟩ d : EReal)) B s = Cert.KernelIdeal.Track.rowAt m c D B s := by
  obtain ⟨h0, h1, h2, h3, h4, h5, h6, h7, h8, h9, h10, h11, h12, h13, h14, h15, h16, h17⟩ := ha
  unfold Cert.ReferenceIdeal.Value.rowOf
  rw [Cert.ReferenceIdeal.Value.iter_main_arg0, Cert.ReferenceIdeal.Value.iter_main_arg1, Cert.ReferenceIdeal.Value.iter_main_arg2, Cert.ReferenceIdeal.Value.iter_main_arg3, Cert.ReferenceIdeal.Value.iter_main_arg7, Cert.ReferenceIdeal.Value.iter_main_arg10]
  rw [h0, h1, h2, h3, h7, h10]
  rfl

theorem value_at (h : Cert.KernelIdeal.Body.Given m c D) (B : Fin 16) (s : Fin 4096) (j : Fin 1024) :
    Cert.ReferenceIdeal.Value.out_main_v78 (Cert.ReferenceIdeal.Value.STEP^[32] (entryContents Cert.ReferenceIdeal.Value.preI m' c)) (ix3 B s j) = Cert.KernelIdeal.Track.result m c D (ix3 B s j) := by
  have e := Cert.ReferenceIdeal.Value.out_at (V := (Cert.ReferenceIdeal.Value.STEP^[32] (entryContents Cert.ReferenceIdeal.Value.preI m' c))) (B := B) (s := s)
    (a := fun H d => (D.answer B H ⟨s.val / 128, by omega⟩ ⟨s.val % 128, by omega⟩ d : EReal))
    (fun H d => Cert.ReferenceIdeal.Value.answers m' c (given_reference ha h) _ _ H _ d) j
  rw [row_eq ha, weights_eq ha] at e
  exact e

theorem value_eq (h : Cert.KernelIdeal.Body.Given m c D) : Cert.ReferenceIdeal.Value.out_main_v78 (Cert.ReferenceIdeal.Value.STEP^[32] (entryContents Cert.ReferenceIdeal.Value.preI m' c)) = Cert.KernelIdeal.Track.result m c D := by
  funext u
  have hu : u = ix3 (u 0 : Fin 16) (u 1 : Fin 4096) (u 2 : Fin 1024) := eq_ix3 u
  exact (congrArg (Cert.ReferenceIdeal.Value.out_main_v78 (Cert.ReferenceIdeal.Value.STEP^[32] (entryContents Cert.ReferenceIdeal.Value.preI m' c))) hu).trans ((value_at ha h (u 0) (u 1) (u 2)).trans (congrArg (Cert.KernelIdeal.Track.result m c D) hu.symm))

end Cert.Equal

end
-- ==== Proof.Projections.lean ====
/-
  The projection call: its bit-exact program and its idealization run, leave their arguments as they were and end with every
  semaphore at zero; and the idealization's named constants.
-/
module

public import proofs.«01_k».proof.Defs
public import proofs.«01_k».proof.Proof.Gen.Projections
public import proofs.«01_k».proof.Proof.Gen.Projections.Skeleton
public import proofs.«01_k».proof.Proof.Gen.Projections.Launch
public import proofs.«01_k».proof.Proof.Gen.Projections.Points
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame

@[expose] public section

noncomputable section

namespace Cert.Projected

open Idealize.ShloMosaic Idealize.SL.Sem

theorem frame : Cert.quiescent_Projections := fun m g _ => Cert.Projections.Gen.frame m g

theorem frame_ideal : Cert.quiescent_ProjectionsIdeal := fun m g _ => Cert.ProjectionsIdeal.Gen.frame m g

/-- The two named constants stand for the numbers they are rounded from. -/
theorem preserves : Cert.preserves_Projections_ProjectionsIdeal :=
  ⟨IdealRules.named_const.statement Cert.ProjectionsIdeal.κ "minus_log2e" .f32 0xBFB8AA3B#32 ((-((Real.log 2)⁻¹) : ℝ) : EReal) rfl,
    IdealRules.named_const.statement Cert.ProjectionsIdeal.κ "log2e" .f32 0x3FB8AA3B#32 (((Real.log 2)⁻¹ : ℝ) : EReal) rfl⟩

end Cert.Projected

end
-- ==== Proof.lean ====
/-
  The claims about the tail call and the projection call, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealLoose
public import proofs.«01_k».proof.Proof.Equal
public import proofs.«01_k».proof.Proof.Projections
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The three named constants stand for the numbers they are rounded from. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "minus_log2e" .f32 0xBFB8AA3B#32 ((-((Real.log 2)⁻¹) : ℝ) : EReal) rfl⟩

set_option maxHeartbeats 4000000 in
/-- The two programs, over the extended reals, end with the same result. -/
theorem algebraic : Cert.algebraic_KernelIdeal_ReferenceIdeal := fun m g m' g' _ hin =>
  ⟨fun c => Cert.KernelIdeal.Track.result m c (Cert.Equal.dataOf m c),
    (θ_run Cert.KernelIdeal.defs _ _).mono (fun r h c => ⟨((h.1 c).1 22).trans (Cert.KernelIdeal.Track.final m c (Cert.Equal.dataOf m)),
        ((h.1 c).1 0).trans (((Cert.KernelIdeal.Track.dats m (Cert.Equal.dataOf m) 0 c).arrAt_in 0 rfl _).trans ((Cert.KernelIdeal.Track.A_eq m (Cert.Equal.dataOf m) c 0).trans (Cert.KernelIdeal.Gen.V_main_arg0 m c))),
        ((h.1 c).1 1).trans (((Cert.KernelIdeal.Track.dats m (Cert.Equal.dataOf m) 0 c).arrAt_in 1 rfl _).trans ((Cert.KernelIdeal.Track.A_eq m (Cert.Equal.dataOf m) c 1).trans (Cert.KernelIdeal.Gen.V_main_arg1 m c))),
        ((h.1 c).1 2).trans (((Cert.KernelIdeal.Track.dats m (Cert.Equal.dataOf m) 0 c).arrAt_in 2 rfl _).trans ((Cert.KernelIdeal.Track.A_eq m (Cert.Equal.dataOf m) c 2).trans (Cert.KernelIdeal.Gen.V_main_arg2 m c))),
        ((h.1 c).1 3).trans (((Cert.KernelIdeal.Track.dats m (Cert.Equal.dataOf m) 0 c).arrAt_in 3 rfl _).trans ((Cert.KernelIdeal.Track.A_eq m (Cert.Equal.dataOf m) c 3).trans (Cert.KernelIdeal.Gen.V_main_arg3 m c))),
        ((h.1 c).1 8).trans (((Cert.KernelIdeal.Track.dats m (Cert.Equal.dataOf m) 0 c).arrAt_in 8 rfl _).trans ((Cert.KernelIdeal.Track.A_eq m (Cert.Equal.dataOf m) c 8).trans (Cert.KernelIdeal.Gen.V_main_arg4 m c))),
        ((h.1 c).1 9).trans (((Cert.KernelIdeal.Track.dats m (Cert.Equal.dataOf m) 0 c).arrAt_in 9 rfl _).trans ((Cert.KernelIdeal.Track.A_eq m (Cert.Equal.dataOf m) c 9).trans (Cert.KernelIdeal.Gen.V_main_arg5 m c))),
        ((h.1 c).1 10).trans (((Cert.KernelIdeal.Track.dats m (Cert.Equal.dataOf m) 0 c).arrAt_in 10 rfl _).trans ((Cert.KernelIdeal.Track.A_eq m (Cert.Equal.dataOf m) c 10).trans (Cert.KernelIdeal.Gen.V_main_arg6 m c))),
        ((h.1 c).1 11).trans (((Cert.KernelIdeal.Track.dats m (Cert.Equal.dataOf m) 0 c).arrAt_in 11 rfl _).trans ((Cert.KernelIdeal.Track.A_eq m (Cert.Equal.dataOf m) c 11).trans (Cert.KernelIdeal.Gen.V_main_arg7 m c))),
        ((h.1 c).1 12).trans (((Cert.KernelIdeal.Track.dats m (Cert.Equal.dataOf m) 0 c).arrAt_in 12 rfl _).trans ((Cert.KernelIdeal.Track.A_eq m (Cert.Equal.dataOf m) c 12).trans (Cert.KernelIdeal.Gen.V_main_arg8 m c))),
        ((h.1 c).1 13).trans (((Cert.KernelIdeal.Track.dats m (Cert.Equal.dataOf m) 0 c).arrAt_in 13 rfl _).trans ((Cert.KernelIdeal.Track.A_eq m (Cert.Equal.dataOf m) c 13).trans (Cert.KernelIdeal.Gen.V_main_arg9 m c))),
        ((h.1 c).1 14).trans (((Cert.KernelIdeal.Track.dats m (Cert.Equal.dataOf m) 0 c).arrAt_in 14 rfl _).trans ((Cert.KernelIdeal.Track.A_eq m (Cert.Equal.dataOf m) c 14).trans (Cert.KernelIdeal.Gen.V_main_arg10 m c))),
        ((h.1 c).1 15).trans (((Cert.KernelIdeal.Track.dats m (Cert.Equal.dataOf m) 0 c).arrAt_in 15 rfl _).trans ((Cert.KernelIdeal.Track.A_eq m (Cert.Equal.dataOf m) c 15).trans (Cert.KernelIdeal.Gen.V_main_arg11 m c))),
        ((h.1 c).1 16).trans (((Cert.KernelIdeal.Track.dats m (Cert.Equal.dataOf m) 0 c).arrAt_in 16 rfl _).trans ((Cert.KernelIdeal.Track.A_eq m (Cert.Equal.dataOf m) c 16).trans (Cert.KernelIdeal.Gen.V_main_arg12 m c))),
        ((h.1 c).1 17).trans (((Cert.KernelIdeal.Track.dats m (Cert.Equal.dataOf m) 0 c).arrAt_in 17 rfl _).trans ((Cert.KernelIdeal.Track.A_eq m (Cert.Equal.dataOf m) c 17).trans (Cert.KernelIdeal.Gen.V_main_arg13 m c))),
        ((h.1 c).1 18).trans (((Cert.KernelIdeal.Track.dats m (Cert.Equal.dataOf m) 0 c).arrAt_in 18 rfl _).trans ((Cert.KernelIdeal.Track.A_eq m (Cert.Equal.dataOf m) c 18).trans (Cert.KernelIdeal.Gen.V_main_arg14 m c))),
        ((h.1 c).1 19).trans (((Cert.KernelIdeal.Track.dats m (Cert.Equal.dataOf m) 0 c).arrAt_in 19 rfl _).trans ((Cert.KernelIdeal.Track.A_eq m (Cert.Equal.dataOf m) c 19).trans (Cert.KernelIdeal.Gen.V_main_arg15 m c))),
        ((h.1 c).1 20).trans (((Cert.KernelIdeal.Track.dats m (Cert.Equal.dataOf m) 0 c).arrAt_in 20 rfl _).trans ((Cert.KernelIdeal.Track.A_eq m (Cert.Equal.dataOf m) c 20).trans (Cert.KernelIdeal.Gen.V_main_arg16 m c))),
        ((h.1 c).1 21).trans (((Cert.KernelIdeal.Track.dats m (Cert.Equal.dataOf m) 0 c).arrAt_in 21 rfl _).trans ((Cert.KernelIdeal.Track.A_eq m (Cert.Equal.dataOf m) c 21).trans (Cert.KernelIdeal.Gen.V_main_arg17 m c)))⟩)
      (Cert.KernelIdeal.Track.run_main m (Cert.Equal.dataOf m) g (Cert.Equal.given_kernel m)),
    (θ_run Cert.ReferenceIdeal.defs _ _).mono (fun r h c => ⟨(h c).1.trans (Cert.Equal.value_eq (hin c) (Cert.Equal.given_kernel m c)), (h c).2⟩)
      (Cert.ReferenceIdeal.Value.run (F := Ideal) m' g')⟩

theorem claim : Cert.Claim := ⟨Cert.Kernel.Gen.facts, Cert.KernelIdeal.Gen.facts, Cert.Projections.Gen.facts, Cert.ProjectionsIdeal.Gen.facts,
  Cert.ReferenceIdeal.Gen.facts,
  fun m g _ => Cert.Kernel.Body.frame m g, fun m g _ => Cert.KernelIdeal.Body.frame m g, Cert.Projected.frame, Cert.Projected.frame_ideal,
  frame_r, preserves, Cert.Projected.preserves, algebraic⟩

end Cert.Proof

end
